-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v11_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v287) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_tables_in_range.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : IVec S544 32) (main_arg1 : IVec S1 32) (main_arg2 : FVec F S1114112x128 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S2048x128 : Shape := ⟨2, ![2048, 128]⟩
abbrev S1x1024x1024 : Shape := ⟨3, ![1, 1024, 1024]⟩
abbrev S1x1x1024 : Shape := ⟨3, ![1, 1, 1024]⟩
abbrev S256x128 : Shape := ⟨2, ![256, 128]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 16
  | .vmem => 16
  | .smem => 2
  | _ => 0

abbrev bufTy : (tb : Table) → Fin (tcTables nBuf tb) → BufTy
  | .hbm, ⟨0, _⟩ => ⟨S1114112x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024x1024, .bf16⟩
  | .hbm, ⟨7, _⟩ => ⟨S32x1024x1024, .f32⟩
  | .hbm, ⟨8, _⟩ => ⟨S32x1024x1024, .bf16⟩
  | .hbm, ⟨9, _⟩ => ⟨S32x1024, .f32⟩
  | .hbm, ⟨10, _⟩ => ⟨S32x1x1024, .f32⟩
  | .hbm, ⟨11, _⟩ => ⟨S32x1024, .f32⟩
  | .hbm, ⟨12, _⟩ => ⟨S32x1x1024, .f32⟩
  | .hbm, ⟨13, _⟩ => ⟨S32x1024x1024, .bf16⟩
  | .hbm, ⟨14, _⟩ => ⟨S32x1x1024, .f32⟩
  | .hbm, ⟨15, _⟩ => ⟨S1114112x128, .f32⟩
  | .local _ .vmem, ⟨0, _⟩ => ⟨S2048x128, .f32⟩
  | .local _ .vmem, ⟨1, _⟩ => ⟨S2048x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S2048x128, .f32⟩
  | .local _ .vmem, ⟨15, _⟩ => ⟨S2048x128, .f32⟩
  | .local _ .smem, ⟨0, _⟩ => ⟨S544, .i32⟩
  | .local _ .smem, ⟨1, _⟩ => ⟨S1, .i32⟩
  | _, _ => ⟨S1114112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S544 : Shape := ⟨1, ![544]⟩
abbrev S1 : Shape := ⟨1, ![1]⟩
abbrev S1114112x128 : Shape := ⟨2, ![1114112, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x2048 : Shape := ⟨2, ![544, 2048]⟩
abbrev S544x1024x1024 : Shape := ⟨3, ![544, 1024, 1024]⟩
abbrev S544x1024 : Shape := ⟨2, ![544, 1024]⟩
abbrev S544x256x2048 : Shape := ⟨3, ![544, 256, 2048]⟩
abbrev S544x1x2048 : Shape := ⟨3, ![544, 1, 2048]⟩
abbrev S544x1x1024 : Shape := ⟨3, ![544, 1, 1024]⟩
abbrev S544x1x1 : Shape := ⟨3, ![544, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S1114112x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S_, .i32⟩
  | .hbm, ⟨18, _⟩ => ⟨S544, .i32⟩
  | .hbm, ⟨19, _⟩ => ⟨S544, .i1⟩
  | .hbm, ⟨20, _⟩ => ⟨S_, .i32⟩
  | .hbm, ⟨21, _⟩ => ⟨S544, .i32⟩
  | .hbm, ⟨22, _⟩ => ⟨S544, .i32⟩
  | .hbm, ⟨23, _⟩ => ⟨S544, .i32⟩
  | .hbm, ⟨24, _⟩ => ⟨S544x1, .i32⟩
  | .hbm, ⟨25, _⟩ => ⟨S544x2048, .f32⟩
  | .hbm, ⟨26, _⟩ => ⟨S_, .i32⟩
  | .hbm, ⟨27, _⟩ => ⟨S544, .i32⟩
  | .hbm, ⟨28, _⟩ => ⟨S544, .i1⟩
  | .hbm, ⟨29, _⟩ => ⟨S_, .i32⟩
  | .hbm, ⟨30, _⟩ => ⟨S544, .i32⟩
  | .hbm, ⟨31, _⟩ => ⟨S544, .i32⟩
  | .hbm, ⟨32, _⟩ => ⟨S544, .i32⟩
  | .hbm, ⟨33, _⟩ => ⟨S544x1, .i32⟩
  | .hbm, ⟨34, _⟩ => ⟨S544x1024x1024, .f32⟩
  | .hbm, ⟨35, _⟩ => ⟨S_, .i32⟩
  | .hbm, ⟨36, _⟩ => ⟨S544, .i32⟩
  | .hbm, ⟨37, _⟩ => ⟨S544, .i1⟩
  | .hbm, ⟨38, _⟩ => ⟨S_, .i32⟩
  | .hbm, ⟨39, _⟩ => ⟨S544, .i32⟩
  | .hbm, ⟨40, _⟩ => ⟨S544, .i32⟩
  | .hbm, ⟨41, _⟩ => ⟨S544, .i32⟩
  | .hbm, ⟨42, _⟩ => ⟨S544x1, .i32⟩
  | .hbm, ⟨43, _⟩ => ⟨S544x1024, .f32⟩
  | .hbm, ⟨44, _⟩ => ⟨S544x256x2048, .f32⟩
  | .hbm, ⟨45, _⟩ => ⟨S544x1x2048, .f32⟩
  | .hbm, ⟨46, _⟩ => ⟨S544x256x2048, .f32⟩
  | .hbm, ⟨47, _⟩ => ⟨S544x256x2048, .f32⟩
  | .hbm, ⟨48, _⟩ => ⟨S544x256x1024, .f32⟩
  | .hbm, ⟨49, _⟩ => ⟨S_, .f32⟩
  | .hbm, ⟨50, _⟩ => ⟨S544x256x1024, .f32⟩
  | .hbm, ⟨51, _⟩ => ⟨S544x256x1024, .f32⟩
  | .hbm, ⟨52, _⟩ => ⟨S544x256x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S_, .f32⟩
  | .hbm, ⟨59, _⟩ => ⟨S544x256x1024, .f32⟩
  | .hbm, ⟨60, _⟩ => ⟨S544x256x1024, .f32⟩
  | .hbm, ⟨61, _⟩ => ⟨S_, .f32⟩
  | .hbm, ⟨62, _⟩ => ⟨S544x256x1024, .f32⟩
  | .hbm, ⟨63, _⟩ => ⟨S544x256x1024, .f32⟩
  | .hbm, ⟨64, _⟩ => ⟨S544x256x1024, .f32⟩
  | .hbm, ⟨65, _⟩ => ⟨S544x256x1024, .f32⟩
  | .hbm, ⟨66, _⟩ => ⟨S_, .f32⟩
  | .hbm, ⟨67, _⟩ => ⟨S544x256x1024, .f32⟩
  | .hbm, ⟨68, _⟩ => ⟨S544x256x1024, .f32⟩
  | .hbm, ⟨69, _⟩ => ⟨S_, .f32⟩
  | .hbm, ⟨70, _⟩ => ⟨S544x256x1024, .f32⟩
  | .hbm, ⟨71, _⟩ => ⟨S544x256x1024, .f32⟩
  | .hbm, ⟨72, _⟩ => ⟨S544x256x1024, .f32⟩
  | .hbm, ⟨73, _⟩ => ⟨S_, .f32⟩
  | .hbm, ⟨74, _⟩ => ⟨S544x256x1024, .f32⟩
  | .hbm, ⟨75, _⟩ => ⟨S544x256x1024, .f32⟩
  | .hbm, ⟨76, _⟩ => ⟨S544x256x1024, .f32⟩
  | .hbm, ⟨77, _⟩ => ⟨S544x256x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S544, .i32⟩
  | .hbm, ⟨82, _⟩ => ⟨S_, .i32⟩
  | .hbm, ⟨83, _⟩ => ⟨S544, .i32⟩
  | .hbm, ⟨84, _⟩ => ⟨S544, .i1⟩
  | .hbm, ⟨85, _⟩ => ⟨S544x1x1, .i1⟩
  | .hbm, ⟨86, _⟩ => ⟨S544x256x1024, .i1⟩
  | .hbm, ⟨87, _⟩ => ⟨S544x256x1024, .f32⟩
  | .hbm, ⟨88, _⟩ => ⟨S1114112x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S32x1024 : Shape := ⟨2, ![32, 1024]⟩
abbrev S32x1 : Shape := ⟨2, ![32, 1]⟩
abbrev S262144x128 : Shape := ⟨2, ![262144, 128]⟩
abbrev S8x32768 : Shape := ⟨2, ![8, 32768]⟩
abbrev S4x32768 : Shape := ⟨2, ![4, 32768]⟩
abbrev S32x128 : Shape := ⟨2, ![32, 128]⟩
abbrev S1x512x1024 : Shape := ⟨3, ![1, 512, 1024]⟩
abbrev S4096x128 : Shape := ⟨2, ![4096, 128]⟩
abbrev S8x512 : Shape := ⟨2, ![8, 512]⟩
abbrev S4x512 : Shape := ⟨2, ![4, 512]⟩
abbrev S520x1024 : Shape := ⟨2, ![520, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S32x512 : Shape := ⟨2, ![32, 512]⟩
abbrev S1x512 : Shape := ⟨2, ![1, 512]⟩
abbrev S512x512 : Shape := ⟨2, ![512, 512]⟩

abbrev nBuf : Space → Nat
  | .hbm => 18
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S1024x3072, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32x1024, .f32⟩
  | .hbm, ⟨13, _⟩ => ⟨S32x1, .f32⟩
  | .hbm, ⟨14, _⟩ => ⟨S262144x128, .f32⟩
  | .hbm, ⟨15, _⟩ => ⟨S8x32768, .i32⟩
  | .hbm, ⟨16, _⟩ => ⟨S4x32768, .f32⟩
  | .hbm, ⟨17, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S3x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S32x1024, .f32⟩
  | .local _ .vmem, ⟨8, _⟩ => ⟨S32x1, .f32⟩
  | .local _ .vmem, ⟨9, _⟩ => ⟨S4096x128, .f32⟩
  | .local _ .vmem, ⟨10, _⟩ => ⟨S4096x128, .f32⟩
  | .local _ .vmem, ⟨11, _⟩ => ⟨S8x512, .i32⟩
  | .local _ .vmem, ⟨12, _⟩ => ⟨S8x512, .i32⟩
  | .local _ .vmem, ⟨13, _⟩ => ⟨S4x512, .f32⟩
  | .local _ .vmem, ⟨14, _⟩ => ⟨S4x512, .f32⟩
  | .local _ .vmem, ⟨15, _⟩ => ⟨S32x128, .f32⟩
  | .local _ .vmem, ⟨16, _⟩ => ⟨S520x1024, .f32⟩
  | .local _ .vmem, ⟨17, _⟩ => ⟨S32x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference2Ideal.lean ====
abbrev S8x4096x1024 : Shape := ⟨3, ![8, 4096, 1024]⟩
abbrev S1024x3072 : Shape := ⟨2, ![1024, 3072]⟩
abbrev S3x1024 : Shape := ⟨2, ![3, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x4096x3072 : Shape := ⟨3, ![8, 4096, 3072]⟩
abbrev S_ : Shape := ⟨0, ![]⟩
abbrev S8x4098x1024 : Shape := ⟨3, ![8, 4098, 1024]⟩
abbrev S1x1024 : Shape := ⟨2, ![1, 1024]⟩
abbrev S1x1x1024 : Shape := ⟨3, ![1, 1, 1024]⟩
abbrev S8x4096 : Shape := ⟨2, ![8, 4096]⟩
abbrev S8x4096x1 : Shape := ⟨3, ![8, 4096, 1]⟩
abbrev S262144x128 : Shape := ⟨2, ![262144, 128]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S8x4096x3072, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .i32⟩
  | .hbm, ⟨14, _⟩ => ⟨S_, .f32⟩
  | .hbm, ⟨15, _⟩ => ⟨S8x4098x1024, .f32⟩
  | .hbm, ⟨16, _⟩ => ⟨S1x1024, .f32⟩
  | .hbm, ⟨17, _⟩ => ⟨S1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S1x1024, .f32⟩
  | .hbm, ⟨26, _⟩ => ⟨S1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1x1024, .f32⟩
  | .hbm, ⟨33, _⟩ => ⟨S1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S262144x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S1x2048 : Shape := ⟨2, ![1, 2048]⟩
abbrev S1x1024 : Shape := ⟨2, ![1, 1024]⟩
abbrev S32x1024 : Shape := ⟨2, ![32, 1024]⟩
abbrev S32x1 : Shape := ⟨2, ![32, 1]⟩
abbrev S262144x128 : Shape := ⟨2, ![262144, 128]⟩
abbrev S8x32768 : Shape := ⟨2, ![8, 32768]⟩
abbrev S4x32768 : Shape := ⟨2, ![4, 32768]⟩
abbrev S32x128 : Shape := ⟨2, ![32, 128]⟩
abbrev S1x512x1024 : Shape := ⟨3, ![1, 512, 1024]⟩
abbrev S4096x128 : Shape := ⟨2, ![4096, 128]⟩
abbrev S8x512 : Shape := ⟨2, ![8, 512]⟩
abbrev S4x512 : Shape := ⟨2, ![4, 512]⟩
abbrev S544x1024 : Shape := ⟨2, ![544, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S32x512 : Shape := ⟨2, ![32, 512]⟩
abbrev S1x512 : Shape := ⟨2, ![1, 512]⟩
abbrev S512x512 : Shape := ⟨2, ![512, 512]⟩

abbrev nBuf : Space → Nat
  | .hbm => 28
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024x2048, .f32⟩
  | .hbm, ⟨2, _⟩ => ⟨S2048, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S1024x2048, .bf16⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32x1024, .f32⟩
  | .hbm, ⟨23, _⟩ => ⟨S32x1, .f32⟩
  | .hbm, ⟨24, _⟩ => ⟨S262144x128, .f32⟩
  | .hbm, ⟨25, _⟩ => ⟨S8x32768, .i32⟩
  | .hbm, ⟨26, _⟩ => ⟨S4x32768, .f32⟩
  | .hbm, ⟨27, _⟩ => ⟨S32x128, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1x2048, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S32x1024, .f32⟩
  | .local _ .vmem, ⟨13, _⟩ => ⟨S32x1, .f32⟩
  | .local _ .vmem, ⟨14, _⟩ => ⟨S4096x128, .f32⟩
  | .local _ .vmem, ⟨15, _⟩ => ⟨S4096x128, .f32⟩
  | .local _ .vmem, ⟨16, _⟩ => ⟨S8x512, .i32⟩
  | .local _ .vmem, ⟨17, _⟩ => ⟨S8x512, .i32⟩
  | .local _ .vmem, ⟨18, _⟩ => ⟨S4x512, .f32⟩
  | .local _ .vmem, ⟨19, _⟩ => ⟨S4x512, .f32⟩
  | .local _ .vmem, ⟨20, _⟩ => ⟨S32x128, .f32⟩
  | .local _ .vmem, ⟨21, _⟩ => ⟨S544x1024, .f32⟩
  | .local _ .vmem, ⟨22, _⟩ => ⟨S32x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference3Ideal.lean ====
abbrev S8x4096x1024 : Shape := ⟨3, ![8, 4096, 1024]⟩
abbrev S1024x2048 : Shape := ⟨2, ![1024, 2048]⟩
abbrev S2048 : Shape := ⟨1, ![2048]⟩
abbrev S31x1024 : Shape := ⟨2, ![31, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S8x4096x2048 : Shape := ⟨3, ![8, 4096, 2048]⟩
abbrev S1x1x2048 : Shape := ⟨3, ![1, 1, 2048]⟩
abbrev S_ : Shape := ⟨0, ![]⟩
abbrev S8x4126x1024 : Shape := ⟨3, ![8, 4126, 1024]⟩
abbrev S1x1024 : Shape := ⟨2, ![1, 1024]⟩
abbrev S1x1x1024 : Shape := ⟨3, ![1, 1, 1024]⟩
abbrev S8x4096 : Shape := ⟨2, ![8, 4096]⟩
abbrev S8x4096x1 : Shape := ⟨3, ![8, 4096, 1]⟩
abbrev S262144x128 : Shape := ⟨2, ![262144, 128]⟩

abbrev nBuf : Space → Nat
  | .hbm => 325
  | .vmem => 0
  | .smem => 0
  | _ => 0

abbrev hbmTy0_0 (i : Nat) : BufTy := match i % 128 with
  | 0 => ⟨S8x4096x1024, .f32⟩
  | 1 => ⟨S1024x2048, .f32⟩
  | 2 => ⟨S2048, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x32, .f32⟩
  | 12 => ⟨S32, .f32⟩
  | 13 => ⟨S8x4096x2048, .f32⟩
  | 14 => ⟨S1x1x2048, .f32⟩
  | 15 => ⟨S8x4096x2048, .f32⟩
  | 16 => ⟨S8x4096x2048, .f32⟩
  | 17 => ⟨S8x4096x1024, .f32⟩
  | 18 => ⟨S8x4096x1024, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S8x4096x1024, .f32⟩
  | 28 => ⟨S_, .i32⟩
  | 29 => ⟨S_, .f32⟩
  | 30 => ⟨S8x4126x1024, .f32⟩
  | 31 => ⟨S1x1024, .f32⟩
  | 32 => ⟨S1024, .f32⟩
  | 33 => ⟨S8x4096x1024, .f32⟩
  | 34 => ⟨S1x1x1024, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S1x1024, .f32⟩
  | 41 => ⟨S1024, .f32⟩
  | 42 => ⟨S8x4096x1024, .f32⟩
  | 43 => ⟨S1x1x1024, .f32⟩
  | 44 => ⟨S8x4096x1024, .f32⟩
  | 45 => ⟨S8x4096x1024, .f32⟩
  | 46 => ⟨S8x4096x1024, .f32⟩
  | 47 => ⟨S1x1024, .f32⟩
  | 48 => ⟨S1024, .f32⟩
  | 49 => ⟨S8x4096x1024, .f32⟩
  | 50 => ⟨S1x1x1024, .f32⟩
  | 51 => ⟨S8x4096x1024, .f32⟩
  | 52 => ⟨S8x4096x1024, .f32⟩
  | 53 => ⟨S8x4096x1024, .f32⟩
  | 54 => ⟨S1x1024, .f32⟩
  | 55 => ⟨S1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S1x1024, .f32⟩
  | 62 => ⟨S1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S1x1024, .f32⟩
  | 69 => ⟨S1024, .f32⟩
  | 70 => ⟨S8x4096x1024, .f32⟩
  | 71 => ⟨S1x1x1024, .f32⟩
  | 72 => ⟨S8x4096x1024, .f32⟩
  | 73 => ⟨S8x4096x1024, .f32⟩
  | 74 => ⟨S8x4096x1024, .f32⟩
  | 75 => ⟨S1x1024, .f32⟩
  | 76 => ⟨S1024, .f32⟩
  | 77 => ⟨S8x4096x1024, .f32⟩
  | 78 => ⟨S1x1x1024, .f32⟩
  | 79 => ⟨S8x4096x1024, .f32⟩
  | 80 => ⟨S8x4096x1024, .f32⟩
  | 81 => ⟨S8x4096x1024, .f32⟩
  | 82 => ⟨S1x1024, .f32⟩
  | 83 => ⟨S1024, .f32⟩
  | 84 => ⟨S8x4096x1024, .f32⟩
  | 85 => ⟨S1x1x1024, .f32⟩
  | 86 => ⟨S8x4096x1024, .f32⟩
  | 87 => ⟨S8x4096x1024, .f32⟩
  | 88 => ⟨S8x4096x1024, .f32⟩
  | 89 => ⟨S1x1024, .f32⟩
  | 90 => ⟨S1024, .f32⟩
  | 91 => ⟨S8x4096x1024, .f32⟩
  | 92 => ⟨S1x1x1024, .f32⟩
  | 93 => ⟨S8x4096x1024, .f32⟩
  | 94 => ⟨S8x4096x1024, .f32⟩
  | 95 => ⟨S8x4096x1024, .f32⟩
  | 96 => ⟨S1x1024, .f32⟩
  | 97 => ⟨S1024, .f32⟩
  | 98 => ⟨S8x4096x1024, .f32⟩
  | 99 => ⟨S1x1x1024, .f32⟩
  | 100 => ⟨S8x4096x1024, .f32⟩
  | 101 => ⟨S8x4096x1024, .f32⟩
  | 102 => ⟨S8x4096x1024, .f32⟩
  | 103 => ⟨S1x1024, .f32⟩
  | 104 => ⟨S1024, .f32⟩
  | 105 => ⟨S8x4096x1024, .f32⟩
  | 106 => ⟨S1x1x1024, .f32⟩
  | 107 => ⟨S8x4096x1024, .f32⟩
  | 108 => ⟨S8x4096x1024, .f32⟩
  | 109 => ⟨S8x4096x1024, .f32⟩
  | 110 => ⟨S1x1024, .f32⟩
  | 111 => ⟨S1024, .f32⟩
  | 112 => ⟨S8x4096x1024, .f32⟩
  | 113 => ⟨S1x1x1024, .f32⟩
  | 114 => ⟨S8x4096x1024, .f32⟩
  | 115 => ⟨S8x4096x1024, .f32⟩
  | 116 => ⟨S8x4096x1024, .f32⟩
  | 117 => ⟨S1x1024, .f32⟩
  | 118 => ⟨S1024, .f32⟩
  | 119 => ⟨S8x4096x1024, .f32⟩
  | 120 => ⟨S1x1x1024, .f32⟩
  | 121 => ⟨S8x4096x1024, .f32⟩
  | 122 => ⟨S8x4096x1024, .f32⟩
  | 123 => ⟨S8x4096x1024, .f32⟩
  | 124 => ⟨S1x1024, .f32⟩
  | 125 => ⟨S1024, .f32⟩
  | 126 => ⟨S8x4096x1024, .f32⟩
  | 127 => ⟨S1x1x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S1x1024, .f32⟩
  | 4 => ⟨S1024, .f32⟩
  | 5 => ⟨S8x4096x1024, .f32⟩
  | 6 => ⟨S1x1x1024, .f32⟩
  | 7 => ⟨S8x4096x1024, .f32⟩
  | 8 => ⟨S8x4096x1024, .f32⟩
  | 9 => ⟨S8x4096x1024, .f32⟩
  | 10 => ⟨S1x1024, .f32⟩
  | 11 => ⟨S1024, .f32⟩
  | 12 => ⟨S8x4096x1024, .f32⟩
  | 13 => ⟨S1x1x1024, .f32⟩
  | 14 => ⟨S8x4096x1024, .f32⟩
  | 15 => ⟨S8x4096x1024, .f32⟩
  | 16 => ⟨S8x4096x1024, .f32⟩
  | 17 => ⟨S1x1024, .f32⟩
  | 18 => ⟨S1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x1024, .f32⟩
  | 24 => ⟨S1x1024, .f32⟩
  | 25 => ⟨S1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x1024, .f32⟩
  | 31 => ⟨S1x1024, .f32⟩
  | 32 => ⟨S1024, .f32⟩
  | 33 => ⟨S8x4096x1024, .f32⟩
  | 34 => ⟨S1x1x1024, .f32⟩
  | 35 => ⟨S8x4096x1024, .f32⟩
  | 36 => ⟨S8x4096x1024, .f32⟩
  | 37 => ⟨S8x4096x1024, .f32⟩
  | 38 => ⟨S1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x1024, .f32⟩
  | 45 => ⟨S1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1024, .f32⟩
  | 53 => ⟨S1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x1024, .f32⟩
  | 66 => ⟨S1x1024, .f32⟩
  | 67 => ⟨S1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S1x1024, .f32⟩
  | 74 => ⟨S1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S1x1024, .f32⟩
  | 88 => ⟨S1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S1x1024, .f32⟩
  | 95 => ⟨S1024, .f32⟩
  | 96 => ⟨S8x4096x1024, .f32⟩
  | 97 => ⟨S1x1x1024, .f32⟩
  | 98 => ⟨S8x4096x1024, .f32⟩
  | 99 => ⟨S8x4096x1024, .f32⟩
  | 100 => ⟨S8x4096x1024, .f32⟩
  | 101 => ⟨S1x1024, .f32⟩
  | 102 => ⟨S1024, .f32⟩
  | 103 => ⟨S8x4096x1024, .f32⟩
  | 104 => ⟨S1x1x1024, .f32⟩
  | 105 => ⟨S8x4096x1024, .f32⟩
  | 106 => ⟨S8x4096x1024, .f32⟩
  | 107 => ⟨S8x4096x1024, .f32⟩
  | 108 => ⟨S1x1024, .f32⟩
  | 109 => ⟨S1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S1x1024, .f32⟩
  | 116 => ⟨S1024, .f32⟩
  | 117 => ⟨S8x4096x1024, .f32⟩
  | 118 => ⟨S1x1x1024, .f32⟩
  | 119 => ⟨S8x4096x1024, .f32⟩
  | 120 => ⟨S8x4096x1024, .f32⟩
  | 121 => ⟨S8x4096x1024, .f32⟩
  | 122 => ⟨S1x1x1024, .f32⟩
  | 123 => ⟨S8x4096x1024, .f32⟩
  | 124 => ⟨S8x4096x1024, .f32⟩
  | 125 => ⟨S_, .f32⟩
  | 126 => ⟨S8x4096, .f32⟩
  | 127 => ⟨S8x4096x1, .f32⟩
  | _ => ⟨S8x4096x1024, .f32⟩

abbrev hbmTy0_2 (i : Nat) : BufTy := match i % 128 with
  | 0 => ⟨S_, .f32⟩
  | 1 => ⟨S8x4096x1, .f32⟩
  | 2 => ⟨S8x4096x1, .f32⟩
  | 3 => ⟨S8x4096x1024, .f32⟩
  | 4 => ⟨S8x4096x1024, .f32⟩
  | 5 => ⟨S8x4096x1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S_, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S8x4096x1024, .f32⟩
  | 33 => ⟨S8x4096x1024, .f32⟩
  | 34 => ⟨S1x1x1024, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S8x4096x1024, .f32⟩
  | 41 => ⟨S_, .f32⟩
  | 42 => ⟨S8x4096, .f32⟩
  | 43 => ⟨S8x4096x1, .f32⟩
  | 44 => ⟨S_, .f32⟩
  | 45 => ⟨S8x4096x1, .f32⟩
  | 46 => ⟨S8x4096x1, .f32⟩
  | 47 => ⟨S8x4096x1024, .f32⟩
  | 48 => ⟨S8x4096x1024, .f32⟩
  | 49 => ⟨S8x4096x1024, .f32⟩
  | 50 => ⟨S_, .f32⟩
  | 51 => ⟨S8x4096, .f32⟩
  | 52 => ⟨S8x4096x1, .f32⟩
  | 53 => ⟨S_, .f32⟩
  | 54 => ⟨S8x4096x1, .f32⟩
  | 55 => ⟨S8x4096x1, .f32⟩
  | 56 => ⟨S_, .f32⟩
  | 57 => ⟨S8x4096x1, .f32⟩
  | 58 => ⟨S8x4096x1, .f32⟩
  | 59 => ⟨S8x4096x1, .f32⟩
  | 60 => ⟨S8x4096x1024, .f32⟩
  | 61 => ⟨S8x4096x1024, .f32⟩
  | 62 => ⟨S1x1x1024, .f32⟩
  | 63 => ⟨S8x4096x1024, .f32⟩
  | 64 => ⟨S8x4096x1024, .f32⟩
  | 65 => ⟨S1x1x1024, .f32⟩
  | 66 => ⟨S8x4096x1024, .f32⟩
  | 67 => ⟨S8x4096x1024, .f32⟩
  | 68 => ⟨S262144x128, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_cst_2 : Ref sig .tc := ⟨.hbm, 253, rfl⟩
abbrev main_v235 : Ref sig .tc := ⟨.hbm, 254, rfl⟩
abbrev main_v236 : Ref sig .tc := ⟨.hbm, 255, rfl⟩
abbrev main_cst_3 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_cst_4 : Ref sig .tc := ⟨.hbm, 262, rfl⟩
abbrev main_v242 : Ref sig .tc := ⟨.hbm, 263, rfl⟩
abbrev main_v243 : Ref sig .tc := ⟨.hbm, 264, rfl⟩
abbrev main_cst_5 : Ref sig .tc := ⟨.hbm, 265, rfl⟩
abbrev main_v244 : Ref sig .tc := ⟨.hbm, 266, rfl⟩
abbrev main_v245 : Ref sig .tc := ⟨.hbm, 267, rfl⟩
abbrev main_cst_6 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_call1_v0 : Ref sig .tc := ⟨.hbm, 280, rfl⟩
abbrev main_call1_v1 : Ref sig .tc := ⟨.hbm, 281, rfl⟩
abbrev main_call1_cst : Ref sig .tc := ⟨.hbm, 282, rfl⟩
abbrev main_call1_v2 : Ref sig .tc := ⟨.hbm, 283, rfl⟩
abbrev main_call1_v3 : Ref sig .tc := ⟨.hbm, 284, rfl⟩
abbrev main_call1_cst_0 : Ref sig .tc := ⟨.hbm, 285, rfl⟩
abbrev main_call1_v4 : Ref sig .tc := ⟨.hbm, 286, rfl⟩
abbrev main_call1_v5 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_cst_7 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_cst_8 : Ref sig .tc := ⟨.hbm, 297, rfl⟩
abbrev main_v265 : Ref sig .tc := ⟨.hbm, 298, rfl⟩
abbrev main_v266 : Ref sig .tc := ⟨.hbm, 299, rfl⟩
abbrev main_cst_9 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_cst_10 : Ref sig .tc := ⟨.hbm, 306, rfl⟩
abbrev main_v272 : Ref sig .tc := ⟨.hbm, 307, rfl⟩
abbrev main_v273 : Ref sig .tc := ⟨.hbm, 308, rfl⟩
abbrev main_cst_11 : Ref sig .tc := ⟨.hbm, 309, rfl⟩
abbrev main_v274 : Ref sig .tc := ⟨.hbm, 310, rfl⟩
abbrev main_v275 : Ref sig .tc := ⟨.hbm, 311, rfl⟩
abbrev main_cst_12 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩

abbrev nD : Nat := 1
abbrev τ : Topo := Topo.v7x

variable {F : FTy → Type} [FloatOps F]
-- ==== Proof.Runs.lean ====
/- What one grid point of the experts call does: the two runs of its body, at a block in use and at a block that is not.

   Nothing here depends on how floats are represented; the two certificates (bit-exact and over the reals) use one text. -/
module

public import proofs.«01_k».proof.Proof.Gen.KernelIdeal.Skeleton
public import proofs.«01_k».proof.Proof.Gen.KernelIdeal.Launch
public import Idealize.ShloMosaic.Lib.Pipeline.TableIdle
public import Idealize.ShloMosaic.Lib.Pipeline.FrameBody
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The table of the blocks' experts, as the body is handed it. -/
abbrev expertTab : Memref sig .tc .smem S544 .i32 := Memref.whole main_arg0
/-- The number of blocks in use, as the body is handed it. -/
abbrev usedTab : Memref sig .tc .smem S1 .i32 := Memref.whole main_arg1

/-- The word the body reads: the number of blocks in use. -/
abbrev usedWord (T1 : S1.Idx → Elt F .i32) : BitVec 32 :=
  View.readAt (Elt F) usedTab.view (Rect.unit (s := S1) ![0] S1.size inb_S1_S1_0).toLoadRect T1 (Shape.Idx.first (numel1_S1.symm ▸ Nat.one_pos))

set_option backward.proofsInPublic true in
set_option maxHeartbeats 8000000 in
/-- A block in use: from the tables and the windows' blocks, the body ends with the output's buffer overwritten by the pieces this
    finds (last first) and everything else as it was. -/
def liveRun (c : Dev nD) (i : grid0.Coords) (arg3 : Memref sig .tc .vmem S2048x128 .f32) (harg3 : arg3.IsWhole)
    (arg4 : Memref sig .tc .vmem S1x1024x1024 .bf16) (harg4 : arg4.IsWhole) (arg5 : Memref sig .tc .vmem S1x1024x1024 .bf16) (harg5 : arg5.IsWhole)
    (arg6 : Memref sig .tc .vmem S1x1x1024 .f32) (harg6 : arg6.IsWhole) (arg7 : Memref sig .tc .vmem S1x1x1024 .f32) (harg7 : arg7.IsWhole)
    (arg8 : Memref sig .tc .vmem S1x1024x1024 .bf16) (harg8 : arg8.IsWhole) (arg9 : Memref sig .tc .vmem S1x1x1024 .f32) (harg9 : arg9.IsWhole)
    (arg10 : Memref sig .tc .vmem S2048x128 .f32) (harg10 : arg10.IsWhole) (T0 : S544.Idx → Elt F .i32) (T1 : S1.Idx → Elt F .i32)
    (x0 : S2048x128.Idx → Elt F .f32) (x1 x2 : S1x1024x1024.Idx → Elt F .bf16) (x3 x4 : S1x1x1024.Idx → Elt F .f32)
    (x5 : S1x1024x1024.Idx → Elt F .bf16) (x6 : S1x1x1024.Idx → Elt F .f32) (k0_h1 : k0_cond1 i (usedWord T1) = 1#1) :
    { out : List (View.Piece (Elt F) S2048x128 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (arg9.view.loc (c : Thread nD τ) ↦[arg9.view.set]{fullShare} arg9.view.rep x6)
          ∗ (expertTab.view.loc (c : Thread nD τ) ↦{fullShare.right} T0)
          ∗ (usedTab.view.loc (c : Thread nD τ) ↦{fullShare.right} T1)
          ∗ (∃ d, owns (c : Thread nD τ) arg10 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (arg9.view.loc (c : Thread nD τ) ↦[arg9.view.set]{fullShare} arg9.view.rep x6)
              ∗ (expertTab.view.loc (c : Thread nD τ) ↦{fullShare.right} T0)
              ∗ (usedTab.view.loc (c : Thread nD τ) ↦{fullShare.right} T1)
              ∗ (∃ f, arg10.view.loc (c : Thread nD τ) ↦[arg10.view.set]{fullShare} arg10.view.writes (Elt F) f out)) -∗ K ⟨⟩))
          ⊢ wp frame (wpE (defs₀ (F := F)) Variants.none c none) Set.univ
              (cc0_experts i expertTab (Memref.isWhole_whole _) usedTab (Memref.isWhole_whole _) arg3 harg3 arg4 harg4 arg5 harg5 arg6 harg6 arg7 harg7 arg8 harg8 arg9 harg9 arg10 harg10) K } :=
  ⟨_, fun K => by
    unfold owns
    rw [cc0_experts_eq_skeleton]; unfold cc0_experts_skel
    rw [k0_part1_eq_skeleton, k0_part2_eq_skeleton]; unfold k0_part1_skel k0_part2_skel
    iintro ⟨H3, H4, H5, H6, H7, H8, H9, HT0, HT1, ⟨%d, %f, -, HO⟩, Hk⟩
    have hT0 : expertTab.IsWhole := Memref.isWhole_whole _
    have hT1 : usedTab.IsWhole := Memref.isWhole_whole _
    sl_exec! (disch := first | (guard_target = k0_cond1 _ _ = _; exact k0_h1))
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT0]; · iexact HT0
    isplitl [HT1]; · iexact HT1
    iexists _; iexact HO⟩

set_option maxHeartbeats 8000000 in
/-- A block not in use: the body reads the number of blocks in use and leaves every buffer as it found it. -/
theorem idleRun (c : Dev nD) (i : grid0.Coords) (arg3 : Memref sig .tc .vmem S2048x128 .f32) (harg3 : arg3.IsWhole)
    (arg4 : Memref sig .tc .vmem S1x1024x1024 .bf16) (harg4 : arg4.IsWhole) (arg5 : Memref sig .tc .vmem S1x1024x1024 .bf16) (harg5 : arg5.IsWhole)
    (arg6 : Memref sig .tc .vmem S1x1x1024 .f32) (harg6 : arg6.IsWhole) (arg7 : Memref sig .tc .vmem S1x1x1024 .f32) (harg7 : arg7.IsWhole)
    (arg8 : Memref sig .tc .vmem S1x1024x1024 .bf16) (harg8 : arg8.IsWhole) (arg9 : Memref sig .tc .vmem S1x1x1024 .f32) (harg9 : arg9.IsWhole)
    (arg10 : Memref sig .tc .vmem S2048x128 .f32) (harg10 : arg10.IsWhole) (T1 : S1.Idx → Elt F .i32)
    (k0_h1 : ¬ k0_cond1 i (usedWord T1) = 1#1) (K : PUnit → sProp 𝕄) :
    iprop((usedTab.view.loc (c : Thread nD τ) ↦{fullShare.right} T1)
          ∗ (iprop(usedTab.view.loc (c : Thread nD τ) ↦{fullShare.right} T1) -∗ K ⟨⟩))
      ⊢ wp frame (wpE (defs₀ (F := F)) Variants.none c none) Set.univ
          (cc0_experts i expertTab (Memref.isWhole_whole _) usedTab (Memref.isWhole_whole _) arg3 harg3 arg4 harg4 arg5 harg5 arg6 harg6 arg7 harg7 arg8 harg8 arg9 harg9 arg10 harg10) K := by
  rw [cc0_experts_eq_skeleton]; unfold cc0_experts_skel
  iintro ⟨HT1, Hk⟩
  have hT1 : usedTab.IsWhole := Memref.isWhole_whole _
  sl_exec! (disch := first | (guard_target = ¬(k0_cond1 _ _ = _); exact k0_h1))
  sl_step
  iapply Hk
  iexact HT1

end Cert.Experts

end
-- ==== Proof.Block.lean ====
/- What the body leaves in the output's buffer at a block in use: one array of 256 rows of 1024, spread over the 2048 rows of 128
   lanes the kernel keeps it in (row `8 r + j` holds lanes `128 j …` of row `r`). -/
module

public import proofs.«01_k».proof.Proof.Runs
public import Idealize.ShloMosaic.Lib.VecWindow
public import Idealize.ShloMosaic.Lib.Pipeline.Value

@[expose] public section

set_option maxRecDepth 16384

noncomputable section

namespace Cert.Experts

open Cert.KernelIdeal Cert.KernelIdeal.Gen
open Idealize.ShloMosaic
open Idealize.ShloMosaic.TcCoe

variable {F : FTy → Type} [FloatOps F] [∀ e, Nonempty (Elt F e)]

/-- The rows read at offset `j`, as the body reads them. -/
abbrev rows (x : S2048x128.Idx → Elt F .f32) (r : LoadRect S2048x128) : r.shape.Idx → Elt F .f32 := fun i => x (r.idx i)

abbrev e0 : LoadRect S2048x128 := ⟨![0, 0], S256x128.size, ![8, 1], inb_S2048x128_S256x128_0_0_s_8_1⟩
abbrev e1 : LoadRect S2048x128 := ⟨![1, 0], S256x128.size, ![8, 1], inb_S2048x128_S256x128_1_0_s_8_1⟩
abbrev e2 : LoadRect S2048x128 := ⟨![2, 0], S256x128.size, ![8, 1], inb_S2048x128_S256x128_2_0_s_8_1⟩
abbrev e3 : LoadRect S2048x128 := ⟨![3, 0], S256x128.size, ![8, 1], inb_S2048x128_S256x128_3_0_s_8_1⟩
abbrev e4 : LoadRect S2048x128 := ⟨![4, 0], S256x128.size, ![8, 1], inb_S2048x128_S256x128_4_0_s_8_1⟩
abbrev e5 : LoadRect S2048x128 := ⟨![5, 0], S256x128.size, ![8, 1], inb_S2048x128_S256x128_5_0_s_8_1⟩
abbrev e6 : LoadRect S2048x128 := ⟨![6, 0], S256x128.size, ![8, 1], inb_S2048x128_S256x128_6_0_s_8_1⟩
abbrev e7 : LoadRect S2048x128 := ⟨![7, 0], S256x128.size, ![8, 1], inb_S2048x128_S256x128_7_0_s_8_1⟩

/-- The block's 256 rows of 1024, from the windows' blocks: the rows, the gate's and the up projection's weights and biases, the
    down projection's weights and bias. -/
def blockY (x0 : S2048x128.Idx → Elt F .f32) (x1 x2 : S1x1024x1024.Idx → Elt F .bf16) (x3 x4 : S1x1x1024.Idx → Elt F .f32)
    (x5 : S1x1024x1024.Idx → Elt F .bf16) (x6 : S1x1x1024.Idx → Elt F .f32) : S256x1024.Idx → Elt F .f32 :=
  k0_pay6
    (k0_pay3 (rows x0 e0) (rows x0 e1) (rows x0 e2) (rows x0 e3) (rows x0 e4) (rows x0 e5) (rows x0 e6) (rows x0 e7) x2 x4)
    (k0_pay4 (rows x0 e0) (rows x0 e1) (rows x0 e2) (rows x0 e3) (rows x0 e4) (rows x0 e5) (rows x0 e6) (rows x0 e7) x1 x3)
    (Scalar.ofBits .f32 0x40E00000#32) k0_pay5 x5 x6

/-- Lane `128 j + l` of row `r`. -/
def at1024 (r j l : ℕ) (hr : r < 256) (hj : j < 8) (hl : l < 128) : S256x1024.Idx := fun
  | ⟨0, _⟩ => ⟨r, hr⟩
  | ⟨1, _⟩ => ⟨128 * j + l, show 128 * j + l < 1024 by omega⟩

/-- The same over the 2048 rows of 128 lanes. -/
def spread (y : S256x1024.Idx → Elt F .f32) : S2048x128.Idx → Elt F .f32 := fun i =>
  y (at1024 ((i 0).val / 8) ((i 0).val % 8) (i 1).val
    (by have : (i 0).val < 2048 := (i 0).isLt; omega) (by omega) (i 1).isLt)

/-- The pieces the body stores, last first. -/
def pieces (y : S256x1024.Idx → Elt F .f32) : List (View.Piece (Elt F) S2048x128 .f32) :=
  [⟨⟨e7, spos_8_1⟩, extractStridedSlice S256x128 ![0, 896] y slices_S256x1024_o0_896_S256x128⟩,
   ⟨⟨e6, spos_8_1⟩, extractStridedSlice S256x128 ![0, 768] y slices_S256x1024_o0_768_S256x128⟩,
   ⟨⟨e5, spos_8_1⟩, extractStridedSlice S256x128 ![0, 640] y slices_S256x1024_o0_640_S256x128⟩,
   ⟨⟨e4, spos_8_1⟩, extractStridedSlice S256x128 ![0, 512] y slices_S256x1024_o0_512_S256x128⟩,
   ⟨⟨e3, spos_8_1⟩, extractStridedSlice S256x128 ![0, 384] y slices_S256x1024_o0_384_S256x128⟩,
   ⟨⟨e2, spos_8_1⟩, extractStridedSlice S256x128 ![0, 256] y slices_S256x1024_o0_256_S256x128⟩,
   ⟨⟨e1, spos_8_1⟩, extractStridedSlice S256x128 ![0, 128] y slices_S256x1024_o0_128_S256x128⟩,
   ⟨⟨e0, spos_8_1⟩, extractStridedSlice S256x128 ![0, 0] y slices_S256x1024_o0_0_S256x128⟩]

/-- A whole block read at offset zero is the block. -/
theorem whole_read {s : Shape} {e : EltTy} (x : s.Idx → Elt F e) (off size : Fin s.rank → ℕ) (inb : ∀ a, off a + size a ≤ s.size a)
    (h0 : ∀ a, off a = 0) (hs : size = s.size) :
    HEq (fun i => x ((Rect.unit off size inb).toLoadRect.idx i)) x := by
  subst hs
  refine heq_of_eq (funext fun i => congrArg x (funext fun a => Fin.ext ?_))
  show off a + 1 * (i a).val = (i a).val
  rw [h0 a]; omega

/-- A piece holds lanes `128 j …` of every eighth row from `j`. -/
theorem piece_spread (y : S256x1024.Idx → Elt F .f32) (j o : ℕ) (hj : j < 8) (ho : o = 128 * j)
    (inb : ∀ a, S256x128.size a = 0 ∨ (![j, 0] : Fin 2 → ℕ) a + (![8, 1] : Fin 2 → ℕ) a * (S256x128.size a - 1) < S2048x128.size a)
    (hs : S256x1024.Slices ![0, o] S256x128) (x : S256x128.Idx) :
    extractStridedSlice S256x128 ![0, o] y hs x = spread y ((⟨![j, 0], S256x128.size, ![8, 1], inb⟩ : LoadRect S2048x128).idx x) := by
  have h0 : (x 0).val < 256 := (x 0).isLt
  have h1 : (x 1).val < 128 := (x 1).isLt
  unfold spread
  refine extractStridedSlice_apply _ _ _ _ _ fun a => ?_
  fin_cases a
  · show (j + 8 * (x 0).val) / 8 = 0 + (x 0).val
    omega
  · show 128 * ((j + 8 * (x 0).val) % 8) + (0 + 1 * (x 1).val) = o + (x 1).val
    omega

/-- The pieces are the spread array's. -/
theorem pieces_spread (y : S256x1024.Idx → Elt F .f32) : ∀ p ∈ pieces y, ∀ x : p.1.shape.Idx, p.2 x = spread y (p.1.emb x) := by
  unfold pieces
  simp only [List.mem_cons, List.not_mem_nil, or_false]
  rintro p (rfl | rfl | rfl | rfl | rfl | rfl | rfl | rfl) x
  · exact piece_spread y 7 896 (by decide) rfl _ slices_S256x1024_o0_896_S256x128 x
  · exact piece_spread y 6 768 (by decide) rfl _ slices_S256x1024_o0_768_S256x128 x
  · exact piece_spread y 5 640 (by decide) rfl _ slices_S256x1024_o0_640_S256x128 x
  · exact piece_spread y 4 512 (by decide) rfl _ slices_S256x1024_o0_512_S256x128 x
  · exact piece_spread y 3 384 (by decide) rfl _ slices_S256x1024_o0_384_S256x128 x
  · exact piece_spread y 2 256 (by decide) rfl _ slices_S256x1024_o0_256_S256x128 x
  · exact piece_spread y 1 128 (by decide) rfl _ slices_S256x1024_o0_128_S256x128 x
  · exact piece_spread y 0 0 (by decide) rfl _ slices_S256x1024_o0_0_S256x128 x

/-- Every row is in the piece of its rest by eight. -/
theorem mem_every8 (j : ℕ) (i : S2048x128.Idx) (hij : (i 0).val % 8 = j)
    (inb : ∀ a, S256x128.size a = 0 ∨ (![j, 0] : Fin 2 → ℕ) a + (![8, 1] : Fin 2 → ℕ) a * (S256x128.size a - 1) < S2048x128.size a) :
    i ∈ (⟨![j, 0], S256x128.size, ![8, 1], inb⟩ : LoadRect S2048x128).set := by
  have h0 : (i 0).val < 2048 := (i 0).isLt
  rw [LoadRect.mem_set]
  intro a
  fin_cases a
  · refine ⟨(i 0).val / 8, ?_, ?_⟩
    · show (i 0).val / 8 < 256
      omega
    · show (i 0).val = j + 8 * ((i 0).val / 8)
      omega
  · refine ⟨(i 1).val, (i 1).isLt, ?_⟩
    show (i 1).val = 0 + 1 * (i 1).val
    omega

theorem pieces_cover (y : S256x1024.Idx → Elt F .f32) (i : S2048x128.Idx) : ∃ p ∈ pieces y, i ∈ p.1.set := by
  have h : (i 0).val % 8 < 8 := Nat.mod_lt _ (by decide)
  unfold pieces
  generalize hj : (i 0).val % 8 = j at h
  rcases (show j = 0 ∨ j = 1 ∨ j = 2 ∨ j = 3 ∨ j = 4 ∨ j = 5 ∨ j = 6 ∨ j = 7 by omega) with rfl | rfl | rfl | rfl | rfl | rfl | rfl | rfl
  · exact ⟨_, .tail _ (.tail _ (.tail _ (.tail _ (.tail _ (.tail _ (.tail _ (.head _))))))), mem_every8 0 i hj _⟩
  · exact ⟨_, .tail _ (.tail _ (.tail _ (.tail _ (.tail _ (.tail _ (.head _)))))), mem_every8 1 i hj _⟩
  · exact ⟨_, .tail _ (.tail _ (.tail _ (.tail _ (.tail _ (.head _))))), mem_every8 2 i hj _⟩
  · exact ⟨_, .tail _ (.tail _ (.tail _ (.tail _ (.head _)))), mem_every8 3 i hj _⟩
  · exact ⟨_, .tail _ (.tail _ (.tail _ (.head _))), mem_every8 4 i hj _⟩
  · exact ⟨_, .tail _ (.tail _ (.head _)), mem_every8 5 i hj _⟩
  · exact ⟨_, .tail _ (.head _), mem_every8 6 i hj _⟩
  · exact ⟨_, .head _, mem_every8 7 i hj _⟩

/-- So the pieces, stored into any buffer of the shape, leave the spread array. -/
theorem read_pieces (v : View sig .tc .vmem S2048x128 .f32) (f : v.ty.Contents (Elt F)) (y : S256x1024.Idx → Elt F .f32) :
    v.read (Elt F) (v.writes (Elt F) f (pieces y)) = spread y := by
  rw [View.read_writes_eq_canon _ _ _ (pieces_cover y)]
  exact funext fun i => View.canon_apply_of_pieces (spread y) _ (pieces_spread y) i (pieces_cover y i)

set_option backward.proofsInPublic true in
theorem live_pieces (c : Dev nD) (i : grid0.Coords) (arg3 : Memref sig .tc .vmem S2048x128 .f32) (harg3 : arg3.IsWhole)
    (arg4 : Memref sig .tc .vmem S1x1024x1024 .bf16) (harg4 : arg4.IsWhole) (arg5 : Memref sig .tc .vmem S1x1024x1024 .bf16) (harg5 : arg5.IsWhole)
    (arg6 : Memref sig .tc .vmem S1x1x1024 .f32) (harg6 : arg6.IsWhole) (arg7 : Memref sig .tc .vmem S1x1x1024 .f32) (harg7 : arg7.IsWhole)
    (arg8 : Memref sig .tc .vmem S1x1024x1024 .bf16) (harg8 : arg8.IsWhole) (arg9 : Memref sig .tc .vmem S1x1x1024 .f32) (harg9 : arg9.IsWhole)
    (arg10 : Memref sig .tc .vmem S2048x128 .f32) (harg10 : arg10.IsWhole) (T0 : S544.Idx → Elt F .i32) (T1 : S1.Idx → Elt F .i32)
    (x0 : S2048x128.Idx → Elt F .f32) (x1 x2 : S1x1024x1024.Idx → Elt F .bf16) (x3 x4 : S1x1x1024.Idx → Elt F .f32)
    (x5 : S1x1024x1024.Idx → Elt F .bf16) (x6 : S1x1x1024.Idx → Elt F .f32) (k0_h1 : k0_cond1 i (usedWord T1) = 1#1) :
    (liveRun c i arg3 harg3 arg4 harg4 arg5 harg5 arg6 harg6 arg7 harg7 arg8 harg8 arg9 harg9 arg10 harg10 T0 T1 x0 x1 x2 x3 x4 x5 x6 k0_h1).1
      = pieces (blockY x0 x1 x2 x3 x4 x5 x6) := by
  have hz3 : ∀ a : Fin 3, (![0, 0, 0] : Fin 3 → ℕ) a = 0 := by decide
  have w (v : View sig .tc .vmem S1x1024x1024 .bf16) (x : S1x1024x1024.Idx → Elt F .bf16) :
      View.readAt (Elt F) v (Rect.unit (s := S1x1024x1024) ![0, 0, 0] ![1, 1024, 1024] inb_S1x1024x1024_S1x1024x1024_0_0_0).toLoadRect (v.rep x) = x := by
    rw [View.readAt_rep]; exact eq_of_heq (whole_read x _ _ _ hz3 rfl)
  have b (v : View sig .tc .vmem S1x1x1024 .f32) (x : S1x1x1024.Idx → Elt F .f32) :
      View.readAt (Elt F) v (Rect.unit (s := S1x1x1024) ![0, 0, 0] ![1, 1, 1024] inb_S1x1x1024_S1x1x1024_0_0_0).toLoadRect (v.rep x) = x := by
    rw [View.readAt_rep]; exact eq_of_heq (whole_read x _ _ _ hz3 rfl)
  unfold liveRun
  dsimp only
  simp only [w, b, View.readAt_rep]
  rfl

end Cert.Experts

end
-- ==== Proof.Tables.lean ====
/- The two tables the launch reads — each block's expert, and the number of blocks in use — and what follows of its schedule when
   they are in range: which block every window is at, which points leave the output alone, when the output is written back. -/
module

public import proofs.«01_k».proof.Proof.Runs
public import proofs.«01_k».proof.Proof.Gen.Pre_tables_in_range
public import Idealize.ShloMosaic.Lib.ReduceAll
public import Idealize.ShloMosaic.Lib.Affine

@[expose] public section

set_option maxRecDepth 16384

noncomputable section

namespace Cert.Experts

open Cert.KernelIdeal Cert.KernelIdeal.Gen
open Idealize.ShloMosaic
open Idealize.ShloMosaic.TcCoe

variable {F : FTy → Type} [FloatOps F] [∀ e, Nonempty (Elt F e)]

/-- The one index of a one-element table. -/
def sole : S1.Idx := fun a => ⟨0, by obtain rfl : a = 0 := Subsingleton.elim _ _; exact Nat.one_pos⟩
theorem eq_sole (x : S1.Idx) : x = sole := by
  funext a
  obtain rfl : a = 0 := Subsingleton.elim _ _
  exact Fin.ext (Nat.lt_one_iff.mp (x 0).isLt)

/-- The index of entry `b` of the table of experts. -/
def entry (b : ℕ) (h : b < 544) : S544.Idx := fun a => ⟨b, by obtain rfl : a = 0 := Subsingleton.elim _ _; exact h⟩

/-- The number of blocks in use. -/
def used (pf : pre0.Contents (Elt F)) : ℕ := (show BitVec 32 from pf 1 sole).toNat
/-- The expert of block `b`. -/
def expert (pf : pre0.Contents (Elt F)) (b : ℕ) (h : b < 544) : ℕ := (show BitVec 32 from pf 0 (entry b h)).toNat

/-- The tables in range: every block names one of the thirty-two experts, and at least one block is in use. -/
structure InRange (pf : pre0.Contents (Elt F)) : Prop where
  expert_lt : ∀ x : S544.Idx, (show BitVec 32 from pf 0 x).toNat < 32
  used_pos : 0 < used pf
  used_lt : used pf < 2 ^ 31

variable {pf : pre0.Contents (Elt F)}

theorem coord_lt (i : grid0.Coords) : (i 0).val < 544 := (i 0).isLt

/-- A point is its coordinate. -/
theorem coords_val (t : Fin grid0.N) : (grid0.coords t 0).val = t.val := by
  have h := Pipeline.Grid.coords_val (G := grid0) t 0 (S := 1) (B := 544) (by decide) rfl
  have ht : t.val < 544 := N_0 ▸ t.isLt
  rw [h]; omega

theorem toInt_point (b : ℕ) (h : b < 544) : (BitVec.ofNat 32 b).toInt = b := by
  rw [BitVec.toInt_eq_toNat_of_lt] <;> simp [BitVec.toNat_ofNat] <;> omega

/-- The body's condition: the block is in use. -/
theorem cond_iff (hp : InRange pf) (i : grid0.Coords) (w : BitVec 32) (hw : w.toNat = used pf) :
    k0_cond1 i w = 1#1 ↔ (i 0).val < used pf := by
  have hi := coord_lt i
  have h31 := hp.used_lt
  have hs : (BitVec.ofNat 32 (i 0).val).slt w = decide ((i 0).val < used pf) := by
    rw [BitVec.slt, toInt_point _ hi, BitVec.toInt_eq_toNat_of_lt (by omega), hw]
    simp only [Nat.cast_lt]
  unfold k0_cond1
  simp only [Scalar.cmpi, Scalar.extui, IntOp.cmpi, hs]
  by_cases h : (i 0).val < used pf <;> simp [h]

theorem rowIndex (hp : InRange pf) (i : grid0.Coords) :
    (Scalar.minsi (BitVec.ofNat 32 (i 0).val) (Scalar.subi (show BitVec 32 from pf 1 sole) 1#32)).toNat = min (i 0).val (used pf - 1) := by
  have hi := coord_lt i
  have h0 := hp.used_pos
  have h31 := hp.used_lt
  have hs : ((show BitVec 32 from pf 1 sole) - 1#32).toNat = used pf - 1 := by
    rw [BitVec.toNat_sub, show (show BitVec 32 from pf 1 sole).toNat = used pf from rfl]
    simp only [BitVec.toNat_ofNat]; omega
  unfold Scalar.minsi Scalar.subi IntOp.minsi IntOp.subi
  rw [BitVec.slt, toInt_point _ hi, BitVec.toInt_eq_toNat_of_lt (by omega), hs]
  split
  · rename_i h
    rw [decide_eq_true_eq, Nat.cast_lt] at h
    rw [BitVec.toNat_ofNat]; omega
  · rename_i h
    rw [decide_eq_true_eq, Nat.cast_lt] at h
    rw [hs]; omega

/-- The rows' windows, in and out: the point's block, and from the last block in use on that one. -/
theorem transform_rows (hp : InRange pf) (i : grid0.Coords) :
    cc0_transform_7 inb_S1_S1_0 numel1_S1 pf i = ![min (i 0).val (used pf - 1), 0] := by
  rw [← rowIndex hp i]
  exact congrArg (fun x : S1.Idx => ![(Scalar.minsi (BitVec.ofNat 32 (i 0).val) (Scalar.subi (show BitVec 32 from pf 1 x) 1#32)).toNat, 0]) (eq_sole _)

theorem transform_rows_in (hp : InRange pf) (i : grid0.Coords) :
    cc0_transform_0 inb_S1_S1_0 numel1_S1 pf i = ![min (i 0).val (used pf - 1), 0] := transform_rows hp i

/-- The weights' and biases' windows: the point's expert. -/
theorem transform_expert (i : grid0.Coords) :
    cc0_transform_1 k0_off1_inb numel1_S1 pf i = ![expert pf (i 0).val (coord_lt i), 0, 0] := by
  have hi := coord_lt i
  have e : ∀ h, (Rect.unit (s := S544) ![(Scalar.indexCast (BitVec.ofNat 32 (i 0).val)).toNat] S1.size h).emb
      (Shape.Idx.first (numel1_S1.symm ▸ Nat.one_pos)) = entry (i 0).val hi := fun h => by
    funext a; apply Fin.ext
    obtain rfl : a = 0 := Subsingleton.elim _ _
    simp [Rect.emb, Rect.unit, entry, Shape.Idx.first, Scalar.indexCast, BitVec.toNat_ofNat]
    omega
  exact congrArg (fun x : S544.Idx => ![(show BitVec 32 from pf 0 x).toNat, 0, 0]) (e _)

theorem expert_lt (hp : InRange pf) (b : ℕ) (h : b < 544) : expert pf b h < 32 := hp.expert_lt _

/-! ## The launch's side condition -/

theorem rows_inside (hp : InRange pf) (i : grid0.Coords) (a : Fin 2) :
    (cc0_transform_7 inb_S1_S1_0 numel1_S1 pf i a + 1) * S2048x128.size a ≤ S1114112x128.size a := by
  rw [transform_rows hp i]
  have := coord_lt i
  fin_cases a
  · show (min (i 0).val (used pf - 1) + 1) * 2048 ≤ 1114112
    omega
  · exact Nat.le_refl 128

theorem weights_inside (hp : InRange pf) (i : grid0.Coords) (a : Fin 3) :
    (cc0_transform_1 k0_off1_inb numel1_S1 pf i a + 1) * S1x1024x1024.size a ≤ S32x1024x1024.size a := by
  rw [transform_expert i]
  have := expert_lt hp _ (coord_lt i)
  fin_cases a
  · show (expert pf (i 0).val (coord_lt i) + 1) * 1 ≤ 32
    omega
  · exact Nat.le_refl 1024
  · exact Nat.le_refl 1024

theorem biases_inside (hp : InRange pf) (i : grid0.Coords) (a : Fin 3) :
    (cc0_transform_3 k0_off1_inb numel1_S1 pf i a + 1) * S1x1x1024.size a ≤ S32x1x1024.size a := by
  rw [show cc0_transform_3 k0_off1_inb numel1_S1 pf i = _ from transform_expert i]
  have := expert_lt hp _ (coord_lt i)
  fin_cases a
  · show (expert pf (i 0).val (coord_lt i) + 1) * 1 ≤ 32
    omega
  · exact Nat.le_refl 1
  · exact Nat.le_refl 1024

/-- A block of whole 1024-by-1024 planes of sixteen-bit numbers is whole words. -/
theorem weights_words (i : Fin 3 → ℕ) (h : ∀ a, (i a + 1) * S1x1024x1024.size a ≤ S32x1024x1024.size a) :
    (Rect.block (s := S32x1024x1024) S1x1024x1024.size i h).WholeWords (EltTy.packing .bf16) :=
  Affine.block_words_dvd (by decide) ⟨512, rfl⟩

/-- No block of the rows is fetched again after it was written back: the block index never returns. -/
theorem rows_aliased (hp : InRange pf) : Pipeline.WinSpec.Aliased (G := grid0) spec0 (ix0 pf) 0 7 where
  isIn := rfl
  isOut := rfl
  rank := rfl
  size := by
    intro a a' h
    obtain rfl : a = a' := Fin.ext h
    rfl
  index := by
    intro c a a' h
    obtain rfl : a = a' := Fin.ext h
    rfl
  ordered := by
    intro u u' hlt _ hf heq
    have hN : u.val < 544 := N_0 ▸ u.isLt
    have e : ∀ t : Fin grid0.N, ix0 pf 7 (grid0.coords t) = ![min t.val (used pf - 1), 0] := fun t => by
      rw [show ix0 pf 7 (grid0.coords t) = _ from transform_rows hp _, coords_val]
    rw [e u, e u'] at heq
    have h0 : min u'.val (used pf - 1) = min u.val (used pf - 1) := congrFun heq 0
    simp only [Pipeline.WinSpec.flushAt, Bool.and_eq_true, Bool.or_eq_true, decide_eq_true_eq] at hf
    rcases hf.2 with h | ⟨h, hne⟩
    · have := u.isLt; omega
    · refine hne ?_
      rw [e, e]
      have : min (u'.val + 1) (used pf - 1) = min u'.val (used pf - 1) := by omega
      simp only [this]

/-- Tables in range meet the launch's side condition. -/
theorem ok_of_range (hp : InRange pf) : ok0 pf :=
  ⟨fun i => ⟨rows_inside hp i, .inl rfl⟩, fun i => ⟨weights_inside hp i, .inr (weights_words _ _)⟩,
    fun i => ⟨weights_inside hp i, .inr (weights_words _ _)⟩, fun i => ⟨biases_inside hp i, .inl rfl⟩,
    fun i => ⟨biases_inside hp i, .inl rfl⟩, fun i => ⟨weights_inside hp i, .inr (weights_words _ _)⟩,
    fun i => ⟨biases_inside hp i, .inl rfl⟩, fun i => ⟨rows_inside hp i, .inl rfl⟩, rows_aliased hp⟩

/-! ## The schedule -/

/-- The launch's pipeline at tables in range. -/
abbrev adm (hp : InRange pf) : (pcfg0 (F := F)).Adm := ⟨pf, ok_of_range hp⟩
abbrev cfgA (hp : InRange pf) : Pipeline.Cfg sig Λ₀ := cfg0 (F := F) (adm hp)

/-- The output's block at a point. -/
theorem index_out (hp : InRange pf) (t : Fin grid0.N) : ((cfgA hp).win 7).index t = ![min t.val (used pf - 1), 0] := by
  rw [show ((cfgA hp).win 7).index t = _ from transform_rows hp (grid0.coords t), coords_val]

/-- The output is written back at the last point and, before that, wherever the next block is in use too. -/
theorem flush_out (hp : InRange pf) (t : Fin grid0.N) :
    ((cfgA hp).win 7).flush t = decide (t.val + 1 = 544 ∨ t.val + 1 < used pf) := by
  have ht : t.val < 544 := N_0 ▸ t.isLt
  rw [Bool.eq_iff_iff, decide_eq_true_eq]
  simp only [Pipeline.Window.flush, Bool.and_eq_true, Bool.or_eq_true, decide_eq_true_eq]
  constructor
  · rintro ⟨-, h | ⟨h, hne⟩⟩
    · exact .inl (h.trans N_0)
    · right
      by_contra hc
      refine hne ?_
      have e : min (t.val + 1) (used pf - 1) = min t.val (used pf - 1) := by omega
      rw [index_out, index_out]
      exact congrArg (fun n : ℕ => (![n, 0] : Fin 2 → ℕ)) e
  · rintro (h | h)
    · exact ⟨rfl, .inl (h.trans N_0.symm)⟩
    · refine ⟨rfl, ?_⟩
      by_cases h544 : t.val + 1 = 544
      · exact .inl (h544.trans N_0.symm)
      · refine .inr ⟨(show t.val + 1 < 544 by omega).trans_eq N_0.symm, fun heq => ?_⟩
        rw [index_out, index_out] at heq
        have h0 : min (t.val + 1) (used pf - 1) = min t.val (used pf - 1) := congrFun heq 0
        omega

/-- The output is left alone at the blocks not in use. -/
theorem idle_out (hp : InRange pf) (t : Fin grid0.N) :
    (cfgA hp).idle 7 ((cfgA hp).grid.coords t) = decide (used pf ≤ t.val) := by
  have e : (cfgA hp).idle 7 ((cfgA hp).grid.coords t) = !(k0_cond1 (grid0.coords t) (show BitVec 32 from pf 1 sole) == 1#1) := by
    show (!(k0_cond1 (grid0.coords t) (pf.atD 1 ![0]) == 1#1)) = _
    have h : ∀ a : Fin 1, (![0] : Fin 1 → ℕ) a + 1 ≤ S1.size a := by decide
    have hw : (pf.atD 1 ![0] : BitVec 32) = pf 1 sole :=
      (dif_pos h).trans (congrArg (fun x : S1.Idx => (pf 1 x : BitVec 32)) (eq_sole _))
    exact congrArg (fun w : BitVec 32 => !(k0_cond1 (grid0.coords t) w == 1#1)) hw
  rw [e, Bool.eq_iff_iff, decide_eq_true_eq, Bool.not_eq_true', beq_eq_false_iff_ne, ne_eq, cond_iff hp _ _ rfl, coords_val, not_lt]

/-- The output's buffer holds nothing stored since its last write-back exactly at the points of the blocks in use. -/
theorem fresh_out (hp : InRange pf) (t : Fin grid0.N) : (cfgA hp).fresh 7 t.val = decide (t.val < used pf) := by
  have ht : t.val < 544 := N_0 ▸ t.isLt
  rw [Pipeline.Cfg.fresh_tab (cfgA hp) 7 (fun n => decide (n < used pf ∨ n = 544)) (decide_eq_true (.inl hp.used_pos))
    (fun s => ?_) t.val (Nat.le_of_lt t.isLt)]
  · congr 1; rw [eq_iff_iff]; omega
  · have hs : s.val < 544 := N_0 ▸ s.isLt
    rw [idle_out hp s, flush_out hp s, Bool.eq_iff_iff]
    simp only [Bool.or_eq_true, Bool.and_eq_true, decide_eq_true_eq]
    omega

/-! ## The precondition -/

attribute [local instance] Cert.Pre_tables_in_range.Gen.facts

/-- The tables as launched. -/
def tbl (m : (ℓ : Loc nD τ sig) → Buf (Elt F) ℓ) : pre0.Contents (Elt F) := fun k => m (((0 : Dev nD) : Thread nD τ).loc (pre0.ref k))

/-- The precondition says the tables are in range. -/
theorem inRange_of_fn (a0 : IVec S544 32) (a1 : IVec S1 32) (a2 : FVec F S1114112x128 .f32) (a3 : FVec F S32x1024x2048 .f32)
    (a4 : FVec F S32x2048 .f32) (a5 : FVec F S32x1024x1024 .f32) (a6 : FVec F S32x1024 .f32)
    (h : Cert.Pre_tables_in_range.fn a0 a1 a2 a3 a4 a5 a6 = fun _ => 1#1) :
    (∀ x : S544.Idx, (a0 x).toNat < 32) ∧ 0 < (a1 sole).toNat ∧ (a1 sole).toNat < 2 ^ 31 := by
  have e := congrFun h (fun a => a.elim0)
  dsimp only [Cert.Pre_tables_in_range.fn] at e
  have both (p q : BitVec 1) : IntOp.andi p q = 1#1 ↔ p = 1#1 ∧ q = 1#1 := by revert p q; decide
  have hb (p : Bool) : BitVec.ofBool p = 1#1 ↔ p = true := by cases p <;> decide
  rw [show ∀ (p q : IVec Cert.Pre_tables_in_range.S_ 1) i, andi p q i = IntOp.andi (p i) (q i) from fun _ _ _ => rfl, both] at e
  obtain ⟨e1, e2⟩ := e
  refine ⟨fun x => ?_, ?_⟩
  · have hx := Host.reduce_andi_all _ _ _ _ _ e1 x
    rw [show ∀ (p q : IVec Cert.Pre_tables_in_range.S544 1) i, andi p q i = IntOp.andi (p i) (q i) from fun _ _ _ => rfl, both] at hx
    obtain ⟨hge, hlt⟩ := hx
    replace hge : IntOp.cmpi .sge (a0 x) 0#32 = 1#1 := hge
    replace hlt : IntOp.cmpi .slt (a0 x) 32#32 = 1#1 := hlt
    simp only [IntOp.cmpi, hb, BitVec.sle, BitVec.slt, decide_eq_true_eq, BitVec.toInt, BitVec.toNat_ofNat] at hge hlt
    omega
  · have hw : ∃ j : S1.Idx, IntOp.cmpi .sge (a1 j) 1#32 = 1#1 := ⟨_, e2⟩
    obtain ⟨j, hj⟩ := hw
    rw [eq_sole j] at hj
    simp only [IntOp.cmpi, hb, BitVec.sle, decide_eq_true_eq, BitVec.toInt, BitVec.toNat_ofNat] at hj
    have := (a1 sole).isLt
    omega

end Cert.Experts

end
-- ==== Proof.Data.lean ====
/- The launch's proof data: what each window's buffer holds after each point, and that the body keeps to it at every point. -/
module

public import proofs.«01_k».proof.Proof.Block
public import proofs.«01_k».proof.Proof.Tables
public import Idealize.ShloMosaic.Lib.Pipeline.Quiescent
public import Idealize.ShloMosaic.Lib.Pipeline.Kit
public import Idealize.ShloMosaic.Lib.Claim

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

/-- The proof's resource algebra: the staging cells' rounds, embedded whole. -/
abbrev EP : Emb (UR sig nD τ) 𝕄 := emb₁

variable (m : (ℓ : Loc nD τ sig) → Buf (Elt F) ℓ) (hp : InRange (tbl m))

/-! ## The host operations before the launch -/

/-- Core `c`'s buffers when the launch begins: after the host operations that prepare the weights. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What the host operations write. -/
abbrev written : List (Ref sig .tc) := [main_v0, main_v1, main_v2, main_v3, main_v4, main_v5, main_v6, main_v7, main_v8, main_v9, main_v10]
theorem hostOps0_writes : ((hostOps0 (F := F)) : List (HloOp τ sig (Elt F))).Forall fun op => op.writes ⊆ (written.map (Proc.devRef (τ := τ) .tc)).toFinset :=
  StableHlo.forall_writes_sub_of_map rfl

set_option maxHeartbeats 800000 in
/-- @main up to the launch is the host operations. -/
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_of_not_written (c : Dev nD) (b : Ref sig .tc) (h : b ∉ written) :
    V m c b = m ((c : Thread nD τ).loc b) :=
  StableHlo.after_of_writes_sub (hostOps0 (F := F)) _ hostOps0_writes h

/-! ## Points and blocks -/

abbrev crd (t : Fin (cfgA hp).N) : (cfgA hp).grid.Coords := (cfgA hp).grid.coords t

abbrev ms0 (t : Fin (cfgA hp).N) : Memref sig .tc .vmem S2048x128 .f32 := spec0_0.stage ((cfgA hp).slots t (0 : Fin 8))
abbrev hs0 (t : Fin (cfgA hp).N) : (ms0 m hp t).IsWhole := hstage0_0 (((cfgA hp).slots t (0 : Fin 8)).cast nbuf0_0)
abbrev ms1 (t : Fin (cfgA hp).N) : Memref sig .tc .vmem S1x1024x1024 .bf16 := spec0_1.stage ((cfgA hp).slots t (1 : Fin 8))
abbrev hs1 (t : Fin (cfgA hp).N) : (ms1 m hp t).IsWhole := hstage0_1 (((cfgA hp).slots t (1 : Fin 8)).cast nbuf0_1)
abbrev ms2 (t : Fin (cfgA hp).N) : Memref sig .tc .vmem S1x1024x1024 .bf16 := spec0_2.stage ((cfgA hp).slots t (2 : Fin 8))
abbrev hs2 (t : Fin (cfgA hp).N) : (ms2 m hp t).IsWhole := hstage0_2 (((cfgA hp).slots t (2 : Fin 8)).cast nbuf0_2)
abbrev ms3 (t : Fin (cfgA hp).N) : Memref sig .tc .vmem S1x1x1024 .f32 := spec0_3.stage ((cfgA hp).slots t (3 : Fin 8))
abbrev hs3 (t : Fin (cfgA hp).N) : (ms3 m hp t).IsWhole := hstage0_3 (((cfgA hp).slots t (3 : Fin 8)).cast nbuf0_3)
abbrev ms4 (t : Fin (cfgA hp).N) : Memref sig .tc .vmem S1x1x1024 .f32 := spec0_4.stage ((cfgA hp).slots t (4 : Fin 8))
abbrev hs4 (t : Fin (cfgA hp).N) : (ms4 m hp t).IsWhole := hstage0_4 (((cfgA hp).slots t (4 : Fin 8)).cast nbuf0_4)
abbrev ms5 (t : Fin (cfgA hp).N) : Memref sig .tc .vmem S1x1024x1024 .bf16 := spec0_5.stage ((cfgA hp).slots t (5 : Fin 8))
abbrev hs5 (t : Fin (cfgA hp).N) : (ms5 m hp t).IsWhole := hstage0_5 (((cfgA hp).slots t (5 : Fin 8)).cast nbuf0_5)
abbrev ms6 (t : Fin (cfgA hp).N) : Memref sig .tc .vmem S1x1x1024 .f32 := spec0_6.stage ((cfgA hp).slots t (6 : Fin 8))
abbrev hs6 (t : Fin (cfgA hp).N) : (ms6 m hp t).IsWhole := hstage0_6 (((cfgA hp).slots t (6 : Fin 8)).cast nbuf0_6)
abbrev ms7 (t : Fin (cfgA hp).N) : Memref sig .tc .vmem S2048x128 .f32 := spec0_7.stage ((cfgA hp).slots t (7 : Fin 8))
abbrev hs7 (t : Fin (cfgA hp).N) : (ms7 m hp t).IsWhole := hstage0_7 (((cfgA hp).slots t (7 : Fin 8)).cast nbuf0_7)

/-- Window `w`'s block at point `t`, of its array as the launch finds it. -/
def iblk (c : Dev nD) (w : Fin (cfgA hp).W) (t : Fin (cfgA hp).N) : (((cfgA hp).win w).xblock (crd m hp t)).Idx → Elt F ((cfgA hp).win w).elt :=
  (((cfgA hp).win w).blk t).view.read (Elt F) (V m c (Pipeline.arrRef spec0 w))

/-- What the body computes at a point from its blocks. -/
def outAt (c : Dev nD) (t : Fin (cfgA hp).N) : S2048x128.Idx → Elt F .f32 :=
  spread (blockY (iblk m hp c (0 : Fin 8) t) (iblk m hp c (1 : Fin 8) t) (iblk m hp c (2 : Fin 8) t) (iblk m hp c (3 : Fin 8) t)
    (iblk m hp c (4 : Fin 8) t) (iblk m hp c (5 : Fin 8) t) (iblk m hp c (6 : Fin 8) t))

/-- The point whose block the output's buffer holds at `t`: `t`, and from the last block in use on that one. -/
def held (t : Fin (cfgA hp).N) : Fin (cfgA hp).N := ⟨min t.val (used (tbl m) - 1), Nat.lt_of_le_of_lt (Nat.min_le_left _ _) t.isLt⟩

theorem held_live (t : Fin (cfgA hp).N) (h : t.val < used (tbl m)) : held m hp t = t :=
  Fin.ext (show min t.val (used (tbl m) - 1) = t.val by omega)

/-- What the launch holds besides the tables: the core's generator register, of which the body knows nothing. -/
abbrev Aside (c : Dev nD) : sProp 𝕄 := Pipeline.ΦA (U := UR sig nD τ) (Val := Elt F) spec0 c

/-- The tables in the body's hands. -/
def Phi (c : Dev nD) : sProp 𝕄 :=
  iprop((expertTab.view.loc (c : Thread nD τ) ↦{fullShare.right} tbl m 0) ∗ (usedTab.view.loc (c : Thread nD τ) ↦{fullShare.right} tbl m 1))

/-- The proof data on core `c`. -/
def dats (_ : Fin 1) (c : Dev nD) : Dat τ (Elt F) Unit ℕ (UR sig nD τ) ℕ (cfgA hp) c where
  A w := V m c (Pipeline.arrRef spec0 w)
  after w t := match w with
    | ⟨0, _⟩ => iblk m hp c (0 : Fin 8) t
    | ⟨1, _⟩ => iblk m hp c (1 : Fin 8) t
    | ⟨2, _⟩ => iblk m hp c (2 : Fin 8) t
    | ⟨3, _⟩ => iblk m hp c (3 : Fin 8) t
    | ⟨4, _⟩ => iblk m hp c (4 : Fin 8) t
    | ⟨5, _⟩ => iblk m hp c (5 : Fin 8) t
    | ⟨6, _⟩ => iblk m hp c (6 : Fin 8) t
    | ⟨7, _⟩ => outAt m hp c (held m hp t)
  Φ _ := iprop(Phi m c ∗ Aside c)
  q _ := fullShare
  owed _ := 0

theorem after0 (c : Dev nD) (t : Fin (cfgA hp).N) : (dats m hp 0 c).after (0 : Fin 8) t = iblk m hp c (0 : Fin 8) t := rfl
theorem after1 (c : Dev nD) (t : Fin (cfgA hp).N) : (dats m hp 0 c).after (1 : Fin 8) t = iblk m hp c (1 : Fin 8) t := rfl
theorem after2 (c : Dev nD) (t : Fin (cfgA hp).N) : (dats m hp 0 c).after (2 : Fin 8) t = iblk m hp c (2 : Fin 8) t := rfl
theorem after3 (c : Dev nD) (t : Fin (cfgA hp).N) : (dats m hp 0 c).after (3 : Fin 8) t = iblk m hp c (3 : Fin 8) t := rfl
theorem after4 (c : Dev nD) (t : Fin (cfgA hp).N) : (dats m hp 0 c).after (4 : Fin 8) t = iblk m hp c (4 : Fin 8) t := rfl
theorem after5 (c : Dev nD) (t : Fin (cfgA hp).N) : (dats m hp 0 c).after (5 : Fin 8) t = iblk m hp c (5 : Fin 8) t := rfl
theorem after6 (c : Dev nD) (t : Fin (cfgA hp).N) : (dats m hp 0 c).after (6 : Fin 8) t = iblk m hp c (6 : Fin 8) t := rfl
theorem after7 (c : Dev nD) (t : Fin (cfgA hp).N) : (dats m hp 0 c).after (7 : Fin 8) t = outAt m hp c (held m hp t) := rfl

/-! ## What each buffer holds when the body runs -/

theorem before0 (c : Dev nD) (t : Fin (cfgA hp).N) (d) : (dats m hp 0 c).before (0 : Fin 8) t d = iblk m hp c (0 : Fin 8) t :=
  ((dats m hp 0 c).before_in_eq_fetched (0 : Fin 8) rfl (fun _ => rfl) (fun _ _ _ => rfl) (fun t => by rw [after0]; unfold Dat.blockOf iblk; rfl) t d).trans
    (by unfold Dat.fetched Dat.blockOf iblk; rfl)
theorem before1 (c : Dev nD) (t : Fin (cfgA hp).N) (d) : (dats m hp 0 c).before (1 : Fin 8) t d = iblk m hp c (1 : Fin 8) t :=
  ((dats m hp 0 c).before_in_eq_fetched (1 : Fin 8) rfl (fun _ => rfl) (fun _ _ _ => rfl) (fun t => by rw [after1]; unfold Dat.blockOf iblk; rfl) t d).trans
    (by unfold Dat.fetched Dat.blockOf iblk; rfl)
theorem before2 (c : Dev nD) (t : Fin (cfgA hp).N) (d) : (dats m hp 0 c).before (2 : Fin 8) t d = iblk m hp c (2 : Fin 8) t :=
  ((dats m hp 0 c).before_in_eq_fetched (2 : Fin 8) rfl (fun _ => rfl) (fun _ _ _ => rfl) (fun t => by rw [after2]; unfold Dat.blockOf iblk; rfl) t d).trans
    (by unfold Dat.fetched Dat.blockOf iblk; rfl)
theorem before3 (c : Dev nD) (t : Fin (cfgA hp).N) (d) : (dats m hp 0 c).before (3 : Fin 8) t d = iblk m hp c (3 : Fin 8) t :=
  ((dats m hp 0 c).before_in_eq_fetched (3 : Fin 8) rfl (fun _ => rfl) (fun _ _ _ => rfl) (fun t => by rw [after3]; unfold Dat.blockOf iblk; rfl) t d).trans
    (by unfold Dat.fetched Dat.blockOf iblk; rfl)
theorem before4 (c : Dev nD) (t : Fin (cfgA hp).N) (d) : (dats m hp 0 c).before (4 : Fin 8) t d = iblk m hp c (4 : Fin 8) t :=
  ((dats m hp 0 c).before_in_eq_fetched (4 : Fin 8) rfl (fun _ => rfl) (fun _ _ _ => rfl) (fun t => by rw [after4]; unfold Dat.blockOf iblk; rfl) t d).trans
    (by unfold Dat.fetched Dat.blockOf iblk; rfl)
theorem before5 (c : Dev nD) (t : Fin (cfgA hp).N) (d) : (dats m hp 0 c).before (5 : Fin 8) t d = iblk m hp c (5 : Fin 8) t :=
  ((dats m hp 0 c).before_in_eq_fetched (5 : Fin 8) rfl (fun _ => rfl) (fun _ _ _ => rfl) (fun t => by rw [after5]; unfold Dat.blockOf iblk; rfl) t d).trans
    (by unfold Dat.fetched Dat.blockOf iblk; rfl)
theorem before6 (c : Dev nD) (t : Fin (cfgA hp).N) (d) : (dats m hp 0 c).before (6 : Fin 8) t d = iblk m hp c (6 : Fin 8) t :=
  ((dats m hp 0 c).before_in_eq_fetched (6 : Fin 8) rfl (fun _ => rfl) (fun _ _ _ => rfl) (fun t => by rw [after6]; unfold Dat.blockOf iblk; rfl) t d).trans
    (by unfold Dat.fetched Dat.blockOf iblk; rfl)

/-- Past the blocks in use the output's buffer keeps the last one's. -/
theorem held_pred (t : Fin (cfgA hp).N) (ht : used (tbl m) ≤ t.val) : held m hp t = held m hp ⟨t.val - 1, by omega⟩ :=
  Fin.ext (show min t.val (used (tbl m) - 1) = min (t.val - 1) (used (tbl m) - 1) by omega)

/-- So a point past them finds it there. -/
theorem before7_idle (c : Dev nD) (t : Fin (cfgA hp).N) (ht : used (tbl m) ≤ t.val) (d) :
    (dats m hp 0 c).before (7 : Fin 8) t d = outAt m hp c (held m hp t) := by
  rw [(dats m hp 0 c).before_out_traj (7 : Fin 8) rfl (fun _ _ => rfl) (fun t _ hi _ => by
      have hu : used (tbl m) ≤ t.val := of_decide_eq_true ((idle_out hp t).symm.trans hi)
      rw [after7, after7, held_pred m hp t hu]) t.val t rfl d,
    (fresh_out hp t).trans (decide_eq_false (Nat.not_lt.mpr ht)), after7, held_pred m hp t ht]
  rfl

/-! ## The body obligation -/

/-- The body at point `t`, as the launch calls it. -/
abbrev bodyAt (t : Fin (cfgA hp).N) : Prog (TpuEff nD τ sig (Elt F) Λ₀ .tc) PUnit :=
  cc0_experts (crd m hp t) (Memref.whole main_arg0) (Memref.isWhole_whole _) (Memref.whole main_arg1) (Memref.isWhole_whole _)
    (ms0 m hp t) (hs0 m hp t) (ms1 m hp t) (hs1 m hp t) (ms2 m hp t) (hs2 m hp t) (ms3 m hp t) (hs3 m hp t) (ms4 m hp t) (hs4 m hp t)
    (ms5 m hp t) (hs5 m hp t) (ms6 m hp t) (hs6 m hp t) (ms7 m hp t) (hs7 m hp t)

/-- The word the body reads is the number of blocks in use. -/
theorem usedWord_tbl : (usedWord (tbl m 1)).toNat = used (tbl m) := by
  unfold usedWord used
  refine congrArg BitVec.toNat ?_
  show (tbl m 1 : S1.Idx → BitVec 32) _ = tbl m 1 sole
  exact congrArg (tbl m 1 : S1.Idx → BitVec 32) (eq_sole _)

set_option maxHeartbeats 4000000 in
/-- At a point of a block in use the body leaves its computation in the output's buffer and everything else as it was. -/
theorem sound_live (c : Dev nD) (t : Fin (cfgA hp).N) (ht : t.val < used (tbl m)) (A : sProp 𝕄) :
    iprop((Phi m c ∗ A) ∗ (dats m hp 0 c).owesAt () t.castSucc
        ∗ (∃ d, owns (c : Thread nD τ) (ms0 m hp t) fullShare ((dats m hp 0 c).before (0 : Fin 8) t d))
        ∗ (∃ d, owns (c : Thread nD τ) (ms1 m hp t) fullShare ((dats m hp 0 c).before (1 : Fin 8) t d))
        ∗ (∃ d, owns (c : Thread nD τ) (ms2 m hp t) fullShare ((dats m hp 0 c).before (2 : Fin 8) t d))
        ∗ (∃ d, owns (c : Thread nD τ) (ms3 m hp t) fullShare ((dats m hp 0 c).before (3 : Fin 8) t d))
        ∗ (∃ d, owns (c : Thread nD τ) (ms4 m hp t) fullShare ((dats m hp 0 c).before (4 : Fin 8) t d))
        ∗ (∃ d, owns (c : Thread nD τ) (ms5 m hp t) fullShare ((dats m hp 0 c).before (5 : Fin 8) t d))
        ∗ (∃ d, owns (c : Thread nD τ) (ms6 m hp t) fullShare ((dats m hp 0 c).before (6 : Fin 8) t d))
        ∗ (∃ d, owns (c : Thread nD τ) (ms7 m hp t) fullShare ((dats m hp 0 c).before (7 : Fin 8) t d)))
      ⊢ wp frame (wpE (defs₀ (F := F)) Variants.none c none) Set.univ (bodyAt m hp t) fun _ =>
          iprop((Phi m c ∗ A) ∗ (dats m hp 0 c).owesAt () t.castSucc
            ∗ owns (c : Thread nD τ) (ms0 m hp t) fullShare (iblk m hp c (0 : Fin 8) t)
            ∗ owns (c : Thread nD τ) (ms1 m hp t) fullShare (iblk m hp c (1 : Fin 8) t)
            ∗ owns (c : Thread nD τ) (ms2 m hp t) fullShare (iblk m hp c (2 : Fin 8) t)
            ∗ owns (c : Thread nD τ) (ms3 m hp t) fullShare (iblk m hp c (3 : Fin 8) t)
            ∗ owns (c : Thread nD τ) (ms4 m hp t) fullShare (iblk m hp c (4 : Fin 8) t)
            ∗ owns (c : Thread nD τ) (ms5 m hp t) fullShare (iblk m hp c (5 : Fin 8) t)
            ∗ owns (c : Thread nD τ) (ms6 m hp t) fullShare (iblk m hp c (6 : Fin 8) t)
            ∗ owns (c : Thread nD τ) (ms7 m hp t) fullShare (outAt m hp c t)) := by
  have k0_h1 : k0_cond1 (crd m hp t) (usedWord (tbl m 1)) = 1#1 := by
    rw [cond_iff hp _ _ (usedWord_tbl m), coords_val]; exact ht
  simp only [before0, before1, before2, before3, before4, before5, before6]
  unfold Phi
  iintro ⟨⟨⟨HT0, HT1⟩, HA⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((liveRun c (crd m hp t) (ms0 m hp t) (hs0 m hp t) (ms1 m hp t) (hs1 m hp t) (ms2 m hp t) (hs2 m hp t) (ms3 m hp t) (hs3 m hp t)
    (ms4 m hp t) (hs4 m hp t) (ms5 m hp t) (hs5 m hp t) (ms6 m hp t) (hs6 m hp t) (ms7 m hp t) (hs7 m hp t) (tbl m 0) (tbl m 1)
    (iblk m hp c (0 : Fin 8) t) (iblk m hp c (1 : Fin 8) t) (iblk m hp c (2 : Fin 8) t) (iblk m hp c (3 : Fin 8) t)
    (iblk m hp c (4 : Fin 8) t) (iblk m hp c (5 : Fin 8) t) (iblk m hp c (6 : Fin 8) t) k0_h1).2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  iintro ⟨H0, H1, H2, H3, H4, H5, H6, HT0, HT1, ⟨%e, H7⟩⟩
  isplitl [HT0 HT1 HA]
  · isplitl [HT0 HT1]
    · isplitl [HT0]
      · iexact HT0
      iexact HT1
    iexact HA
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact (congrArg (fun p => (ms7 m hp t).view.read (Elt F) ((ms7 m hp t).view.writes (Elt F) e p)) (live_pieces ..)).trans (read_pieces _ _ _)

set_option maxHeartbeats 4000000 in
/-- At a point past the blocks in use the body hands everything back. -/
theorem sound_idle (c : Dev nD) (t : Fin (cfgA hp).N) (ht : used (tbl m) ≤ t.val) (A R : sProp 𝕄) :
    iprop((Phi m c ∗ A) ∗ R) ⊢ wp frame (wpE (defs₀ (F := F)) Variants.none c none) Set.univ (bodyAt m hp t) fun _ => iprop((Phi m c ∗ A) ∗ R) := by
  have k0_h1 : ¬ k0_cond1 (crd m hp t) (usedWord (tbl m 1)) = 1#1 := by
    rw [cond_iff hp _ _ (usedWord_tbl m), coords_val]; omega
  unfold Phi
  iintro ⟨⟨⟨HT0, HT1⟩, HA⟩, HR⟩
  iapply (idleRun c (crd m hp t) (ms0 m hp t) (hs0 m hp t) (ms1 m hp t) (hs1 m hp t) (ms2 m hp t) (hs2 m hp t) (ms3 m hp t) (hs3 m hp t)
    (ms4 m hp t) (hs4 m hp t) (ms5 m hp t) (hs5 m hp t) (ms6 m hp t) (hs6 m hp t) (ms7 m hp t) (hs7 m hp t) (tbl m 1) k0_h1)
  isplitl [HT1]; · iexact HT1
  iintro HT1
  isplitl [HT0 HT1 HA]
  · isplitl [HT0 HT1]
    · isplitl [HT0]
      · iexact HT0
      iexact HT1
    iexact HA
  iexact HR

set_option maxHeartbeats 4000000 in
/-- The body obligation at a point: the blocks in use by the body's computation, the rest by leaving the buffer as it was. -/
theorem sound_body (c : Dev nD) (t : Fin (cfgA hp).N) :
    iprop((dats m hp 0 c).Φ t.castSucc ∗ (dats m hp 0 c).owesAt () t.castSucc
        ∗ (∃ d, owns (c : Thread nD τ) (ms0 m hp t) fullShare ((dats m hp 0 c).before (0 : Fin 8) t d))
        ∗ (∃ d, owns (c : Thread nD τ) (ms1 m hp t) fullShare ((dats m hp 0 c).before (1 : Fin 8) t d))
        ∗ (∃ d, owns (c : Thread nD τ) (ms2 m hp t) fullShare ((dats m hp 0 c).before (2 : Fin 8) t d))
        ∗ (∃ d, owns (c : Thread nD τ) (ms3 m hp t) fullShare ((dats m hp 0 c).before (3 : Fin 8) t d))
        ∗ (∃ d, owns (c : Thread nD τ) (ms4 m hp t) fullShare ((dats m hp 0 c).before (4 : Fin 8) t d))
        ∗ (∃ d, owns (c : Thread nD τ) (ms5 m hp t) fullShare ((dats m hp 0 c).before (5 : Fin 8) t d))
        ∗ (∃ d, owns (c : Thread nD τ) (ms6 m hp t) fullShare ((dats m hp 0 c).before (6 : Fin 8) t d))
        ∗ (∃ d, owns (c : Thread nD τ) (ms7 m hp t) fullShare ((dats m hp 0 c).before (7 : Fin 8) t d)))
      ⊢ wp frame (wpE (defs₀ (F := F)) Variants.none c none) Set.univ (bodyAt m hp t) fun _ =>
          iprop((dats m hp 0 c).Φ t.succ ∗ (dats m hp 0 c).owesAt () t.succ
            ∗ bigSep Finset.univ fun w : Fin (cfgA hp).W =>
                match (cfgA hp).idle w ((cfgA hp).grid.coords t) with
                | true =>
                  match ((cfgA hp).win w).flush t with
                  | false => iprop(∃ d, owns (c : Thread nD τ) (((cfgA hp).win w).stage ((cfgA hp).slots t w)) fullShare ((dats m hp 0 c).before w t d))
                  | true => owns (c : Thread nD τ) (((cfgA hp).win w).stage ((cfgA hp).slots t w)) fullShare ((dats m hp 0 c).after w t)
                | false => owns (c : Thread nD τ) (((cfgA hp).win w).stage ((cfgA hp).slots t w)) fullShare ((dats m hp 0 c).after w t)) := by
  rw [bigSep_W0]
  rewrite [show (dats m hp 0 c).Φ t.succ = iprop(Phi m c ∗ Aside c) from rfl, show (dats m hp 0 c).Φ t.castSucc = iprop(Phi m c ∗ Aside c) from rfl,
    show (dats m hp 0 c).owesAt () t.succ = (dats m hp 0 c).owesAt () t.castSucc from rfl]
  by_cases ht : t.val < used (tbl m)
  · rewrite [show (cfgA hp).idle (7 : Fin 8) ((cfgA hp).grid.coords t) = false from (idle_out hp t).trans (decide_eq_false (Nat.not_le.mpr ht))]
    simp only [after0, after1, after2, after3, after4, after5, after6, after7, held_live m hp t ht]
    exact sound_live m hp c t ht _
  · have hi : used (tbl m) ≤ t.val := Nat.le_of_not_lt ht
    rewrite [show (cfgA hp).idle (7 : Fin 8) ((cfgA hp).grid.coords t) = true from (idle_out hp t).trans (decide_eq_true hi)]
    simp only [before0, before1, before2, before3, before4, before5, before6, before7_idle m hp c t hi,
      after0, after1, after2, after3, after4, after5, after6, after7]
    refine (sep_mono .rfl ?_).trans (sound_idle m hp c t hi _ _)
    cases ((cfgA hp).win (7 : Fin 8)).flush t
    · iintro ⟨Ho, ⟨%d0, H0⟩, ⟨%d1, H1⟩, ⟨%d2, H2⟩, ⟨%d3, H3⟩, ⟨%d4, H4⟩, ⟨%d5, H5⟩, ⟨%d6, H6⟩, ⟨%d7, H7⟩⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7
    · iintro ⟨Ho, ⟨%d0, H0⟩, ⟨%d1, H1⟩, ⟨%d2, H2⟩, ⟨%d3, H3⟩, ⟨%d4, H4⟩, ⟨%d5, H5⟩, ⟨%d6, H6⟩, ⟨%d7, H7⟩⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats m hp 0 c) (defs₀ (F := F)) Variants.none () Set.univ := fun t => by
  rw [bigSep_W0]
  exact sound_body m hp c t

end Cert.Experts

end
-- ==== Proof.Launch.lean ====
/- The launch: from tables in range every run ends with the arguments as they were, the result array as the blocks' write-backs leave it, and every counter at zero. -/
module

public import proofs.«01_k».proof.Proof.Data

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (hp : InRange (tbl m))

/-- The two tables, one by one. -/
theorem prefHeld_pair (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

/-- The tables as the launch finds them are the entry's: no host operation writes them. -/
theorem V_tables (c : Dev nD) (j : Fin 2) : V m c (pre0.ref j) = (adm hp).1 j := by
  obtain rfl : c = 0 := Subsingleton.elim _ _
  fin_cases j
  · exact V_of_not_written m 0 main_arg0 (by decide)
  · exact V_of_not_written m 0 main_arg1 (by decide)

set_option backward.isDefEq.respectTransparency.types false in
set_option maxHeartbeats 4000000 in
/-- Every run ends, with the windows' arrays as the write-backs leave them, the other buffers as the launch found them, and every counter at zero. -/
theorem run_post (g : Dev nD → PrngReg) :
    θ_run (defs (F := F)) (onTc (τ := τ) (main (F := F))) ⟨m, fun _ => 0, g⟩
      (fun r => Pipeline.FramePost (Pipeline.pin (pcfgs (F := F)) fun _ => adm hp) (dats m hp) 0 (V m) r ∧ r.2.sem = fun _ => 0) :=
  Pipeline.θ_run_frameP_track pcfgs (fun _ => adm hp) (dats m hp) (0 : Fin 1) (launch0 (F := F)) defs₀ Variants.none m g main
    (hbody := fun c => (body_obligation m hp c).loose)
    (hshare := fun c w => by unfold Dat.share; split <;> rfl)
    (howed := fun _ _ => rfl) (V := V m) (hmain := hmain m) (hA := fun _ _ => rfl)
    (hpf := V_tables m hp)
    (hin := fun c => by
      show iprop(Aside c ∗ Pipeline.prefHeld pre0 c (fun _ => fullShare.right) (adm hp).1) ⊢ iprop(Phi m c ∗ Aside c)
      rw [prefHeld_pair]
      unfold Phi
      iintro ⟨HA, HT0, HT1⟩
      isplitl [HT0 HT1]
      · isplitl [HT0]
        · iexact HT0
        iexact HT1
      iexact HA)
    (hout := fun c => by
      rw [show (dats m hp 0 c).Φ (Fin.last _) = iprop(Phi m c ∗ Aside c) from rfl]
      iintro ⟨-, HA⟩
      iexact HA)
    (Q' := fun r => Pipeline.FramePost (Pipeline.pin (pcfgs (F := F)) fun _ => adm hp) (dats m hp) 0 (V m) r ∧ r.2.sem = fun _ => 0)
    (hQ' := fun _ h => h)

/-- What the result array holds at the end. -/
def result (c : Dev nD) : Buf (Elt F) ((c : Thread nD τ).loc main_v10) := (dats m hp 0 c).arrAt (7 : Fin 8) (cfgA hp).N

theorem rest_kept {b : Ref sig .tc} (hb : b.isScoped = false) (ha : ∀ w : Fin 8, (spec0 w).arr.view.ref ≠ b) (hw : b ∉ written)
    {r : PUnit × MemSt nD τ sig (Elt F)} (h : Pipeline.FramePost (Pipeline.pin (pcfgs (F := F)) fun _ => adm hp) (dats m hp) 0 (V m) r) (c : Dev nD) :
    r.2.mem ((c : Thread nD τ).loc b) = m ((c : Thread nD τ).loc b) :=
  ((h c).2 b (Pipeline.mem_restRefs_of b hb ha)).trans (V_of_not_written m c b hw)

/-- Every run ends with the result array at `result`, the arguments as they were and every counter at zero. -/
theorem run_result (g : Dev nD → PrngReg) :
    θ_run (defs (F := F)) (onTc (τ := τ) (main (F := F))) ⟨m, fun _ => 0, g⟩
      (fun r => (∀ c : Dev nD, r.2.mem ((c : Thread nD τ).loc main_v10) = result m hp c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
        ∧ r.2.sem = fun _ => 0) :=
  (θ_run (defs (F := F)) _ _).mono (fun r h => ⟨fun c =>
    ⟨(h.1 c).1 (7 : Fin 8),
     rest_kept m hp rfl (by decide) (by decide) h.1 c,
     rest_kept m hp rfl (by decide) (by decide) h.1 c,
     ((h.1 c).1 (0 : Fin 8)).trans (((dats m hp 0 c).arrAt_in (0 : Fin 8) rfl _).trans (V_of_not_written m c main_arg2 (by decide))),
     rest_kept m hp rfl (by decide) (by decide) h.1 c,
     rest_kept m hp rfl (by decide) (by decide) h.1 c,
     rest_kept m hp rfl (by decide) (by decide) h.1 c,
     rest_kept m hp rfl (by decide) (by decide) h.1 c⟩, h.2⟩) (run_post m hp g)

end Cert.Experts

end
-- ==== Proof.Result.lean ====
/- What the result array holds at the end: block by block what the body computed there, and beyond the last block in use the rows as they came. -/
module

public import proofs.«01_k».proof.Proof.Launch
public import Idealize.ShloMosaic.Lib.Pipeline.ValueKit

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL.Sem
open Idealize.ShloMosaic.Pipeline (Dat Cfg Window)

variable {F : FTy → Type} [FloatOps F] [∀ e, Nonempty (Elt F e)]
variable (m : (ℓ : Loc nD τ sig) → Buf (Elt F) ℓ) (hp : InRange (tbl m))

/-- The grid's point `b`. -/
def at544 (b : ℕ) (h : b < 544) : Fin (cfgA hp).N := ⟨b, show b < grid0.N by rw [N_0]; exact h⟩

theorem point_lt (t : Fin (cfgA hp).N) : t.val < 544 := N_0 ▸ t.isLt

theorem block_lt (i : S1114112x128.Idx) : (i 0).val / 2048 < 544 := by
  have h : (i 0).val < 1114112 := (i 0).isLt
  omega

/-- Row block `b`, row `r` of it, lane `l`: what the body leaves there at point `b`. -/
def assembled (c : Dev nD) : S1114112x128.Idx → Elt F .f32 := fun i =>
  outAt m hp c (at544 m hp ((i 0).val / 2048) (block_lt i)) (ix2 (⟨(i 0).val % 2048, by omega⟩ : Fin 2048) (⟨(i 1).val, (i 1).isLt⟩ : Fin 128))

theorem out0 (t : Fin (cfgA hp).N) : ((cfgA hp).win 7).index t (0 : Fin 2) = min t.val (used (tbl m) - 1) := congrFun (index_out hp t) (0 : Fin 2)
theorem out1 (t : Fin (cfgA hp).N) : ((cfgA hp).win 7).index t (1 : Fin 2) = 0 := congrFun (index_out hp t) (1 : Fin 2)

/-- Where the output's block lies in the array. -/
def place (t : Fin (cfgA hp).N) (y : S2048x128.Idx) : S1114112x128.Idx := (((cfgA hp).win 7).blk t).view.emb y

theorem place0 (t : Fin (cfgA hp).N) (y : S2048x128.Idx) : (place m hp t y 0).val = 2048 * min t.val (used (tbl m) - 1) + (y 0).val := by
  unfold place
  blk_simp
  rw [out0]
  omega

theorem place1 (t : Fin (cfgA hp).N) (y : S2048x128.Idx) : (place m hp t y 1).val = (y 1).val := by
  unfold place
  blk_simp
  rw [out1]
  omega

theorem assembled_place (c : Dev nD) (t : Fin (cfgA hp).N) (y : S2048x128.Idx) : assembled m hp c (place m hp t y) = outAt m hp c (held m hp t) y := by
  have hy : (y 0).val < 2048 := (y 0).isLt
  have h0 := place0 m hp t y
  have h1 := place1 m hp t y
  have ht := point_lt m hp t
  have hq : at544 m hp ((place m hp t y 0).val / 2048) (block_lt _) = held m hp t :=
    Fin.ext (by show (place m hp t y 0).val / 2048 = min t.val (used (tbl m) - 1); omega)
  unfold assembled
  rw [hq]
  refine congrArg (outAt m hp c (held m hp t)) ?_
  funext a
  obtain rfl | rfl : a = (0 : Fin 2) ∨ a = (1 : Fin 2) := by revert a; decide
  · exact Fin.ext (by show (place m hp t y 0).val % 2048 = (y 0).val; omega)
  · exact Fin.ext h1

/-- A written-back block is a block of `assembled`. -/
theorem flushed_eq (c : Dev nD) (t : Fin (cfgA hp).N) :
    (dats m hp 0 c).flushed (7 : Fin 8) t = (((cfgA hp).win (7 : Fin 8)).blk t).view.read (Elt F) (assembled m hp c) := by
  funext y
  blk_simp
  rw [after7]
  exact (assembled_place m hp c t y).symm

/-- An index whose row block is the held one lies in the block written at `t`. -/
theorem mem_of_block (t : Fin (cfgA hp).N) (i : S1114112x128.Idx) (h : (i 0).val / 2048 = min t.val (used (tbl m) - 1)) :
    i ∈ (((cfgA hp).win (7 : Fin 8)).blk t).view.set := by
  have hy : (i 0).val % 2048 < 2048 := Nat.mod_lt _ (by decide)
  have e : place m hp t (ix2 (⟨(i 0).val % 2048, hy⟩ : Fin 2048) (⟨(i 1).val, (i 1).isLt⟩ : Fin 128)) = i := by
    funext a
    obtain rfl | rfl : a = (0 : Fin 2) ∨ a = (1 : Fin 2) := by revert a; decide
    · refine Fin.ext ((place0 m hp t _).trans ?_)
      show 2048 * min t.val (used (tbl m) - 1) + (i 0).val % 2048 = (i 0).val
      omega
    · exact Fin.ext (place1 m hp t _)
  exact Finset.mem_map.mpr ⟨_, Finset.mem_univ _, e⟩

theorem block_of_mem (t : Fin (cfgA hp).N) (i : S1114112x128.Idx) (h : i ∈ (((cfgA hp).win (7 : Fin 8)).blk t).view.set) :
    (i 0).val / 2048 = min t.val (used (tbl m) - 1) := by
  obtain ⟨y, -, e⟩ := Finset.mem_map.mp h
  have e' : place m hp t y = i := e
  have h0 := place0 m hp t y
  have hz : ∀ z : S2048x128.Idx, (z 0).val < 2048 := fun z => (z 0).isLt
  have hy := hz y
  rw [← e']
  omega

theorem result_live (c : Dev nD) (i : S1114112x128.Idx) (h : (i 0).val / 2048 < used (tbl m)) : result m hp c i = assembled m hp c i := by
  have hb := block_lt i
  by_cases hl : (i 0).val / 2048 + 1 < used (tbl m)
  · exact (dats m hp 0 c).arrAt_apply_of_mem (7 : Fin 8) (assembled m hp c) (fun t _ => flushed_eq m hp c t) _
      (at544 m hp ((i 0).val / 2048) (block_lt i)) i (Fin.isLt _) ((flush_out hp _).trans (decide_eq_true (.inr hl)))
      (mem_of_block m hp _ i (by show (i 0).val / 2048 = min ((i 0).val / 2048) (used (tbl m) - 1); omega))
  · exact (dats m hp 0 c).arrAt_apply_of_mem (7 : Fin 8) (assembled m hp c) (fun t _ => flushed_eq m hp c t) _
      (at544 m hp 543 (by decide)) i (Fin.isLt _) ((flush_out hp _).trans (decide_eq_true (.inl (by show 543 + 1 = 544; rfl))))
      (mem_of_block m hp _ i (by show (i 0).val / 2048 = min 543 (used (tbl m) - 1); omega))

theorem result_idle (c : Dev nD) (i : S1114112x128.Idx) (h : ¬ (i 0).val / 2048 < used (tbl m)) : result m hp c i = V m c main_v10 i := by
  have hu := hp.used_pos
  exact (dats m hp 0 c).arrAt_apply_of_forall_not_mem (7 : Fin 8) _ i (fun t _ _ hm => by
    have := block_of_mem m hp t i hm
    omega)

/-! ## The windows' arrays as the launch finds them -/

theorem V_v10 (c : Dev nD) : V m c main_v10 = m ((c : Thread nD τ).loc main_arg2) := by
  unfold V; after_results; try rfl

theorem V_v1 (c : Dev nD) : (V m c main_v1 : S32x1024x1024.Idx → Elt F .bf16)
    = truncf .bf16 (Host.slice S32x1024x1024 ![0, 0, 0] ![1, 1, 2] (m ((c : Thread nD τ).loc main_arg3)) slicesBy_S32x1024x2048_S32x1024x1024_0s1_0s1_0s2) bitsLt_bf16_f32 := by
  unfold V; after_results; try rfl

theorem V_v3 (c : Dev nD) : (V m c main_v3 : S32x1024x1024.Idx → Elt F .bf16)
    = truncf .bf16 (Host.slice S32x1024x1024 ![0, 0, 1] ![1, 1, 2] (m ((c : Thread nD τ).loc main_arg3)) slicesBy_S32x1024x2048_S32x1024x1024_0s1_0s1_1s2) bitsLt_bf16_f32 := by
  unfold V; after_results; try rfl

theorem V_v5 (c : Dev nD) : (V m c main_v5 : S32x1x1024.Idx → Elt F .f32)
    = shapeCast _ (Host.slice S32x1024 ![0, 0] ![1, 2] (m ((c : Thread nD τ).loc main_arg4)) slicesBy_S32x2048_S32x1024_0s1_0s2) shapeCasts_S32x1024_S32x1x1024 := by
  unfold V; after_results; try rfl

theorem V_v7 (c : Dev nD) : (V m c main_v7 : S32x1x1024.Idx → Elt F .f32)
    = shapeCast _ (Host.slice S32x1024 ![0, 1] ![1, 2] (m ((c : Thread nD τ).loc main_arg4)) slicesBy_S32x2048_S32x1024_0s1_1s2) shapeCasts_S32x1024_S32x1x1024 := by
  unfold V; after_results; try rfl

theorem V_v8 (c : Dev nD) : (V m c main_v8 : S32x1024x1024.Idx → Elt F .bf16)
    = truncf .bf16 (m ((c : Thread nD τ).loc main_arg5)) bitsLt_bf16_f32 := by
  unfold V; after_results; try rfl

theorem V_v9 (c : Dev nD) : (V m c main_v9 : S32x1x1024.Idx → Elt F .f32)
    = shapeCast _ (m ((c : Thread nD τ).loc main_arg6)) shapeCasts_S32x1024_S32x1x1024 := by
  unfold V; after_results; try rfl

/-! ## The blocks the body reads -/

theorem in0 (t : Fin (cfgA hp).N) : ((cfgA hp).win 0).index t = ![min t.val (used (tbl m) - 1), 0] := by
  rw [show ((cfgA hp).win 0).index t = _ from transform_rows_in hp (grid0.coords t), coords_val]

/-- The expert of a point's block. -/
def expertAt (t : Fin (cfgA hp).N) : Fin 32 := ⟨expert (tbl m) t.val (point_lt m hp t), expert_lt hp _ _⟩

theorem in1 (t : Fin (cfgA hp).N) : ((cfgA hp).win 1).index t = ![(expertAt m hp t).val, 0, 0] := by
  refine (show ((cfgA hp).win 1).index t = _ from transform_expert (grid0.coords t)).trans ?_
  have h := coords_val t
  have e : ∀ b (hb : b < 544), b = t.val → (![expert (tbl m) b hb, 0, 0] : Fin 3 → ℕ) = ![(expertAt m hp t).val, 0, 0] := by
    intro b hb q
    subst q
    rfl
  exact e _ _ h

theorem in2 (t : Fin (cfgA hp).N) : ((cfgA hp).win 2).index t = ![(expertAt m hp t).val, 0, 0] := in1 m hp t
theorem in3 (t : Fin (cfgA hp).N) : ((cfgA hp).win 3).index t = ![(expertAt m hp t).val, 0, 0] := in1 m hp t
theorem in4 (t : Fin (cfgA hp).N) : ((cfgA hp).win 4).index t = ![(expertAt m hp t).val, 0, 0] := in1 m hp t
theorem in5 (t : Fin (cfgA hp).N) : ((cfgA hp).win 5).index t = ![(expertAt m hp t).val, 0, 0] := in1 m hp t
theorem in6 (t : Fin (cfgA hp).N) : ((cfgA hp).win 6).index t = ![(expertAt m hp t).val, 0, 0] := in1 m hp t

theorem rows_at (c : Dev nD) (t : Fin (cfgA hp).N) (r : Fin 2048) (l : Fin 128) :
    iblk m hp c (0 : Fin 8) t (ix2 r l) = V m c main_arg2 (ix2 (⟨2048 * min t.val (used (tbl m) - 1) + r.val, by have := point_lt m hp t; omega⟩ : Fin 1114112) l) := by
  have e := in0 m hp t
  blk_ext [iblk]
  · refine (congrArg (fun n => n * 2048 + r.val) (congrFun e (0 : Fin 2))).trans ?_
    show min t.val (used (tbl m) - 1) * 2048 + r.val = 2048 * min t.val (used (tbl m) - 1) + r.val
    omega
  · refine (congrArg (fun n => n * 128 + l.val) (congrFun e (1 : Fin 2))).trans ?_
    show 0 * 128 + l.val = l.val
    omega

theorem gates_at (c : Dev nD) (t : Fin (cfgA hp).N) (k f : Fin 1024) :
    iblk m hp c (1 : Fin 8) t (ix3 (0 : Fin 1) k f) = V m c main_v1 (ix3 (expertAt m hp t) k f) := by
  have e := in1 m hp t
  blk_ext [iblk]
  · exact congrArg (fun n => n + 0) (congrFun e (0 : Fin 3))
  · refine (congrArg (fun n => n * 1024 + k.val) (congrFun e (1 : Fin 3))).trans ?_
    show 0 * 1024 + k.val = k.val
    omega
  · refine (congrArg (fun n => n * 1024 + f.val) (congrFun e (2 : Fin 3))).trans ?_
    show 0 * 1024 + f.val = f.val
    omega

theorem ups_at (c : Dev nD) (t : Fin (cfgA hp).N) (k f : Fin 1024) :
    iblk m hp c (2 : Fin 8) t (ix3 (0 : Fin 1) k f) = V m c main_v3 (ix3 (expertAt m hp t) k f) := by
  have e := in2 m hp t
  blk_ext [iblk]
  · exact congrArg (fun n => n + 0) (congrFun e (0 : Fin 3))
  · refine (congrArg (fun n => n * 1024 + k.val) (congrFun e (1 : Fin 3))).trans ?_
    show 0 * 1024 + k.val = k.val
    omega
  · refine (congrArg (fun n => n * 1024 + f.val) (congrFun e (2 : Fin 3))).trans ?_
    show 0 * 1024 + f.val = f.val
    omega

theorem gateBiases_at (c : Dev nD) (t : Fin (cfgA hp).N) (f : Fin 1024) :
    iblk m hp c (3 : Fin 8) t (ix3 (0 : Fin 1) (0 : Fin 1) f) = V m c main_v5 (ix3 (expertAt m hp t) (0 : Fin 1) f) := by
  have e := in3 m hp t
  blk_ext [iblk]
  · exact congrArg (fun n => n + 0) (congrFun e (0 : Fin 3))
  · exact congrArg (fun n => n + 0) (congrFun e (1 : Fin 3))
  · refine (congrArg (fun n => n * 1024 + f.val) (congrFun e (2 : Fin 3))).trans ?_
    show 0 * 1024 + f.val = f.val
    omega

theorem upBiases_at (c : Dev nD) (t : Fin (cfgA hp).N) (f : Fin 1024) :
    iblk m hp c (4 : Fin 8) t (ix3 (0 : Fin 1) (0 : Fin 1) f) = V m c main_v7 (ix3 (expertAt m hp t) (0 : Fin 1) f) := by
  have e := in4 m hp t
  blk_ext [iblk]
  · exact congrArg (fun n => n + 0) (congrFun e (0 : Fin 3))
  · exact congrArg (fun n => n + 0) (congrFun e (1 : Fin 3))
  · refine (congrArg (fun n => n * 1024 + f.val) (congrFun e (2 : Fin 3))).trans ?_
    show 0 * 1024 + f.val = f.val
    omega

theorem downs_at (c : Dev nD) (t : Fin (cfgA hp).N) (k f : Fin 1024) :
    iblk m hp c (5 : Fin 8) t (ix3 (0 : Fin 1) k f) = V m c main_v8 (ix3 (expertAt m hp t) k f) := by
  have e := in5 m hp t
  blk_ext [iblk]
  · exact congrArg (fun n => n + 0) (congrFun e (0 : Fin 3))
  · refine (congrArg (fun n => n * 1024 + k.val) (congrFun e (1 : Fin 3))).trans ?_
    show 0 * 1024 + k.val = k.val
    omega
  · refine (congrArg (fun n => n * 1024 + f.val) (congrFun e (2 : Fin 3))).trans ?_
    show 0 * 1024 + f.val = f.val
    omega

theorem downBiases_at (c : Dev nD) (t : Fin (cfgA hp).N) (f : Fin 1024) :
    iblk m hp c (6 : Fin 8) t (ix3 (0 : Fin 1) (0 : Fin 1) f) = V m c main_v9 (ix3 (expertAt m hp t) (0 : Fin 1) f) := by
  have e := in6 m hp t
  blk_ext [iblk]
  · exact congrArg (fun n => n + 0) (congrFun e (0 : Fin 3))
  · exact congrArg (fun n => n + 0) (congrFun e (1 : Fin 3))
  · refine (congrArg (fun n => n * 1024 + f.val) (congrFun e (2 : Fin 3))).trans ?_
    show 0 * 1024 + f.val = f.val
    omega

end Cert.Experts

end
-- ==== Proof.Pick.lean ====
/- A gather that picks whole members of an array by one index each, read at an index. -/
module

public import Idealize.ShloMosaic.Lib.Pointwise

@[expose] public section

noncomputable section

namespace Cert.Experts

open Idealize.ShloMosaic

variable {α : Type}

/-- Members of an array of matrices: operand `[N, A, B]`, indices `[n, 1]`, result `[n, A, B]`. -/
abbrev pick3 (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Members of an array of rows: operand `[N, A]`, indices `[n, 1]`, result `[n, A]`. -/
abbrev pick2 (N A n : ℕ) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

/-- The matrix picked for `b` is the one its index names, when that is one of the array's. -/
theorem gather_pick3 {N A B n w : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (p : Fin A) (q : Fin B) (e : Fin N)
    (he : (idx (ix2 b 0)).toInt.toNat = e.val) :
    Host.gather (pick3 N A B n wf) x idx (ix3 b p q) = x (ix3 e p q) := by
  unfold Host.gather
  congr 1
  funext a
  refine Fin.ext ?_
  show (pick3 N A B n wf).start (ix3 b p q) idx a + (pick3 N A B n wf).batchCoord (ix3 b p q) a + (pick3 N A B n wf).offCoord (ix3 b p q) a = _
  rw [GatherDims.batchCoord_eq_zero _ _ _ List.not_mem_nil]
  unfold GatherDims.start
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)),
      dif_pos (show (0 : Fin 3) ∈ (pick3 N A B n wf).startIndexMap from List.mem_singleton.mpr rfl)]
    have hsi : (pick3 N A B n wf).siIdx (ix3 b p q) ⟨List.idxOf (0 : Fin 3) (pick3 N A B n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, he]
    show min e.val (N - 1) + 0 + 0 = e.val
    have := e.isLt
    omega
  · rw [dif_neg (show (1 : Fin 3) ∉ (pick3 N A B n wf).startIndexMap from fun h => absurd (show (1 : Fin 3) = 0 from List.mem_singleton.mp h) (by decide))]
    show 0 + 0 + (pick3 N A B n wf).offCoord (ix3 b p q) 1 = p.val
    unfold GatherDims.offCoord
    rw [dif_pos ((GatherDims.mem_sKept _ _).mpr ⟨fun h => absurd (show (1 : Fin 3) = 0 from List.mem_singleton.mp h) (by decide), List.not_mem_nil⟩)]
    exact (Nat.zero_add _).trans rfl
  · rw [dif_neg (show (2 : Fin 3) ∉ (pick3 N A B n wf).startIndexMap from fun h => absurd (show (2 : Fin 3) = 0 from List.mem_singleton.mp h) (by decide))]
    show 0 + 0 + (pick3 N A B n wf).offCoord (ix3 b p q) 2 = q.val
    unfold GatherDims.offCoord
    rw [dif_pos ((GatherDims.mem_sKept _ _).mpr ⟨fun h => absurd (show (2 : Fin 3) = 0 from List.mem_singleton.mp h) (by decide), List.not_mem_nil⟩)]
    exact (Nat.zero_add _).trans rfl

/-- The row picked for `b` likewise. -/
theorem gather_pick2 {N A n w : ℕ} (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ w) (b : Fin n) (p : Fin A) (e : Fin N)
    (he : (idx (ix2 b 0)).toInt.toNat = e.val) :
    Host.gather (pick2 N A n wf) x idx (ix2 b p) = x (ix2 e p) := by
  unfold Host.gather
  congr 1
  funext a
  refine Fin.ext ?_
  show (pick2 N A n wf).start (ix2 b p) idx a + (pick2 N A n wf).batchCoord (ix2 b p) a + (pick2 N A n wf).offCoord (ix2 b p) a = _
  rw [GatherDims.batchCoord_eq_zero _ _ _ List.not_mem_nil]
  unfold GatherDims.start
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)),
      dif_pos (show (0 : Fin 2) ∈ (pick2 N A n wf).startIndexMap from List.mem_singleton.mpr rfl)]
    have hsi : (pick2 N A n wf).siIdx (ix2 b p) ⟨List.idxOf (0 : Fin 2) (pick2 N A n wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi, he]
    show min e.val (N - 1) + 0 + 0 = e.val
    have := e.isLt
    omega
  · rw [dif_neg (show (1 : Fin 2) ∉ (pick2 N A n wf).startIndexMap from fun h => absurd (show (1 : Fin 2) = 0 from List.mem_singleton.mp h) (by decide))]
    show 0 + 0 + (pick2 N A n wf).offCoord (ix2 b p) 1 = p.val
    unfold GatherDims.offCoord
    rw [dif_pos ((GatherDims.mem_sKept _ _).mpr ⟨fun h => absurd (show (1 : Fin 2) = 0 from List.mem_singleton.mp h) (by decide), List.not_mem_nil⟩)]
    exact (Nat.zero_add _).trans rfl

end Cert.Experts

end
-- ==== Proof.Expert.lean ====
/- One expert's feed-forward on one row, as both programs compute it; and the kernel's block at an index. -/
module

public import proofs.«01_k».proof.Proof.Block
public import Idealize.ShloMosaic.Lib.Pointwise

@[expose] public section

set_option maxRecDepth 16384

noncomputable section

namespace Cert.Experts

open Cert.KernelIdeal Cert.KernelIdeal.Gen
open Idealize.ShloMosaic

/-- The clamp's bounds 7 and −7, and the gate's slope 1.702, as the programs write them. -/
abbrev top : EReal := Ideal.ofBits .f32 0x40E00000#32
abbrev bot : EReal := Ideal.ofBits .f32 0xC0E00000#32
abbrev slope : EReal := Ideal.ofBits .f32 0x3FD9DB23#32

/-- The activation of a gate and an up projection: `(clip up + 1) · (g · σ(1.702 g))` with `g = min(gate, 7)`. -/
def act (gate up : EReal) : EReal := (min top (max bot up) + 1) * (min gate top * Ideal.logistic (slope * min gate top))

/-- The feed-forward of the row `x` at lane `d`. -/
def ffn (x : Fin 1024 → EReal) (wg wu : Fin 1024 → Fin 1024 → EReal) (bg bu : Fin 1024 → EReal) (wd : Fin 1024 → EReal) (bd : EReal) : EReal :=
  (∑ f, act ((∑ k, x k * wg k f) + bg f) ((∑ k, x k * wu k f) + bu f) * wd f) + bd

/-- The eight row groups side by side are the rows of 1024. -/
theorem joined_at (x0 : FVec Ideal S2048x128 .f32) (r : Fin 256) (k : Fin 1024) :
    k0_pay2 (F := Ideal) (rows x0 e0) (rows x0 e1) (rows x0 e2) (rows x0 e3) (rows x0 e4) (rows x0 e5) (rows x0 e6) (rows x0 e7) (ix2 r k)
      = x0 (ix2 (⟨8 * r.val + k.val / 128, by omega⟩ : Fin 2048) (⟨k.val % 128, by omega⟩ : Fin 128)) := by
  pointwise [k0_pay2, rows]
  repeat' split
  all_goals
    refine congrArg₂ (fun a b => x0 (ix2 a b)) (Fin.ext ?_) (Fin.ext ?_)
    all_goals
      dsimp only
      omega

/-- The block's row `r` at lane `d` is the feed-forward of that row of the block's rows with the block's weights. -/
theorem blockY_at (x0 : FVec Ideal S2048x128 .f32) (x1 x2 : FVec Ideal S1x1024x1024 .bf16) (x3 x4 : FVec Ideal S1x1x1024 .f32)
    (x5 : FVec Ideal S1x1024x1024 .bf16) (x6 : FVec Ideal S1x1x1024 .f32) (r : Fin 256) (d : Fin 1024) :
    blockY (F := Ideal) x0 x1 x2 x3 x4 x5 x6 (ix2 r d)
      = ffn (fun k => x0 (ix2 (⟨8 * r.val + k.val / 128, by omega⟩ : Fin 2048) (⟨k.val % 128, by omega⟩ : Fin 128)))
          (fun k f => x1 (ix3 0 k f)) (fun k f => x2 (ix3 0 k f)) (fun f => x3 (ix3 0 0 f)) (fun f => x4 (ix3 0 0 f))
          (fun f => x5 (ix3 0 f d)) (x6 (ix3 0 0 d)) := by
  pointwise [blockY, k0_pay3, k0_pay4, k0_pay5, k0_pay6]
  simp only [joined_at]
  rfl

end Cert.Experts

end
-- ==== Proof.Reference.lean ====
/- What the reference computes: the blocks in use through their expert's feed-forward, row by row, and the other rows as they were. -/
module

public import proofs.«01_k».proof.Proof.Gen.ReferenceIdeal.Run
public import proofs.«01_k».proof.Proof.Pick
public import proofs.«01_k».proof.Proof.Expert

@[expose] public section

set_option maxRecDepth 16384

noncomputable section

namespace Cert.Experts.Reference

open Cert.ReferenceIdeal Cert.ReferenceIdeal.Gen Cert.ReferenceIdeal.Value
open Idealize.ShloMosaic
open Idealize.ShloMosaic.TcCoe Idealize.SL.Sem

/-! ## The reference's term in pieces -/

/-- The block's experts as the gathers take them: a negative entry counted from the end. -/
def index (T : IVec S544 32) : IVec S544x1 32 :=
  broadcastInDim S544x1 ![0] bcast_S544_S544x1_0
    (select (cmpi .slt T (broadcastInDim S544 ![] bcast_S_S544 (constantI S_ 32 0#32))) (addi T (broadcastInDim S544 ![] bcast_S_S544 (constantI S_ 32 32#32))) T)

/-- The rows, block by block. -/
def blocks (X : FVec Ideal S1114112x128 .f32) : FVec Ideal S544x256x1024 .f32 := shapeCast _ X shapeCasts_S1114112x128_S544x256x1024

/-- The first product with its bias, gate and up projection interleaved. -/
def hidden (T : IVec S544 32) (X : FVec Ideal S1114112x128 .f32) (W : FVec Ideal S32x1024x2048 .f32) (B : FVec Ideal S32x2048 .f32) :
    FVec Ideal S544x256x2048 .f32 :=
  addf (Host.dotGeneral dot_S544x256x1024_S544x1024x2048_S544x256x2048_2_1_1_2_0_0 none (blocks X)
      (Host.gather gather_S32x1024x2048_S544x1_S544x1024x2048_12_0_n_n_0_1_110242048 W (index T)))
    (broadcastInDim S544x256x2048 ![0, 1, 2] bcast_S544x1x2048_S544x256x2048_0_1_2 (broadcastInDim S544x1x2048 ![0, 2] bcast_S544x2048_S544x1x2048_0_2
      (Host.gather gather_S32x2048_S544x1_S544x2048_1_0_n_n_0_1_12048 B (index T))))

/-- The gate, cut at 7. -/
def gate (H : FVec Ideal S544x256x2048 .f32) : FVec Ideal S544x256x1024 .f32 :=
  minimumf (Host.slice S544x256x1024 ![0, 0, 0] ![1, 1, 2] H slicesBy_S544x256x2048_S544x256x1024_0s1_0s1_0s2)
    (broadcastInDim S544x256x1024 ![] bcast_S_S544x256x1024 (constant S_ .f32 0x40E00000#32))

/-- The activation of the interleaved projections. -/
def active (H : FVec Ideal S544x256x2048 .f32) : FVec Ideal S544x256x1024 .f32 :=
  mulf (addf (minimumf (broadcastInDim S544x256x1024 ![] bcast_S_S544x256x1024 (id (constant S_ .f32 0x40E00000#32)))
      (maximumf (broadcastInDim S544x256x1024 ![] bcast_S_S544x256x1024 (id (constant S_ .f32 0xC0E00000#32)))
        (Host.slice S544x256x1024 ![0, 0, 1] ![1, 1, 2] H slicesBy_S544x256x2048_S544x256x1024_0s1_0s1_1s2)))
      (broadcastInDim S544x256x1024 ![] bcast_S_S544x256x1024 (constant S_ .f32 0x3F800000#32)))
    (mulf (gate H) (Host.divf (broadcastInDim S544x256x1024 ![] bcast_S_S544x256x1024 (constant S_ .f32 0x3F800000#32))
      (addf (broadcastInDim S544x256x1024 ![] bcast_S_S544x256x1024 (constant S_ .f32 0x3F800000#32))
        (Host.exp (Host.negf (mulf (broadcastInDim S544x256x1024 ![] bcast_S_S544x256x1024 (constant S_ .f32 0x3FD9DB23#32)) (gate H)))))))

/-- The second product with its bias. -/
def outcome (T : IVec S544 32) (A : FVec Ideal S544x256x1024 .f32) (D : FVec Ideal S32x1024x1024 .f32) (B : FVec Ideal S32x1024 .f32) :
    FVec Ideal S544x256x1024 .f32 :=
  addf (Host.dotGeneral dot_S544x256x1024_S544x1024x1024_S544x256x1024_2_1_1_2_0_0 none A
      (Host.gather gather_S32x1024x1024_S544x1_S544x1024x1024_12_0_n_n_0_1_110241024 D (index T)))
    (broadcastInDim S544x256x1024 ![0, 1, 2] bcast_S544x1x1024_S544x256x1024_0_1_2 (broadcastInDim S544x1x1024 ![0, 2] bcast_S544x1024_S544x1x1024_0_2
      (Host.gather gather_S32x1024_S544x1_S544x1024_1_0_n_n_0_1_11024 B (index T))))

/-- Which blocks are in use, over a block's rows. -/
def inUse (U : IVec S1 32) : IVec S544x256x1024 1 :=
  broadcastInDim S544x256x1024 ![0, 1, 2] bcast_S544x1x1_S544x256x1024_0_1_2 (broadcastInDim S544x1x1 ![0] bcast_S544_S544x1x1_0
    (cmpi .slt (iotaInDim S544 32 0) (broadcastInDim S544 ![] bcast_S_S544 (shapeCast _ U shapeCasts_S1_S_))))

/-- The whole. -/
def whole (T : IVec S544 32) (U : IVec S1 32) (X : FVec Ideal S1114112x128 .f32) (W : FVec Ideal S32x1024x2048 .f32) (B : FVec Ideal S32x2048 .f32)
    (D : FVec Ideal S32x1024x1024 .f32) (C : FVec Ideal S32x1024 .f32) : FVec Ideal S1114112x128 .f32 :=
  shapeCast _ (select (inUse U) (outcome T (active (hidden T X W B)) D C) (blocks X)) shapeCasts_S544x256x1024_S1114112x128

theorem res_eq (m : (ℓ : Loc nD τ sig) → Buf (Elt Ideal) ℓ) (c : Dev nD) :
    res_main_v60 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold res_main_v60 whole inUse outcome active gate hidden blocks index
  rfl

/-! ## The pieces at an index -/

theorem index_at (T : IVec S544 32) (b : Fin 544) (e : Fin 32) (h : (T (ix1 b)).toNat = e.val) : (index T (ix2 b 0)).toInt.toNat = e.val := by
  pointwise [index]
  have he := e.isLt
  have hz : (T (ix1 b)).toInt = (e.val : Int) := by rw [BitVec.toInt, if_pos (by omega), h]
  have hc : IntOp.cmpi CmpIPredicate.slt (T (ix1 b)) 0#32 = 0#1 := by
    show BitVec.ofBool (decide ((T (ix1 b)).toInt < (0 : Int))) = 0#1
    rw [hz, decide_eq_false (by omega)]
    rfl
  rw [hc]
  show (T (ix1 b)).toInt.toNat = e.val
  rw [hz]
  rfl

theorem blocks_at (X : FVec Ideal S1114112x128 .f32) (b : Fin 544) (r : Fin 256) (k : Fin 1024) :
    blocks X (ix3 b r k) = X (ix2 (⟨2048 * b.val + 8 * r.val + k.val / 128, by omega⟩ : Fin 1114112) (⟨k.val % 128, by omega⟩ : Fin 128)) := by
  pointwise [blocks]
  exact congrArg X (congrArg (fun i => ix2 i _) (Fin.ext (by show b.val * 2048 + r.val * 8 + k.val / 128 = 2048 * b.val + 8 * r.val + k.val / 128; omega)))

theorem active_at (H : FVec Ideal S544x256x2048 .f32) (b : Fin 544) (r : Fin 256) (f : Fin 1024) :
    active H (ix3 b r f) = act (H (ix3 b r (⟨2 * f.val, by omega⟩ : Fin 2048))) (H (ix3 b r (⟨2 * f.val + 1, by omega⟩ : Fin 2048))) := by
  have hf : (⟨1 + 2 * f.val, by omega⟩ : Fin 2048) = ⟨2 * f.val + 1, by omega⟩ := Fin.ext (Nat.add_comm _ _)
  pointwise [active, gate, act]
  rw [hf]
  rfl

theorem hidden_at (T : IVec S544 32) (X : FVec Ideal S1114112x128 .f32) (W : FVec Ideal S32x1024x2048 .f32) (B : FVec Ideal S32x2048 .f32)
    (b : Fin 544) (r : Fin 256) (p : Fin 2048) (e : Fin 32) (h : (T (ix1 b)).toNat = e.val) :
    hidden T X W B (ix3 b r p) = (∑ k, blocks X (ix3 b r k) * W (ix3 e k p)) + B (ix2 e p) := by
  have hw (k : Fin 1024) : Host.gather gather_S32x1024x2048_S544x1_S544x1024x2048_12_0_n_n_0_1_110242048 W (index T) (ix3 b k p) = W (ix3 e k p) :=
    gather_pick3 _ W (index T) b k p e (index_at T b e h)
  have hb : Host.gather gather_S32x2048_S544x1_S544x2048_1_0_n_n_0_1_12048 B (index T) (ix2 b p) = B (ix2 e p) :=
    gather_pick2 _ B (index T) b p e (index_at T b e h)
  pointwise [hidden]
  simp only [hw, hb]

theorem outcome_at (T : IVec S544 32) (A : FVec Ideal S544x256x1024 .f32) (D : FVec Ideal S32x1024x1024 .f32) (C : FVec Ideal S32x1024 .f32)
    (b : Fin 544) (r : Fin 256) (p : Fin 1024) (e : Fin 32) (h : (T (ix1 b)).toNat = e.val) :
    outcome T A D C (ix3 b r p) = (∑ f, A (ix3 b r f) * D (ix3 e f p)) + C (ix2 e p) := by
  have hw (k : Fin 1024) : Host.gather gather_S32x1024x1024_S544x1_S544x1024x1024_12_0_n_n_0_1_110241024 D (index T) (ix3 b k p) = D (ix3 e k p) :=
    gather_pick3 _ D (index T) b k p e (index_at T b e h)
  have hb : Host.gather gather_S32x1024_S544x1_S544x1024_1_0_n_n_0_1_11024 C (index T) (ix2 b p) = C (ix2 e p) :=
    gather_pick2 _ C (index T) b p e (index_at T b e h)
  pointwise [outcome]
  simp only [hw, hb]

theorem inUse_at (U : IVec S1 32) (b : Fin 544) (r : Fin 256) (k : Fin 1024) (hU : (U (ix1 0)).toNat < 2 ^ 31) :
    inUse U (ix3 b r k) = if b.val < (U (ix1 0)).toNat then 1#1 else 0#1 := by
  pointwise [inUse]
  have hb := b.isLt
  have hv : (BitVec.ofNat 32 b.val).toNat = b.val := by rw [BitVec.toNat_ofNat]; exact Nat.mod_eq_of_lt (by omega)
  simp only [IntOp.cmpi, BitVec.slt, BitVec.toInt, hv]
  rw [if_pos (by omega), if_pos (by omega)]
  by_cases hl : b.val < (U (ix1 0)).toNat
  · rw [if_pos hl, decide_eq_true (by omega)]
    rfl
  · rw [if_neg hl, decide_eq_false (by omega)]
    rfl

/-- A row's value in terms of the arguments: row `r` of block `b`, lane `d`, the block in the hands of expert `e`. -/
def row (X : FVec Ideal S1114112x128 .f32) (W : FVec Ideal S32x1024x2048 .f32) (B : FVec Ideal S32x2048 .f32) (D : FVec Ideal S32x1024x1024 .f32)
    (C : FVec Ideal S32x1024 .f32) (e : Fin 32) (b : Fin 544) (r : Fin 256) (d : Fin 1024) : EReal :=
  ffn (fun k => X (ix2 (⟨2048 * b.val + 8 * r.val + k.val / 128, by omega⟩ : Fin 1114112) (⟨k.val % 128, by omega⟩ : Fin 128)))
    (fun k f => W (ix3 e k (⟨2 * f.val, by omega⟩ : Fin 2048))) (fun k f => W (ix3 e k (⟨2 * f.val + 1, by omega⟩ : Fin 2048)))
    (fun f => B (ix2 e (⟨2 * f.val, by omega⟩ : Fin 2048))) (fun f => B (ix2 e (⟨2 * f.val + 1, by omega⟩ : Fin 2048)))
    (fun f => D (ix3 e f d)) (C (ix2 e d))

theorem whole_live (T : IVec S544 32) (U : IVec S1 32) (X : FVec Ideal S1114112x128 .f32) (W : FVec Ideal S32x1024x2048 .f32) (B : FVec Ideal S32x2048 .f32)
    (D : FVec Ideal S32x1024x1024 .f32) (C : FVec Ideal S32x1024 .f32) (hU : (U (ix1 0)).toNat < 2 ^ 31) (i : Fin 1114112) (l : Fin 128) (e : Fin 32)
    (he : (T (ix1 (⟨i.val / 2048, by omega⟩ : Fin 544))).toNat = e.val) (hi : i.val / 2048 < (U (ix1 0)).toNat) :
    whole T U X W B D C (ix2 i l) =
      row X W B D C e (⟨i.val / 2048, by omega⟩ : Fin 544) (⟨i.val / 8 % 256, by omega⟩ : Fin 256) (⟨i.val % 8 * 128 + l.val, by omega⟩ : Fin 1024) := by
  pointwise [whole]
  rw [inUse_at U _ _ _ hU, if_pos hi]
  show outcome T (active (hidden T X W B)) D C _ = _
  rw [outcome_at T _ D C _ _ _ e he]
  simp only [active_at, hidden_at T X W B _ _ _ e he, blocks_at]
  rfl

theorem whole_idle (T : IVec S544 32) (U : IVec S1 32) (X : FVec Ideal S1114112x128 .f32) (W : FVec Ideal S32x1024x2048 .f32) (B : FVec Ideal S32x2048 .f32)
    (D : FVec Ideal S32x1024x1024 .f32) (C : FVec Ideal S32x1024 .f32) (hU : (U (ix1 0)).toNat < 2 ^ 31) (i : Fin 1114112) (l : Fin 128)
    (hi : ¬ i.val / 2048 < (U (ix1 0)).toNat) :
    whole T U X W B D C (ix2 i l) = X (ix2 i l) := by
  pointwise [whole]
  rw [inUse_at U _ _ _ hU, if_neg hi]
  show blocks X _ = _
  rw [blocks_at]
  have hl := l.isLt
  have h1 : (⟨2048 * (i.val / 2048) + 8 * (i.val / 8 % 256) + (i.val % 8 * 128 + l.val) / 128, by omega⟩ : Fin 1114112) = i := Fin.ext (by dsimp only; omega)
  have h2 : (⟨(i.val % 8 * 128 + l.val) % 128, by omega⟩ : Fin 128) = l := Fin.ext (by dsimp only; omega)
  exact congrArg₂ (fun a b => X (ix2 a b)) h1 h2

end Cert.Experts.Reference

end
-- ==== Proof.Equation.lean ====
/- Kernel and reference agree: at every index of the result both are the same expression of the arguments. -/
module

public import proofs.«01_k».proof.Proof.Result
public import proofs.«01_k».proof.Proof.Reference

@[expose] public section

set_option maxRecDepth 16384
set_option Elab.async false

noncomputable section

namespace Cert.Experts

open Cert.KernelIdeal Cert.KernelIdeal.Gen
open Idealize.ShloMosaic
open Idealize.ShloMosaic.TcCoe Idealize.ShloMosaic.Tactic
open Idealize.SL.Sem

variable (m : (ℓ : Loc nD τ sig) → Buf (Elt Ideal) ℓ) (hp : InRange (tbl m))

/-! ## The prepared weights at an index -/

theorem odd (f : Fin 1024) : (⟨1 + 2 * f.val, by omega⟩ : Fin 2048) = ⟨2 * f.val + 1, by omega⟩ := Fin.ext (Nat.add_comm _ _)

theorem gates_val (c : Dev nD) (e : Fin 32) (k f : Fin 1024) :
    V m c main_v1 (ix3 e k f) = m ((c : Thread nD τ).loc main_arg3) (ix3 e k (⟨2 * f.val, by omega⟩ : Fin 2048)) := by
  refine (congrFun (V_v1 m c) _).trans ?_
  pointwise []

theorem ups_val (c : Dev nD) (e : Fin 32) (k f : Fin 1024) :
    V m c main_v3 (ix3 e k f) = m ((c : Thread nD τ).loc main_arg3) (ix3 e k (⟨2 * f.val + 1, by omega⟩ : Fin 2048)) := by
  refine (congrFun (V_v3 m c) _).trans ?_
  rw [← odd f]
  pointwise []

theorem gateBiases_val (c : Dev nD) (e : Fin 32) (f : Fin 1024) :
    V m c main_v5 (ix3 e (0 : Fin 1) f) = m ((c : Thread nD τ).loc main_arg4) (ix2 e (⟨2 * f.val, by omega⟩ : Fin 2048)) := by
  refine (congrFun (V_v5 m c) _).trans ?_
  pointwise []

theorem upBiases_val (c : Dev nD) (e : Fin 32) (f : Fin 1024) :
    V m c main_v7 (ix3 e (0 : Fin 1) f) = m ((c : Thread nD τ).loc main_arg4) (ix2 e (⟨2 * f.val + 1, by omega⟩ : Fin 2048)) := by
  refine (congrFun (V_v7 m c) _).trans ?_
  rw [← odd f]
  pointwise []

theorem downs_val (c : Dev nD) (e : Fin 32) (k f : Fin 1024) :
    V m c main_v8 (ix3 e k f) = m ((c : Thread nD τ).loc main_arg5) (ix3 e k f) := by
  refine (congrFun (V_v8 m c) _).trans ?_
  pointwise []

theorem downBiases_val (c : Dev nD) (e : Fin 32) (f : Fin 1024) :
    V m c main_v9 (ix3 e (0 : Fin 1) f) = m ((c : Thread nD τ).loc main_arg6) (ix2 e f) := by
  refine (congrFun (V_v9 m c) _).trans ?_
  pointwise []

theorem rows_val (c : Dev nD) : V m c main_arg2 = m ((c : Thread nD τ).loc main_arg2) := V_of_not_written m c main_arg2 (by decide)

/-! ## The kernel's result at an index -/

theorem spread_at (y : S256x1024.Idx → Elt Ideal .f32) (r : Fin 2048) (l : Fin 128) :
    spread y (ix2 r l) = y (ix2 (⟨r.val / 8, by omega⟩ : Fin 256) (⟨128 * (r.val % 8) + l.val, by omega⟩ : Fin 1024)) := by
  unfold spread
  refine congrArg y ?_
  funext a
  obtain rfl | rfl : a = (0 : Fin 2) ∨ a = (1 : Fin 2) := by revert a; decide
  · rfl
  · rfl

theorem ffn_congr {x x' : Fin 1024 → EReal} {wg wg' wu wu' : Fin 1024 → Fin 1024 → EReal} {bg bg' bu bu' wd wd' : Fin 1024 → EReal} {bd bd' : EReal}
    (h0 : x = x') (h1 : wg = wg') (h2 : wu = wu') (h3 : bg = bg') (h4 : bu = bu') (h5 : wd = wd') (h6 : bd = bd') :
    ffn x wg wu bg bu wd bd = ffn x' wg' wu' bg' bu' wd' bd' := by
  subst h0 h1 h2 h3 h4 h5 h6
  rfl

/-- At a point in use the body leaves the block's rows through their expert's feed-forward. -/
theorem outAt_live (c : Dev nD) (t : Fin (cfgA hp).N) (ht : t.val < used (tbl m)) (r : Fin 2048) (l : Fin 128) :
    outAt m hp c t (ix2 r l) = Reference.row (m ((c : Thread nD τ).loc main_arg2)) (m ((c : Thread nD τ).loc main_arg3)) (m ((c : Thread nD τ).loc main_arg4))
      (m ((c : Thread nD τ).loc main_arg5)) (m ((c : Thread nD τ).loc main_arg6)) (expertAt m hp t) (⟨t.val, point_lt m hp t⟩ : Fin 544)
      (⟨r.val / 8, by omega⟩ : Fin 256) (⟨128 * (r.val % 8) + l.val, by omega⟩ : Fin 1024) := by
  have ht' := point_lt m hp t
  unfold outAt Reference.row
  rw [spread_at, blockY_at]
  have hx (k : Fin 1024) : iblk m hp c (0 : Fin 8) t (ix2 (⟨8 * (r.val / 8) + k.val / 128, by omega⟩ : Fin 2048) (⟨k.val % 128, by omega⟩ : Fin 128))
      = m ((c : Thread nD τ).loc main_arg2) (ix2 (⟨2048 * t.val + 8 * (r.val / 8) + k.val / 128, by omega⟩ : Fin 1114112) (⟨k.val % 128, by omega⟩ : Fin 128)) := by
    rw [rows_at, rows_val]
    exact congrArg (fun i => m ((c : Thread nD τ).loc main_arg2) (ix2 i (⟨k.val % 128, by omega⟩ : Fin 128))) (Fin.ext (by dsimp only; omega))
  simp only [hx, gates_at, ups_at, gateBiases_at, upBiases_at, downs_at, downBiases_at]
  exact ffn_congr rfl (funext fun k => funext fun f => gates_val m c _ k f) (funext fun k => funext fun f => ups_val m c _ k f)
    (funext fun f => gateBiases_val m c _ f) (funext fun f => upBiases_val m c _ f) (funext fun f => downs_val m c _ f _) (downBiases_val m c _ _)

/-! ## Both at an index -/

theorem result_eq (c : Dev nD) :
    result m hp c = Reference.whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  obtain rfl : c = 0 := Subsingleton.elim _ _
  funext i
  have hi : (i (0 : Fin 2)).val < 1114112 := (i (0 : Fin 2)).isLt
  have hl : (i (1 : Fin 2)).val < 128 := (i (1 : Fin 2)).isLt
  obtain ⟨p, l, rfl⟩ : ∃ (p : Fin 1114112) (l : Fin 128), i = ix2 p l := ⟨⟨_, hi⟩, ⟨_, hl⟩, by
    funext a
    obtain rfl | rfl : a = (0 : Fin 2) ∨ a = (1 : Fin 2) := by revert a; decide
    · rfl
    · rfl⟩
  have hs : (ix1 (0 : Fin 1) : S1.Idx) = sole := eq_sole _
  have hu : ((m (((0 : Dev nD) : Thread nD τ).loc main_arg1) : S1.Idx → BitVec 32) (ix1 (0 : Fin 1))).toNat = used (tbl m) := by
    rw [hs]; rfl
  have hU : ((m (((0 : Dev nD) : Thread nD τ).loc main_arg1) : S1.Idx → BitVec 32) (ix1 (0 : Fin 1))).toNat < 2 ^ 31 := by
    rw [hu]; exact hp.used_lt
  by_cases h : p.val / 2048 < used (tbl m)
  · refine (result_live m hp 0 (ix2 p l) h).trans ?_
    unfold assembled
    refine (outAt_live m hp 0 (at544 m hp (p.val / 2048) (by omega)) h (⟨p.val % 2048, by omega⟩ : Fin 2048) l).trans ?_
    refine Eq.trans ?_ (Reference.whole_live _ _ _ _ _ _ _ hU p l (expertAt m hp (at544 m hp (p.val / 2048) (by omega))) ?_ (by rw [hu]; exact h)).symm
    · have h1 : (⟨p.val % 2048 / 8, by omega⟩ : Fin 256) = ⟨p.val / 8 % 256, by omega⟩ := Fin.ext (by dsimp only; omega)
      have h2 : (⟨128 * (p.val % 2048 % 8) + l.val, by omega⟩ : Fin 1024) = ⟨p.val % 8 * 128 + l.val, by omega⟩ := Fin.ext (by dsimp only; omega)
      exact congrArg₂ (fun a b => Reference.row _ _ _ _ _ _ _ a b) h1 h2
    · show _ = (m (((0 : Dev nD) : Thread nD τ).loc main_arg0) (entry (p.val / 2048) _)).toNat
      refine congrArg (fun x : S544.Idx => ((m (((0 : Dev nD) : Thread nD τ).loc main_arg0) : S544.Idx → BitVec 32) x).toNat) ?_
      funext a
      obtain rfl : a = (0 : Fin 1) := Subsingleton.elim _ _
      rfl
  · refine (result_idle m hp 0 (ix2 p l) h).trans ?_
    refine (congrFun (V_v10 m 0) _).trans ?_
    exact (Reference.whole_idle _ _ _ _ _ _ _ hU p l (by rw [hu]; exact h)).symm

end Cert.Experts

end
-- ==== Proof.Frames.lean ====
/- The kernel's runs from the precondition, for any float values, and the same of the kernel's own print, whose text is the idealization's. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Tactic
public import Idealize.ShloMosaic.Lib.Quiescent

@[expose] public section

set_option maxRecDepth 65536
set_option Elab.async false

noncomputable section

namespace Cert.Experts

open Idealize.ShloMosaic
open Idealize.ShloMosaic.TcCoe Idealize.ShloMosaic.Tactic
open Idealize.SL.Sem

attribute [local instance] Cert.Kernel.Gen.facts Cert.KernelIdeal.Gen.facts Cert.ReferenceIdeal.Gen.facts Cert.Pre_tables_in_range.Gen.facts

section Kernel

open Cert.KernelIdeal Cert.KernelIdeal.Gen

variable {F : FTy → Type} [FloatOps F] [∀ e, Nonempty (Elt F e)]

/-- The tables are in range where the precondition holds. -/
theorem inRange (m : (ℓ : Loc nD τ sig) → Buf (Elt F) ℓ)
    (h : ∀ c : Dev nD, Cert.Pre_tables_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : InRange (tbl m) where
  expert_lt := (inRange_of_fn _ _ _ _ _ _ _ (h 0)).1
  used_pos := (inRange_of_fn _ _ _ _ _ _ _ (h 0)).2.1
  used_lt := (inRange_of_fn _ _ _ _ _ _ _ (h 0)).2.2

variable (F) in
/-- From tables in range every run ends with the arguments as they were and every counter at zero. -/
def Frame : Prop :=
  ∀ (m : (ℓ : Loc nD τ sig) → Buf (Elt F) ℓ) (g : Dev nD → PrngReg),
    (∀ c : Dev nD, Cert.Pre_tables_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_any : Frame F := fun m g h =>
  (θ_run (defs (F := F)) _ _).mono (fun _ hr => ⟨fun c => (hr.1 c).2, hr.2⟩) (run_result m (inRange m h) g)

end Kernel

theorem frame_ideal : Cert.quiescent_KernelIdeal := frame_any (F := Ideal)

/-- The two prints have the same text, so the kernel's frame is this one at bit values. -/
theorem frame_same : Cert.quiescent_Kernel = Frame Bits := by sl_kernel_rfl

theorem frame_bits : Cert.quiescent_Kernel := frame_same.mpr (frame_any (F := Bits))

theorem frame_reference : Cert.quiescent_ReferenceIdeal := fun m g _ =>
  (θ_run (Cert.ReferenceIdeal.defs (F := Ideal)) _ _).mono (fun r hr => ⟨fun c => (hr c).2, sem_eq_zero_of_no_sems rfl r.2⟩) (Cert.ReferenceIdeal.Value.run m g)

end Cert.Experts

end
-- ==== Proof.Spread.lean ====
/- An array of `n` rows of 1024 kept as `8 n` rows of 128 lanes (row `8 r + j` holds lanes `128 j …` of row `r`), as the calls
   keep the model's rows, and the eight strided stores that write it so. -/
module

public import Idealize.ShloMosaic.Lib.VecWindow
public import Idealize.ShloMosaic.Lib.Pipeline.Value

@[expose] public section

noncomputable section

namespace Cert.Spread

open Idealize.ShloMosaic

variable {F : FTy → Type} {n : ℕ}

/-- `n` rows of 1024. -/
abbrev Wide (n : ℕ) : Shape := ⟨2, ![n, 1024]⟩
/-- The same as `8 n` rows of 128. -/
abbrev Tall (n : ℕ) : Shape := ⟨2, ![8 * n, 128]⟩
/-- 128 lanes of every row. -/
abbrev Part (n : ℕ) : Shape := ⟨2, ![n, 128]⟩

theorem axes (a : Fin 2) : a = 0 ∨ a = 1 := by
  revert a
  decide

theorem every8_pos (a : Fin 2) : 0 < (![8, 1] : Fin 2 → ℕ) a := by
  revert a
  decide

/-- Lane `128 j + l` of row `r`. -/
def wideAt (r j l : ℕ) (hr : r < n) (hj : j < 8) (hl : l < 128) : (Wide n).Idx := fun
  | ⟨0, _⟩ => ⟨r, hr⟩
  | ⟨1, _⟩ => ⟨128 * j + l, show 128 * j + l < 1024 by omega⟩

/-- The wide array's elements in the tall one. -/
def tall (y : (Wide n).Idx → Elt F .f32) : (Tall n).Idx → Elt F .f32 := fun i =>
  y (wideAt ((i 0).val / 8) ((i 0).val % 8) (i 1).val
    (by have : (i 0).val < 8 * n := (i 0).isLt; omega) (by omega) (i 1).isLt)

theorem every8_inb (hn : 0 < n) (j : Fin 8) : ∀ a, (Part n).size a = 0
    ∨ (![j.val, 0] : Fin 2 → ℕ) a + (![8, 1] : Fin 2 → ℕ) a * ((Part n).size a - 1) < (Tall n).size a := by
  intro a
  have hj := j.isLt
  obtain rfl | rfl := axes a
  · right
    show j.val + 8 * (n - 1) < 8 * n
    omega
  · right
    show 0 + 1 * (128 - 1) < 128
    omega

/-- Every eighth row from row `j`. -/
abbrev every8 (hn : 0 < n) (j : Fin 8) : Rect (Tall n) :=
  ⟨⟨![j.val, 0], (Part n).size, ![8, 1], every8_inb hn j⟩, every8_pos⟩

theorem lanes_slices (j : Fin 8) : (Wide n).Slices ![0, 128 * j.val] (Part n) := by
  refine ⟨rfl, fun a => ?_⟩
  have hj := j.isLt
  obtain rfl | rfl := axes a
  · show 0 + n ≤ n
    omega
  · show 128 * j.val + 128 ≤ 1024
    omega

/-- The store of lanes `128 j …`. -/
def piece (hn : 0 < n) (y : (Wide n).Idx → Elt F .f32) (j : Fin 8) : View.Piece (Elt F) (Tall n) .f32 :=
  ⟨every8 hn j, extractStridedSlice (Part n) ![0, 128 * j.val] y (lanes_slices j)⟩

/-- The eight stores, last first. -/
def pieces (hn : 0 < n) (y : (Wide n).Idx → Elt F .f32) : List (View.Piece (Elt F) (Tall n) .f32) :=
  [piece hn y 7, piece hn y 6, piece hn y 5, piece hn y 4, piece hn y 3, piece hn y 2, piece hn y 1, piece hn y 0]

theorem mem_pieces (hn : 0 < n) (y : (Wide n).Idx → Elt F .f32) (p : View.Piece (Elt F) (Tall n) .f32) :
    p ∈ pieces hn y ↔ ∃ j, p = piece hn y j := by
  unfold pieces
  simp only [List.mem_cons, List.not_mem_nil, or_false]
  constructor
  · rintro (h | h | h | h | h | h | h | h) <;> exact ⟨_, h⟩
  · rintro ⟨j, h⟩
    fin_cases j <;> tauto

/-- A store writes the tall array's elements. -/
theorem piece_tall (hn : 0 < n) (y : (Wide n).Idx → Elt F .f32) (j : Fin 8) (x : (Part n).Idx) :
    extractStridedSlice (Part n) ![0, 128 * j.val] y (lanes_slices j) x = tall y ((every8 hn j).emb x) := by
  have h0 : (x 0).val < n := (x 0).isLt
  have h1 : (x 1).val < 128 := (x 1).isLt
  have hj := j.isLt
  unfold tall
  refine extractStridedSlice_apply _ _ _ _ _ fun a => ?_
  obtain rfl | rfl := axes a
  · show (j.val + 8 * (x 0).val) / 8 = 0 + (x 0).val
    omega
  · show 128 * ((j.val + 8 * (x 0).val) % 8) + (0 + 1 * (x 1).val) = 128 * j.val + (x 1).val
    omega

theorem pieces_tall (hn : 0 < n) (y : (Wide n).Idx → Elt F .f32) :
    ∀ p ∈ pieces hn y, ∀ x : p.1.shape.Idx, p.2 x = tall y (p.1.emb x) := by
  intro p hp x
  obtain ⟨j, rfl⟩ := (mem_pieces hn y p).mp hp
  exact piece_tall hn y j x

/-- Every row is stored by the piece of its rest by eight. -/
theorem mem_every8 (hn : 0 < n) (i : (Tall n).Idx) (j : Fin 8) (hij : (i 0).val % 8 = j.val) : i ∈ (every8 hn j).set := by
  have h0 : (i 0).val < 8 * n := (i 0).isLt
  rw [LoadRect.mem_set]
  intro a
  obtain rfl | rfl := axes a
  · refine ⟨(i 0).val / 8, ?_, ?_⟩
    · show (i 0).val / 8 < n
      omega
    · show (i 0).val = j.val + 8 * ((i 0).val / 8)
      omega
  · refine ⟨(i 1).val, (i 1).isLt, ?_⟩
    show (i 1).val = 0 + 1 * (i 1).val
    omega

theorem pieces_cover (hn : 0 < n) (y : (Wide n).Idx → Elt F .f32) (i : (Tall n).Idx) : ∃ p ∈ pieces hn y, i ∈ p.1.set :=
  ⟨_, (mem_pieces hn y _).mpr ⟨⟨(i 0).val % 8, Nat.mod_lt _ (by decide)⟩, rfl⟩, mem_every8 hn i _ rfl⟩

/-- So the eight stores, into any buffer of the shape, leave the tall array. -/
theorem read_pieces [∀ e, Nonempty (Elt F e)] {sig : RefSig} {κ : Kind} {sp : Space} (hn : 0 < n) (v : View sig κ sp (Tall n) .f32)
    (f : v.ty.Contents (Elt F)) (y : (Wide n).Idx → Elt F .f32) : v.read (Elt F) (v.writes (Elt F) f (pieces hn y)) = tall y := by
  rw [View.read_writes_eq_canon _ _ _ (pieces_cover hn y)]
  exact funext fun i => View.canon_apply_of_pieces (tall y) _ (pieces_tall hn y) i (pieces_cover hn y i)

end Cert.Spread

end
-- ==== Proof.Buffers.lean ====
/- Two facts on buffers that the mixer calls' bodies use. -/
module

public import Idealize.ShloMosaic.Lib.Pipeline.FrameBody
public import Idealize.ShloMosaic.Lib.Exec
public import Idealize.ShloMosaic.Lib.Tactic
public import Idealize.ShloMosaic.Adequacy

@[expose] public section

noncomputable section

namespace Cert.Buffers

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)] {nD : ℕ} {τ : Topo} {sig : RefSig}

/-- Writing back what a rectangle reads changes nothing. -/
theorem writes_back {sp : Space} {s : Shape} {e : EltTy} (v : View sig .tc sp s e) (f : v.ty.Contents (Elt F)) (r : Rect s) (w : r.shape.Idx → Elt F e)
    (h : View.readAt (Elt F) v r.toLoadRect f = w) : f = v.writes (Elt F) f [⟨r, w⟩] := by
  subst h
  rw [View.writes_singleton]
  refine ((View.write_read_eq_piecewise (v := v.slice r) f f Finset.univ).trans ?_).symm
  exact Finset.piecewise_same _ _

/-- A buffer at known contents is a buffer at some. -/
theorem owns_some {sp : Space} {s : Shape} {e : EltTy} (c : Dev nD) (v : Memref sig .tc sp s e) (f : v.view.ty.Contents (Elt F)) :
    (v.view.loc (c : Thread nD τ) ↦[v.view.set]{fullShare} f : sProp (MT nD τ sig Unit (Elt F) ℕ (UR sig nD τ) ℕ))
      ⊢ iprop(∃ d, owns (c : Thread nD τ) v fullShare d) := by
  unfold owns
  iintro H
  iexists _; iexists f
  isplitr; swap
  · iexact H
  · ipureintro; rfl

end Cert.Buffers

end
-- ==== Proof.ConvRuns.lean ====
/- What one grid point of the short convolution's call does.

   Nothing here depends on how floats are represented; the two certificates (bit-exact and over the reals) use one text. -/
module

public import proofs.«01_k».proof.Proof.Gen.Kernel2Ideal.Skeleton
public import proofs.«01_k».proof.Proof.Gen.Kernel2Ideal.Launch
public import proofs.«01_k».proof.Proof.Spread
public import proofs.«01_k».proof.Proof.Buffers
public import Idealize.ShloMosaic.Lib.Pipeline.TableIdle
public import Idealize.ShloMosaic.Lib.Pipeline.FrameBody
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Conv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The body's question whether the point is a batch's first. -/
abbrev isFirst (i : grid0.Coords) : BitVec 1 :=
  Scalar.cmpi .ne (Scalar.extui (Scalar.cmpi .eq (BitVec.ofNat 32 (i 1).val) 0#32) : BitVec 32) 0#32

/-- Its question whether the point is the grid's first. -/
abbrev isStart (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The history's first eight rows: the last of the block before. -/
abbrev topRows : Rect S520x1024 := Rect.unit (s := S520x1024) ![0, 0] S8x1024.size inb_S520x1024_S8x1024_0_0
/-- Its other 512 rows: the block's. -/
abbrev blockRows : Rect S520x1024 := Rect.unit (s := S520x1024) ![8, 0] S512x1024.size inb_S520x1024_S512x1024_8_0

/-- What the history holds once the block's rows are in, under `top`: the writes, last first. -/
abbrev histWrites (X : S1x512x1024.Idx → Elt F .f32) (W1 W2 : S1024x1024.Idx → Elt F .bf16) (top : S8x1024.Idx → Elt F .f32) :
    List (View.Piece (Elt F) S520x1024 .f32) :=
  [⟨blockRows, k0_pay8 X W1 W2⟩, ⟨topRows, top⟩]

/-- The block's 512 rows of 1024, of the values the body loads: the rows, the input projection's three parts, the filter's three
    rows, the history one and two rows back, the output projection, and the layer norm's scale and shift. -/
abbrev rowsOut (X : S1x512x1024.Idx → Elt F .f32) (W0 W1 W2 : S1024x1024.Idx → Elt F .bf16) (C0 C1 C2 : S1x1024.Idx → Elt F .f32)
    (R6 R7 : S512x1024.Idx → Elt F .f32) (Wo : S1024x1024.Idx → Elt F .bf16) (G B : S1x1024.Idx → Elt F .f32) : S512x1024.Idx → Elt F .f32 :=
  k0_pay16 (k0_pay13 B) (k0_pay14 (k0_pay4 X) (k0_pay6 X W0) (k0_pay9 X W1 W2 C2 C0 R6) R7 (k0_pay10 C1) Wo) (k0_pay15 G)

/-- The eight stores of a block's rows, as the body writes them. -/
theorem pieces_printed (a : S1x1024.Idx → Elt F .f32) (b c : S512x1024.Idx → Elt F .f32) :
    Spread.pieces (n := 512) (by decide) (k0_pay16 a b c) =
      [⟨⟨⟨![7, 0], S512x128.size, ![8, 1], inb_S4096x128_S512x128_7_0_s_8_1⟩, spos_8_1⟩, k0_pay24 a b c⟩,
       ⟨⟨⟨![6, 0], S512x128.size, ![8, 1], inb_S4096x128_S512x128_6_0_s_8_1⟩, spos_8_1⟩, k0_pay23 a b c⟩,
       ⟨⟨⟨![5, 0], S512x128.size, ![8, 1], inb_S4096x128_S512x128_5_0_s_8_1⟩, spos_8_1⟩, k0_pay22 a b c⟩,
       ⟨⟨⟨![4, 0], S512x128.size, ![8, 1], inb_S4096x128_S512x128_4_0_s_8_1⟩, spos_8_1⟩, k0_pay21 a b c⟩,
       ⟨⟨⟨![3, 0], S512x128.size, ![8, 1], inb_S4096x128_S512x128_3_0_s_8_1⟩, spos_8_1⟩, k0_pay20 a b c⟩,
       ⟨⟨⟨![2, 0], S512x128.size, ![8, 1], inb_S4096x128_S512x128_2_0_s_8_1⟩, spos_8_1⟩, k0_pay19 a b c⟩,
       ⟨⟨⟨![1, 0], S512x128.size, ![8, 1], inb_S4096x128_S512x128_1_0_s_8_1⟩, spos_8_1⟩, k0_pay18 a b c⟩,
       ⟨⟨⟨![0, 0], S512x128.size, ![8, 1], inb_S4096x128_S512x128_0_0_s_8_1⟩, spos_8_1⟩, k0_pay17 a b c⟩] := rfl

set_option maxHeartbeats 4000000 in
/-- The body at a point. From the windows' blocks, and the history's top rows zeroed by the body (at a batch's first point) or
    found at `top`, it leaves the block's rows in the output's buffer and the block's last eight gated rows on top of the history.
    The buffers of the routing, of which nothing is claimed, end at contents of its own. -/
theorem run (c : Dev nD) (i : grid0.Coords) (arg2 : Memref sig .tc .vmem S1x512x1024 .f32) (harg2 : arg2.IsWhole)
    (arg3 : Memref sig .tc .vmem S1024x3072 .bf16) (harg3 : arg3.IsWhole) (arg4 : Memref sig .tc .vmem S3x1024 .f32) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S32x1024 .f32) (harg8 : arg8.IsWhole)
    (arg9 : Memref sig .tc .vmem S32x1 .f32) (harg9 : arg9.IsWhole) (arg10 : Memref sig .tc .vmem S4096x128 .f32) (harg10 : arg10.IsWhole)
    (arg11 : Memref sig .tc .vmem S8x512 .i32) (harg11 : arg11.IsWhole) (arg12 : Memref sig .tc .vmem S4x512 .f32) (harg12 : arg12.IsWhole)
    (arg13 : Memref sig .tc .vmem S32x128 .f32) (harg13 : arg13.IsWhole) (arg14 : Memref sig .tc .vmem S520x1024 .f32) (harg14 : arg14.IsWhole)
    (arg15 : Memref sig .tc .vmem S32x128 .f32) (harg15 : arg15.IsWhole)
    (x0 : S1x512x1024.Idx → Elt F .f32) (x1 : S1024x3072.Idx → Elt F .bf16) (x2 : S3x1024.Idx → Elt F .f32) (x3 : S1024x1024.Idx → Elt F .bf16)
    (x4 x5 : S1x1024.Idx → Elt F .f32) (x6 : S32x1024.Idx → Elt F .f32) (x7 : S32x1.Idx → Elt F .f32)
    (f14 : arg14.view.ty.Contents (Elt F)) (top : S8x1024.Idx → Elt F .f32)
    (X : S1x512x1024.Idx → Elt F .f32) (W0 W1 W2 : S1024x1024.Idx → Elt F .bf16) (C0 C1 C2 : S1x1024.Idx → Elt F .f32)
    (R6 R7 : S512x1024.Idx → Elt F .f32) (Wo : S1024x1024.Idx → Elt F .bf16) (G B : S1x1024.Idx → Elt F .f32)
    (htop : isFirst i = 1#1 ∧ top = k0_pay3 ∨ ¬ isFirst i = 1#1 ∧ View.readAt (Elt F) arg14.view topRows.toLoadRect f14 = top)
    (hX : X = View.readAt (Elt F) arg2.view (Rect.unit (s := S1x512x1024) ![0, 0, 0] S1x512x1024.size inb_S1x512x1024_S1x512x1024_0_0_0).toLoadRect (arg2.view.rep x0))
    (hW0 : W0 = View.readAt (Elt F) arg3.view (Rect.unit (s := S1024x3072) ![0, 0] S1024x1024.size inb_S1024x3072_S1024x1024_0_0).toLoadRect (arg3.view.rep x1))
    (hW1 : W1 = View.readAt (Elt F) arg3.view (Rect.unit (s := S1024x3072) ![0, 1024] S1024x1024.size inb_S1024x3072_S1024x1024_0_1024).toLoadRect (arg3.view.rep x1))
    (hW2 : W2 = View.readAt (Elt F) arg3.view (Rect.unit (s := S1024x3072) ![0, 2048] S1024x1024.size inb_S1024x3072_S1024x1024_0_2048).toLoadRect (arg3.view.rep x1))
    (hC0 : C0 = View.readAt (Elt F) arg4.view (Rect.unit (s := S3x1024) ![0, 0] S1x1024.size inb_S3x1024_S1x1024_0_0).toLoadRect (arg4.view.rep x2))
    (hC1 : C1 = View.readAt (Elt F) arg4.view (Rect.unit (s := S3x1024) ![1, 0] S1x1024.size inb_S3x1024_S1x1024_1_0).toLoadRect (arg4.view.rep x2))
    (hC2 : C2 = View.readAt (Elt F) arg4.view (Rect.unit (s := S3x1024) ![2, 0] S1x1024.size inb_S3x1024_S1x1024_2_0).toLoadRect (arg4.view.rep x2))
    (hR6 : R6 = arg14.view.readCov (histWrites X W1 W2 top) (Rect.unit (s := S520x1024) ![6, 0] S512x1024.size inb_S520x1024_S512x1024_6_0).toLoadRect)
    (hR7 : R7 = arg14.view.readCov (histWrites X W1 W2 top) (Rect.unit (s := S520x1024) ![7, 0] S512x1024.size inb_S520x1024_S512x1024_7_0).toLoadRect)
    (hWo : Wo = View.readAt (Elt F) arg5.view (Rect.unit (s := S1024x1024) ![0, 0] S1024x1024.size inb_S1024x1024_S1024x1024_0_0).toLoadRect (arg5.view.rep x3))
    (hG : G = View.readAt (Elt F) arg6.view (Rect.unit (s := S1x1024) ![0, 0] S1x1024.size inb_S1x1024_S1x1024_0_0).toLoadRect (arg6.view.rep x4))
    (hB : B = View.readAt (Elt F) arg7.view (Rect.unit (s := S1x1024) ![0, 0] S1x1024.size inb_S1x1024_S1x1024_0_0).toLoadRect (arg7.view.rep x5))
    (K : PUnit → sProp 𝕄) :
    iprop((arg2.view.loc (c : Thread nD τ) ↦[arg2.view.set]{fullShare} arg2.view.rep x0)
        ∗ (arg3.view.loc (c : Thread nD τ) ↦[arg3.view.set]{fullShare} arg3.view.rep x1)
        ∗ (arg4.view.loc (c : Thread nD τ) ↦[arg4.view.set]{fullShare} arg4.view.rep x2)
        ∗ (arg5.view.loc (c : Thread nD τ) ↦[arg5.view.set]{fullShare} arg5.view.rep x3)
        ∗ (arg6.view.loc (c : Thread nD τ) ↦[arg6.view.set]{fullShare} arg6.view.rep x4)
        ∗ (arg7.view.loc (c : Thread nD τ) ↦[arg7.view.set]{fullShare} arg7.view.rep x5)
        ∗ (arg8.view.loc (c : Thread nD τ) ↦[arg8.view.set]{fullShare} arg8.view.rep x6)
        ∗ (arg9.view.loc (c : Thread nD τ) ↦[arg9.view.set]{fullShare} arg9.view.rep x7)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (arg14.view.loc (c : Thread nD τ) ↦[arg14.view.set]{fullShare} f14)
        ∗ (∃ d, owns (c : Thread nD τ) arg15 fullShare d)
        ∗ (iprop((arg2.view.loc (c : Thread nD τ) ↦[arg2.view.set]{fullShare} arg2.view.rep x0)
            ∗ (arg3.view.loc (c : Thread nD τ) ↦[arg3.view.set]{fullShare} arg3.view.rep x1)
            ∗ (arg4.view.loc (c : Thread nD τ) ↦[arg4.view.set]{fullShare} arg4.view.rep x2)
            ∗ (arg5.view.loc (c : Thread nD τ) ↦[arg5.view.set]{fullShare} arg5.view.rep x3)
            ∗ (arg6.view.loc (c : Thread nD τ) ↦[arg6.view.set]{fullShare} arg6.view.rep x4)
            ∗ (arg7.view.loc (c : Thread nD τ) ↦[arg7.view.set]{fullShare} arg7.view.rep x5)
            ∗ (arg8.view.loc (c : Thread nD τ) ↦[arg8.view.set]{fullShare} arg8.view.rep x6)
            ∗ (arg9.view.loc (c : Thread nD τ) ↦[arg9.view.set]{fullShare} arg9.view.rep x7)
            ∗ (∃ f, arg10.view.loc (c : Thread nD τ) ↦[arg10.view.set]{fullShare}
                arg10.view.writes (Elt F) f (Spread.pieces (n := 512) (by decide) (rowsOut X W0 W1 W2 C0 C1 C2 R6 R7 Wo G B)))
            ∗ (∃ d, owns (c : Thread nD τ) arg11 fullShare d)
            ∗ (∃ d, owns (c : Thread nD τ) arg12 fullShare d)
            ∗ (∃ d, owns (c : Thread nD τ) arg13 fullShare d)
            ∗ (∃ f, arg14.view.loc (c : Thread nD τ) ↦[arg14.view.set]{fullShare}
                arg14.view.writes (Elt F) f (⟨topRows, k0_pay11 (k0_pay7 X W1 W2)⟩ :: histWrites X W1 W2 top))
            ∗ (∃ d, owns (c : Thread nD τ) arg15 fullShare d)) -∗ K ⟨⟩))
      ⊢ wp frame (wpE (defs₀ (F := F)) Variants.none c none) Set.univ
          (cc0_short_conv_kernel i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_short_conv_kernel_eq_skeleton]; unfold cc0_short_conv_kernel_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  rw [pieces_printed]
  rcases htop with ⟨k0_h1, rfl⟩ | ⟨k0_h1, ht⟩
  rotate_left
  rw [Buffers.writes_back arg14.view f14 topRows top ht]
  all_goals
    by_cases k0_h2 : isStart i = 1#1
    all_goals
      iintro ⟨H2, H3, H4, H5, H6, H7, H8, H9, ⟨%d10, H10⟩, ⟨%d11, H11⟩, ⟨%d12, H12⟩, ⟨%d13, H13⟩, H14, ⟨%d15, H15⟩, Hk⟩
      unfold owns
      icases H10 with ⟨%f10, -, H10⟩
      icases H11 with ⟨%f11, -, H11⟩
      icases H12 with ⟨%f12, -, H12⟩
      icases H13 with ⟨%f13, -, H13⟩
      icases H15 with ⟨%f15, -, H15⟩
      sl_exec! (disch := first | exact k0_h1 | exact k0_h2)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      subst hR6 hR7 hX hW0 hW1 hW2 hC0 hC1 hC2 hWo hG hB
      isplitl [H10]; · iexists _; iexact H10
      isplitl [H11]; · iapply Buffers.owns_some; iexact H11
      isplitl [H12]; · iapply Buffers.owns_some; iexact H12
      isplitl [H13]; · iapply Buffers.owns_some; iexact H13
      isplitl [H14]; · iexists _; iexact H14
      iapply Buffers.owns_some; iexact H15

end Cert.Conv

end
-- ==== Proof.ConvData.lean ====
/- The short convolution's launch: what each window's buffer holds after each point, what the history carries from point to point,
   and that the body keeps to it. Of the routing's three outputs nothing is said. -/
module

public import proofs.«01_k».proof.Proof.ConvRuns
public import Idealize.ShloMosaic.Lib.Pipeline.Quiescent
public import Idealize.ShloMosaic.Lib.Pipeline.Kit
public import Idealize.ShloMosaic.Lib.Claim

@[expose] public section

set_option maxRecDepth 16384
set_option Elab.async false

noncomputable section

namespace Cert.Conv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The host operations before the launch -/

/-- Core `c`'s buffers when the launch begins. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What the host operations write. -/
abbrev written : List (Ref sig .tc) := [main_v0, main_v1, main_v2, main_v3, main_v4, main_v5]
theorem hostOps0_writes : ((hostOps0 (F := F)) : List (HloOp τ sig (Elt F))).Forall fun op => op.writes ⊆ (written.map (Proc.devRef (τ := τ) .tc)).toFinset :=
  StableHlo.forall_writes_sub_of_map rfl

set_option maxHeartbeats 800000 in
/-- @main up to the launch is the host operations. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main (hostOps0 (F := F)) hostOps0_sub hostOps0_fresh main_chain

theorem V_of_not_written (c : Dev nD) (b : Ref sig .tc) (h : b ∉ written) : V m c b = m ((c : Thread nD τ).loc b) :=
  StableHlo.after_of_writes_sub (hostOps0 (F := F)) _ hostOps0_writes h

/-! ## Points -/

abbrev crd (t : Fin cfg0.N) : cfg0.grid.Coords := cfg0.grid.coords t

theorem point_lt (t : Fin cfg0.N) : t.val < 64 := N_0 ▸ t.isLt

/-- The batch of a point, -/
theorem crd0 (t : Fin grid0.N) : (grid0.coords t 0).val = t.val / 8 := by
  have h := Pipeline.Grid.coords_val (G := grid0) t 0 (S := 8) (B := 8) (by decide) rfl
  have ht : t.val < 64 := N_0 ▸ t.isLt
  rw [h]; omega
/-- and its block of rows. -/
theorem crd1 (t : Fin grid0.N) : (grid0.coords t 1).val = t.val % 8 := by
  have h := Pipeline.Grid.coords_val (G := grid0) t 1 (S := 1) (B := 8) (by decide) rfl
  have ht : t.val < 64 := N_0 ▸ t.isLt
  rw [h]; omega

theorem first_iff (t : Fin cfg0.N) : isFirst (crd t) = 1#1 ↔ t.val % 8 = 0 := by
  have key : ∀ n : Fin 8, (Scalar.cmpi .ne (Scalar.extui (Scalar.cmpi .eq (BitVec.ofNat 32 n.val) 0#32) : BitVec 32) 0#32 = 1#1) ↔ n.val = 0 := by decide
  have h := key ⟨t.val % 8, Nat.mod_lt _ (by decide)⟩
  unfold isFirst
  rw [show ((crd t) 1).val = t.val % 8 from crd1 t]
  exact h

abbrev ms0 (t : Fin cfg0.N) : Memref sig .tc .vmem S1x512x1024 .f32 := win0_0.stage (cfg0.slots t (0 : Fin 12))
abbrev hs0 (t : Fin cfg0.N) : (ms0 t).IsWhole := hstage0_0 ((cfg0.slots t (0 : Fin 12)).cast nbuf0_0)
abbrev ms1 (t : Fin cfg0.N) : Memref sig .tc .vmem S1024x3072 .bf16 := win0_1.stage (cfg0.slots t (1 : Fin 12))
abbrev hs1 (t : Fin cfg0.N) : (ms1 t).IsWhole := hstage0_1 ((cfg0.slots t (1 : Fin 12)).cast nbuf0_1)
abbrev ms2 (t : Fin cfg0.N) : Memref sig .tc .vmem S3x1024 .f32 := win0_2.stage (cfg0.slots t (2 : Fin 12))
abbrev hs2 (t : Fin cfg0.N) : (ms2 t).IsWhole := hstage0_2 ((cfg0.slots t (2 : Fin 12)).cast nbuf0_2)
abbrev ms3 (t : Fin cfg0.N) : Memref sig .tc .vmem S1024x1024 .bf16 := win0_3.stage (cfg0.slots t (3 : Fin 12))
abbrev hs3 (t : Fin cfg0.N) : (ms3 t).IsWhole := hstage0_3 ((cfg0.slots t (3 : Fin 12)).cast nbuf0_3)
abbrev ms4 (t : Fin cfg0.N) : Memref sig .tc .vmem S1x1024 .f32 := win0_4.stage (cfg0.slots t (4 : Fin 12))
abbrev hs4 (t : Fin cfg0.N) : (ms4 t).IsWhole := hstage0_4 ((cfg0.slots t (4 : Fin 12)).cast nbuf0_4)
abbrev ms5 (t : Fin cfg0.N) : Memref sig .tc .vmem S1x1024 .f32 := win0_5.stage (cfg0.slots t (5 : Fin 12))
abbrev hs5 (t : Fin cfg0.N) : (ms5 t).IsWhole := hstage0_5 ((cfg0.slots t (5 : Fin 12)).cast nbuf0_5)
abbrev ms6 (t : Fin cfg0.N) : Memref sig .tc .vmem S32x1024 .f32 := win0_6.stage (cfg0.slots t (6 : Fin 12))
abbrev hs6 (t : Fin cfg0.N) : (ms6 t).IsWhole := hstage0_6 ((cfg0.slots t (6 : Fin 12)).cast nbuf0_6)
abbrev ms7 (t : Fin cfg0.N) : Memref sig .tc .vmem S32x1 .f32 := win0_7.stage (cfg0.slots t (7 : Fin 12))
abbrev hs7 (t : Fin cfg0.N) : (ms7 t).IsWhole := hstage0_7 ((cfg0.slots t (7 : Fin 12)).cast nbuf0_7)
abbrev ms8 (t : Fin cfg0.N) : Memref sig .tc .vmem S4096x128 .f32 := win0_8.stage (cfg0.slots t (8 : Fin 12))
abbrev hs8 (t : Fin cfg0.N) : (ms8 t).IsWhole := hstage0_8 ((cfg0.slots t (8 : Fin 12)).cast nbuf0_8)
abbrev ms9 (t : Fin cfg0.N) : Memref sig .tc .vmem S8x512 .i32 := win0_9.stage (cfg0.slots t (9 : Fin 12))
abbrev hs9 (t : Fin cfg0.N) : (ms9 t).IsWhole := hstage0_9 ((cfg0.slots t (9 : Fin 12)).cast nbuf0_9)
abbrev ms10 (t : Fin cfg0.N) : Memref sig .tc .vmem S4x512 .f32 := win0_10.stage (cfg0.slots t (10 : Fin 12))
abbrev hs10 (t : Fin cfg0.N) : (ms10 t).IsWhole := hstage0_10 ((cfg0.slots t (10 : Fin 12)).cast nbuf0_10)
abbrev ms11 (t : Fin cfg0.N) : Memref sig .tc .vmem S32x128 .f32 := win0_11.stage (cfg0.slots t (11 : Fin 12))
abbrev hs11 (t : Fin cfg0.N) : (ms11 t).IsWhole := hstage0_11 ((cfg0.slots t (11 : Fin 12)).cast nbuf0_11)

/-- Window `w`'s block at point `t`, of its array as the launch finds it. -/
def iblk (c : Dev nD) (w : Fin cfg0.W) (t : Fin cfg0.N) : ((cfg0.win w).xblock (crd t)).Idx → Elt F (cfg0.win w).elt :=
  ((cfg0.win w).blk t).view.read (Elt F) (V m c (Pipeline.arrRef spec0 w))

/-! ## What the body computes at a point -/

/-- The part of `x` a load of the rectangle reads. -/
abbrev part {s : Shape} {e : EltTy} (x : s.Idx → Elt F e) (r : LoadRect s) : r.shape.Idx → Elt F e := fun i => x (r.idx i)

/-- The block's rows. -/
def rowsAt (c : Dev nD) (t : Fin cfg0.N) : S1x512x1024.Idx → Elt F .f32 :=
  part (iblk m c (0 : Fin 12) t) (Rect.unit (s := S1x512x1024) ![0, 0, 0] S1x512x1024.size inb_S1x512x1024_S1x512x1024_0_0_0).toLoadRect
/-- The input projection's parts. -/
def win0At (c : Dev nD) (t : Fin cfg0.N) : S1024x1024.Idx → Elt F .bf16 :=
  part (iblk m c (1 : Fin 12) t) (Rect.unit (s := S1024x3072) ![0, 0] S1024x1024.size inb_S1024x3072_S1024x1024_0_0).toLoadRect
def win1At (c : Dev nD) (t : Fin cfg0.N) : S1024x1024.Idx → Elt F .bf16 :=
  part (iblk m c (1 : Fin 12) t) (Rect.unit (s := S1024x3072) ![0, 1024] S1024x1024.size inb_S1024x3072_S1024x1024_0_1024).toLoadRect
def win2At (c : Dev nD) (t : Fin cfg0.N) : S1024x1024.Idx → Elt F .bf16 :=
  part (iblk m c (1 : Fin 12) t) (Rect.unit (s := S1024x3072) ![0, 2048] S1024x1024.size inb_S1024x3072_S1024x1024_0_2048).toLoadRect
/-- The filter's rows. -/
def tap0At (c : Dev nD) (t : Fin cfg0.N) : S1x1024.Idx → Elt F .f32 :=
  part (iblk m c (2 : Fin 12) t) (Rect.unit (s := S3x1024) ![0, 0] S1x1024.size inb_S3x1024_S1x1024_0_0).toLoadRect
def tap1At (c : Dev nD) (t : Fin cfg0.N) : S1x1024.Idx → Elt F .f32 :=
  part (iblk m c (2 : Fin 12) t) (Rect.unit (s := S3x1024) ![1, 0] S1x1024.size inb_S3x1024_S1x1024_1_0).toLoadRect
def tap2At (c : Dev nD) (t : Fin cfg0.N) : S1x1024.Idx → Elt F .f32 :=
  part (iblk m c (2 : Fin 12) t) (Rect.unit (s := S3x1024) ![2, 0] S1x1024.size inb_S3x1024_S1x1024_2_0).toLoadRect
/-- The output projection, and the layer norm's scale and shift. -/
def woutAt (c : Dev nD) (t : Fin cfg0.N) : S1024x1024.Idx → Elt F .bf16 :=
  part (iblk m c (3 : Fin 12) t) (Rect.unit (s := S1024x1024) ![0, 0] S1024x1024.size inb_S1024x1024_S1024x1024_0_0).toLoadRect
def scaleAt (c : Dev nD) (t : Fin cfg0.N) : S1x1024.Idx → Elt F .f32 :=
  part (iblk m c (4 : Fin 12) t) (Rect.unit (s := S1x1024) ![0, 0] S1x1024.size inb_S1x1024_S1x1024_0_0).toLoadRect
def shiftAt (c : Dev nD) (t : Fin cfg0.N) : S1x1024.Idx → Elt F .f32 :=
  part (iblk m c (5 : Fin 12) t) (Rect.unit (s := S1x1024) ![0, 0] S1x1024.size inb_S1x1024_S1x1024_0_0).toLoadRect

/-- The last eight of the block's gated rows, which the next point finds on top of its history. -/
def tailAt (c : Dev nD) (t : Fin cfg0.N) : S8x1024.Idx → Elt F .f32 := k0_pay11 (k0_pay7 (rowsAt m c t) (win1At m c t) (win2At m c t))

/-- What is on top of the history while the body works at `t`: zeros at a batch's first point, the block before's last rows at any other. -/
def topAt (c : Dev nD) (t : Fin cfg0.N) : S8x1024.Idx → Elt F .f32 :=
  if t.val % 8 = 0 then k0_pay3 else tailAt m c ⟨t.val - 1, Nat.lt_of_le_of_lt (Nat.sub_le _ _) t.isLt⟩

/-- The history's rows from `o` on, as the body reads them. -/
abbrev back (c : Dev nD) (t : Fin cfg0.N) (r : LoadRect S520x1024) : r.shape.Idx → Elt F .f32 :=
  fun j => View.canon (histWrites (rowsAt m c t) (win1At m c t) (win2At m c t) (topAt m c t)) (r.idx j)

/-- Two rows back, and one. -/
def back2At (c : Dev nD) (t : Fin cfg0.N) : S512x1024.Idx → Elt F .f32 :=
  back m c t (Rect.unit (s := S520x1024) ![6, 0] S512x1024.size inb_S520x1024_S512x1024_6_0).toLoadRect
def back1At (c : Dev nD) (t : Fin cfg0.N) : S512x1024.Idx → Elt F .f32 :=
  back m c t (Rect.unit (s := S520x1024) ![7, 0] S512x1024.size inb_S520x1024_S512x1024_7_0).toLoadRect

/-- The block's rows as the body leaves them. -/
def wideAt (c : Dev nD) (t : Fin cfg0.N) : S512x1024.Idx → Elt F .f32 :=
  rowsOut (rowsAt m c t) (win0At m c t) (win1At m c t) (win2At m c t) (tap0At m c t) (tap1At m c t) (tap2At m c t)
    (back2At m c t) (back1At m c t) (woutAt m c t) (scaleAt m c t) (shiftAt m c t)

/-- The same in rows of 128 lanes: what the output's buffer holds. -/
def outAt (c : Dev nD) (t : Fin cfg0.N) : S4096x128.Idx → Elt F .f32 := Spread.tall (wideAt m c t)

/-! ## The proof data -/

/-- The history and the counts carried on, as the body is handed them. -/
abbrev hist : Memref sig .tc .vmem S520x1024 .f32 := Memref.whole cc0_scratch0
abbrev carry : Memref sig .tc .vmem S32x128 .f32 := Memref.whole cc0_scratch1

/-- Between points: the history holds, past the first point, the last rows of the block just done; the rest is as it may be. -/
def Phi (c : Dev nD) (n : ℕ) : sProp 𝕄 :=
  iprop((∃ f, ⌜∀ t : Fin cfg0.N, n = t.val + 1 → View.readAt (Elt F) hist.view topRows.toLoadRect f = tailAt m c t⌝
      ∗ (hist.view.loc (c : Thread nD τ) ↦[hist.view.set]{fullShare} f))
    ∗ (∃ d, owns (c : Thread nD τ) carry fullShare d) ∗ ∃ r, prngReg c r)

/-- The routing's outputs, of which nothing is said. -/
abbrev forgotten : Fin cfg0.W → Bool := fun w => match w with
  | ⟨9, _⟩ => true
  | ⟨10, _⟩ => true
  | ⟨11, _⟩ => true
  | _ => false

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 12) t
    | ⟨1, _⟩ => iblk m c (1 : Fin 12) t
    | ⟨2, _⟩ => iblk m c (2 : Fin 12) t
    | ⟨3, _⟩ => iblk m c (3 : Fin 12) t
    | ⟨4, _⟩ => iblk m c (4 : Fin 12) t
    | ⟨5, _⟩ => iblk m c (5 : Fin 12) t
    | ⟨6, _⟩ => iblk m c (6 : Fin 12) t
    | ⟨7, _⟩ => iblk m c (7 : Fin 12) t
    | ⟨8, _⟩ => outAt m c t
    | ⟨9, _⟩ => fun _ => 0#32
    | ⟨10, _⟩ => fun _ => Scalar.ofBits .f32 0#32
    | ⟨11, _⟩ => fun _ => Scalar.ofBits .f32 0#32
  Φ t := Phi m c t.val
  q _ := fullShare
  owed _ := 0

/-! ## What each input's buffer holds when the body runs -/

theorem before0 (c : Dev nD) (t : Fin cfg0.N) (d) : (dats m 0 c).before (0 : Fin 12) t d = iblk m c (0 : Fin 12) t :=
  ((dats m 0 c).before_in_eq_fetched (0 : Fin 12) rfl (fun _ => rfl) (fun _ _ _ => rfl) (fun _ => rfl) t d).trans rfl
theorem before1 (c : Dev nD) (t : Fin cfg0.N) (d) : (dats m 0 c).before (1 : Fin 12) t d = iblk m c (1 : Fin 12) t :=
  ((dats m 0 c).before_in_eq_fetched (1 : Fin 12) rfl (fun _ => rfl) (fun _ _ _ => rfl) (fun _ => rfl) t d).trans rfl
theorem before2 (c : Dev nD) (t : Fin cfg0.N) (d) : (dats m 0 c).before (2 : Fin 12) t d = iblk m c (2 : Fin 12) t :=
  ((dats m 0 c).before_in_eq_fetched (2 : Fin 12) rfl (fun _ => rfl) (fun _ _ _ => rfl) (fun _ => rfl) t d).trans rfl
theorem before3 (c : Dev nD) (t : Fin cfg0.N) (d) : (dats m 0 c).before (3 : Fin 12) t d = iblk m c (3 : Fin 12) t :=
  ((dats m 0 c).before_in_eq_fetched (3 : Fin 12) rfl (fun _ => rfl) (fun _ _ _ => rfl) (fun _ => rfl) t d).trans rfl
theorem before4 (c : Dev nD) (t : Fin cfg0.N) (d) : (dats m 0 c).before (4 : Fin 12) t d = iblk m c (4 : Fin 12) t :=
  ((dats m 0 c).before_in_eq_fetched (4 : Fin 12) rfl (fun _ => rfl) (fun _ _ _ => rfl) (fun _ => rfl) t d).trans rfl
theorem before5 (c : Dev nD) (t : Fin cfg0.N) (d) : (dats m 0 c).before (5 : Fin 12) t d = iblk m c (5 : Fin 12) t :=
  ((dats m 0 c).before_in_eq_fetched (5 : Fin 12) rfl (fun _ => rfl) (fun _ _ _ => rfl) (fun _ => rfl) t d).trans rfl
theorem before6 (c : Dev nD) (t : Fin cfg0.N) (d) : (dats m 0 c).before (6 : Fin 12) t d = iblk m c (6 : Fin 12) t :=
  ((dats m 0 c).before_in_eq_fetched (6 : Fin 12) rfl (fun _ => rfl) (fun _ _ _ => rfl) (fun _ => rfl) t d).trans rfl
theorem before7 (c : Dev nD) (t : Fin cfg0.N) (d) : (dats m 0 c).before (7 : Fin 12) t d = iblk m c (7 : Fin 12) t :=
  ((dats m 0 c).before_in_eq_fetched (7 : Fin 12) rfl (fun _ => rfl) (fun _ _ _ => rfl) (fun _ => rfl) t d).trans rfl

/-! ## The body obligation -/

/-- The body at point `t`, as the launch calls it. -/
abbrev bodyAt (t : Fin cfg0.N) : Prog (TpuEff nD τ sig (Elt F) Λ₀ .tc) PUnit :=
  cc0_short_conv_kernel (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
    hist (Memref.isWhole_whole _) carry (Memref.isWhole_whole _)

set_option maxHeartbeats 4000000 in
/-- The body at a point leaves the block's rows in the output's buffer and the history ready for the next point. -/
theorem sound_body (c : Dev nD) (t : Fin cfg0.N) :
    iprop(Phi m c t.val ∗ (dats m 0 c).owesAt () t.castSucc
        ∗ (∃ d, owns (c : Thread nD τ) (ms0 t) fullShare ((dats m 0 c).before (0 : Fin 12) t d))
        ∗ (∃ d, owns (c : Thread nD τ) (ms1 t) fullShare ((dats m 0 c).before (1 : Fin 12) t d))
        ∗ (∃ d, owns (c : Thread nD τ) (ms2 t) fullShare ((dats m 0 c).before (2 : Fin 12) t d))
        ∗ (∃ d, owns (c : Thread nD τ) (ms3 t) fullShare ((dats m 0 c).before (3 : Fin 12) t d))
        ∗ (∃ d, owns (c : Thread nD τ) (ms4 t) fullShare ((dats m 0 c).before (4 : Fin 12) t d))
        ∗ (∃ d, owns (c : Thread nD τ) (ms5 t) fullShare ((dats m 0 c).before (5 : Fin 12) t d))
        ∗ (∃ d, owns (c : Thread nD τ) (ms6 t) fullShare ((dats m 0 c).before (6 : Fin 12) t d))
        ∗ (∃ d, owns (c : Thread nD τ) (ms7 t) fullShare ((dats m 0 c).before (7 : Fin 12) t d))
        ∗ (∃ d, owns (c : Thread nD τ) (ms8 t) fullShare ((dats m 0 c).before (8 : Fin 12) t d))
        ∗ (∃ d, owns (c : Thread nD τ) (ms9 t) fullShare d)
        ∗ (∃ d, owns (c : Thread nD τ) (ms10 t) fullShare d)
        ∗ (∃ d, owns (c : Thread nD τ) (ms11 t) fullShare d))
      ⊢ wp frame (wpE (defs₀ (F := F)) Variants.none c none) Set.univ (bodyAt t) fun _ =>
          iprop(Phi m c (t.val + 1) ∗ (dats m 0 c).owesAt () t.castSucc
            ∗ owns (c : Thread nD τ) (ms0 t) fullShare ((dats m 0 c).after (0 : Fin 12) t)
            ∗ owns (c : Thread nD τ) (ms1 t) fullShare ((dats m 0 c).after (1 : Fin 12) t)
            ∗ owns (c : Thread nD τ) (ms2 t) fullShare ((dats m 0 c).after (2 : Fin 12) t)
            ∗ owns (c : Thread nD τ) (ms3 t) fullShare ((dats m 0 c).after (3 : Fin 12) t)
            ∗ owns (c : Thread nD τ) (ms4 t) fullShare ((dats m 0 c).after (4 : Fin 12) t)
            ∗ owns (c : Thread nD τ) (ms5 t) fullShare ((dats m 0 c).after (5 : Fin 12) t)
            ∗ owns (c : Thread nD τ) (ms6 t) fullShare ((dats m 0 c).after (6 : Fin 12) t)
            ∗ owns (c : Thread nD τ) (ms7 t) fullShare ((dats m 0 c).after (7 : Fin 12) t)
            ∗ owns (c : Thread nD τ) (ms8 t) fullShare ((dats m 0 c).after (8 : Fin 12) t)
            ∗ (∃ d, owns (c : Thread nD τ) (ms9 t) fullShare d)
            ∗ (∃ d, owns (c : Thread nD τ) (ms10 t) fullShare d)
            ∗ (∃ d, owns (c : Thread nD τ) (ms11 t) fullShare d)) := by
  simp only [before0, before1, before2, before3, before4, before5, before6, before7]
  unfold Phi
  iintro ⟨⟨⟨%f, %hf, HH⟩, HC, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  have htop : isFirst (crd t) = 1#1 ∧ topAt m c t = k0_pay3
      ∨ ¬ isFirst (crd t) = 1#1 ∧ View.readAt (Elt F) hist.view topRows.toLoadRect f = topAt m c t := by
    unfold topAt
    by_cases h : t.val % 8 = 0
    · exact .inl ⟨(first_iff t).mpr h, if_pos h⟩
    · refine .inr ⟨fun h' => h ((first_iff t).mp h'), ?_⟩
      rw [if_neg h]
      exact hf _ (by show t.val = t.val - 1 + 1; omega)
  iapply (run c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
    hist (Memref.isWhole_whole _) carry (Memref.isWhole_whole _)
    (iblk m c (0 : Fin 12) t) (iblk m c (1 : Fin 12) t) (iblk m c (2 : Fin 12) t) (iblk m c (3 : Fin 12) t) (iblk m c (4 : Fin 12) t) (iblk m c (5 : Fin 12) t) (iblk m c (6 : Fin 12) t) (iblk m c (7 : Fin 12) t) f (topAt m c t)
    (rowsAt m c t) (win0At m c t) (win1At m c t) (win2At m c t) (tap0At m c t) (tap1At m c t) (tap2At m c t)
    (back2At m c t) (back1At m c t) (woutAt m c t) (scaleAt m c t) (shiftAt m c t) htop
    (by rw [View.readAt_rep]; rfl) (by rw [View.readAt_rep]; rfl) (by rw [View.readAt_rep]; rfl) (by rw [View.readAt_rep]; rfl) (by rw [View.readAt_rep]; rfl)
    (by rw [View.readAt_rep]; rfl) (by rw [View.readAt_rep]; rfl) (by rw [View.readCov_eq_canon']; rfl) (by rw [View.readCov_eq_canon']; rfl)
    (by rw [View.readAt_rep]; rfl) (by rw [View.readAt_rep]; rfl) (by rw [View.readAt_rep]; rfl))
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iexists _; iexact H8
  isplitl [H9]; · iexact H9
  isplitl [H10]; · iexact H10
  isplitl [H11]; · iexact H11
  isplitl [HH]; · iexact HH
  isplitl [HC]; · iexact HC
  iintro ⟨H0, H1, H2, H3, H4, H5, H6, H7, ⟨%e, H8⟩, H9, H10, H11, ⟨%h, HH⟩, HC⟩
  isplitl [HH HC HR]
  · isplitl [HH]
    · iexists _
      isplitr; swap
      · iexact HH
      · ipureintro
        intro t' ht'
        obtain rfl : t = t' := Fin.ext (by omega)
        funext j
        exact View.read_writes_cons_emb (Val := Elt F) hist.view _ topRows _ _ j
    isplitl [HC]; · iexact HC
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]
  · unfold owns; iexists _; isplitr; swap
    · iexact H8
    · ipureintro
      show View.read (Elt F) (ms8 t).view _ = Spread.tall (wideAt m c t)
      exact Spread.read_pieces (F := F) (by decide) (ms8 t).view e (wideAt m c t)
  isplitl [H9]; · iexact H9
  isplitl [H10]; · iexact H10
  iexact H11

/-- The library's body obligation, at every point. -/
theorem body_obligation (c : Dev nD) : BodyObligation (dats m 0 c) (defs₀ (F := F)) Variants.none () Set.univ forgotten := fun t => by
  simp only [bigSep_W0]
  exact sound_body m c t

end Cert.Conv

end
-- ==== Proof.ConvLaunch.lean ====
/- The short convolution's launch: every run ends with the arguments as they were, the mixed and normalised rows as the blocks' write-backs
   leave them, and every counter at zero. -/
module

public import proofs.«01_k».proof.Proof.ConvData

@[expose] public section

set_option maxRecDepth 16384
set_option Elab.async false

noncomputable section

namespace Cert.Conv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

theorem hist_set : (hist).view.set = Finset.univ := View.set_whole _
theorem carry_set : (carry).view.set = Finset.univ := View.set_whole _

/-- The two scratch buffers at any contents, as the launch hands them over, give what holds before the first point. -/
theorem enter (c : Dev nD) : (Pipeline.ΦA spec0 c : sProp 𝕄) ⊢ Phi m c 0 := by
  unfold Pipeline.ΦA Phi
  rw [scopedRest0_eq, hist_set]
  iintro ⟨⟨⟨%f, HH⟩, ⟨%d, HC⟩⟩, HR⟩
  isplitl [HH]
  · iexists f
    isplitr; swap
    · iexact HH
    · ipureintro
      intro t ht
      exact absurd ht (by omega)
  isplitl [HC]
  · iexists _
    unfold owns
    iexists d
    isplitr; swap
    · rw [carry_set]; iexact HC
    · ipureintro; rfl
  iexact HR

/-- And what holds after the last point gives them back. -/
theorem leave (c : Dev nD) (n : ℕ) : Phi m c n ⊢ (Pipeline.ΦA spec0 c : sProp 𝕄) := by
  unfold Pipeline.ΦA Phi owns
  rw [scopedRest0_eq, hist_set, carry_set]
  iintro ⟨⟨%f, -, HH⟩, ⟨%d, %g, -, HC⟩, HR⟩
  isplitl [HH HC]
  · isplitl [HH]
    · iexists f; iexact HH
    iexists g; iexact HC
  iexact HR

/-- What the runs end with. -/
abbrev Post (r : PUnit × MemSt nD τ sig (Elt F)) : Prop :=
  Pipeline.RDat.FramePost (cfgs (0 : Fin 1)) (fun c => (dats m 0 c).toRForget forgotten) (V m) r

set_option backward.isDefEq.respectTransparency.types false in
set_option maxHeartbeats 4000000 in
/-- Every run ends, with the kept windows' arrays as the write-backs leave them, the other buffers as the launch found them, and every counter at zero. -/
theorem run_post (g : Dev nD → PrngReg) :
    θ_run (defs (F := F)) (onTc (τ := τ) (main (F := F))) ⟨m, fun _ => 0, g⟩ (fun r => Post m r ∧ r.2.sem = fun _ => 0) :=
  Pipeline.θ_run_frame_track_forget cfgs (dats m) (0 : Fin 1) launch0 defs₀ Variants.none forgotten m g main
    (hbody := fun c => (body_obligation m c).loose)
    (hshare := fun c w => by unfold Dat.share; split <;> rfl)
    (howed := fun _ _ => rfl) (V := V m) (hmain := hmain m) (hA := fun _ _ => rfl)
    (hin := fun c => enter m c) (hout := fun c => leave m c _)
    (Q' := fun r => Post m r ∧ r.2.sem = fun _ => 0)
    (hQ' := fun _ h => h)

/-- What the mixed and normalised rows' array holds at the end. -/
def result (c : Dev nD) : Buf (Elt F) ((c : Thread nD τ).loc main_v6_0) := (dats m 0 c).arrAt (8 : Fin 12) cfg0.N

variable {m}

theorem rest_kept {b : Ref sig .tc} (hb : b.isScoped = false) (ha : ∀ w : Fin 12, (spec0 w).arr.view.ref ≠ b) (hw : b ∉ written)
    {r : PUnit × MemSt nD τ sig (Elt F)} (h : Post m r) (c : Dev nD) :
    r.2.mem ((c : Thread nD τ).loc b) = m ((c : Thread nD τ).loc b) :=
  ((h c).2 b (Pipeline.mem_restRefs_of b hb ha)).trans (V_of_not_written m c b hw)

theorem out_at {r : PUnit × MemSt nD τ sig (Elt F)} (h : Post m r) (c : Dev nD) : r.2.mem ((c : Thread nD τ).loc main_v6_0) = result m c :=
  ((dats m 0 c).toRForget_arrAt_iff (fgt := forgotten) (w := (8 : Fin 12)) rfl _ _).mp ((h c).1 (8 : Fin 12))

variable (m)

/-- Every run ends with the rows' array at `result`, the arguments as they were and every counter at zero. -/
theorem run_result (g : Dev nD → PrngReg) :
    θ_run (defs (F := F)) (onTc (τ := τ) (main (F := F))) ⟨m, fun _ => 0, g⟩
      (fun r => (∀ c : Dev nD, r.2.mem ((c : Thread nD τ).loc main_v6_0) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7))
        ∧ r.2.sem = fun _ => 0) :=
  (θ_run (defs (F := F)) _ _).mono (fun r h => ⟨fun c =>
    ⟨out_at h.1 c,
     (Pipeline.RDat.FramePost.arr_in h.1 c (0 : Fin 12) rfl).trans (V_of_not_written m c main_arg0 (by decide)),
     rest_kept rfl (by decide) (by decide) h.1 c,
     (Pipeline.RDat.FramePost.arr_in h.1 c (2 : Fin 12) rfl).trans (V_of_not_written m c main_arg2 (by decide)),
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c⟩, h.2⟩) (run_post m g)

end Cert.Conv

end
-- ==== Proof.ConvResult.lean ====
/- What the short convolution's output array holds at the end: block by block what the body computed there; and the blocks the body reads. -/
module

public import proofs.«01_k».proof.Proof.ConvLaunch
public import Idealize.ShloMosaic.Lib.Pipeline.ValueKit

@[expose] public section

set_option maxRecDepth 16384
set_option Elab.async false

noncomputable section

namespace Cert.Conv

open Cert.Kernel2Ideal Cert.Kernel2Ideal.Gen
open Idealize.ShloMosaic
open Idealize.ShloMosaic.TcCoe Idealize.ShloMosaic.Tactic
open Idealize.SL.Sem
open Idealize.ShloMosaic.Pipeline (Dat Cfg Window)

variable {F : FTy → Type} [FloatOps F] [∀ e, Nonempty (Elt F e)]
variable (m : (ℓ : Loc nD τ sig) → Buf (Elt F) ℓ)

/-- The grid's point `b`. -/
def at64 (b : ℕ) (h : b < 64) : Fin cfg0.N := ⟨b, show b < grid0.N by rw [N_0]; exact h⟩

theorem block_lt (i : S262144x128.Idx) : (i 0).val / 4096 < 64 := by
  have h : (i 0).val < 262144 := (i 0).isLt
  omega

/-- Point `b`'s rows of 128 lanes: what the body leaves there. -/
def assembled (c : Dev nD) : S262144x128.Idx → Elt F .f32 := fun i =>
  outAt m c (at64 ((i 0).val / 4096) (block_lt i)) (ix2 (⟨(i 0).val % 4096, by omega⟩ : Fin 4096) (⟨(i 1).val, (i 1).isLt⟩ : Fin 128))

/-- The output's block at a point is the point's own. -/
theorem index_out (t : Fin cfg0.N) : (cfg0.win 8).index t = ![t.val, 0] := by
  have ht := point_lt t
  have h0 := crd0 t
  have h1 := crd1 t
  show cc0_transform_8 (crd t) = _
  unfold cc0_transform_8
  have e : (Scalar.addi (Scalar.muli (BitVec.ofNat 32 ((crd t) 0).val) 8#32) (BitVec.ofNat 32 ((crd t) 1).val)).toNat = t.val := by
    show (BitVec.ofNat 32 ((crd t) 0).val * 8#32 + BitVec.ofNat 32 ((crd t) 1).val).toNat = t.val
    rw [BitVec.toNat_add, BitVec.toNat_mul, BitVec.toNat_ofNat, BitVec.toNat_ofNat]
    rw [show ((crd t) 0).val = t.val / 8 from h0, show ((crd t) 1).val = t.val % 8 from h1]
    show (t.val / 8 % 2 ^ 32 * 8 % 2 ^ 32 + t.val % 8 % 2 ^ 32) % 2 ^ 32 = t.val
    omega
  exact congrArg (fun n => (![n, 0] : Fin 2 → ℕ)) e

/-- And is written back there. -/
theorem flush_out (t : Fin cfg0.N) : (cfg0.win 8).flush t = true := by
  have ht := point_lt t
  simp only [Pipeline.Window.flush, Bool.and_eq_true, Bool.or_eq_true, decide_eq_true_eq]
  refine ⟨trivial, ?_⟩
  by_cases h : t.val + 1 = 64
  · exact .inl (h.trans N_0.symm)
  · refine .inr ⟨show t.val + 1 < grid0.N by rw [N_0]; omega, fun e => ?_⟩
    rw [index_out, index_out] at e
    have e0 : t.val + 1 = t.val := congrFun e (0 : Fin 2)
    omega

/-- Where the output's block lies in the array. -/
def place (t : Fin cfg0.N) (y : S4096x128.Idx) : S262144x128.Idx := ((cfg0.win 8).blk t).view.emb y

theorem place0 (t : Fin cfg0.N) (y : S4096x128.Idx) : (place t y 0).val = 4096 * t.val + (y 0).val := by
  unfold place
  blk_simp
  rw [show (cfg0.win 8).index t (0 : Fin 2) = t.val from congrFun (index_out t) (0 : Fin 2)]
  omega

theorem place1 (t : Fin cfg0.N) (y : S4096x128.Idx) : (place t y 1).val = (y 1).val := by
  unfold place
  blk_simp
  rw [show (cfg0.win 8).index t (1 : Fin 2) = 0 from congrFun (index_out t) (1 : Fin 2)]
  omega

theorem assembled_place (c : Dev nD) (t : Fin cfg0.N) (y : S4096x128.Idx) : assembled m c (place t y) = outAt m c t y := by
  have hy : (y 0).val < 4096 := (y 0).isLt
  have h0 := place0 t y
  have h1 := place1 t y
  have ht := point_lt t
  have hq : at64 ((place t y 0).val / 4096) (block_lt _) = t := Fin.ext (by show (place t y 0).val / 4096 = t.val; omega)
  unfold assembled
  rw [hq]
  refine congrArg (outAt m c t) ?_
  funext a
  obtain rfl | rfl : a = (0 : Fin 2) ∨ a = (1 : Fin 2) := by revert a; decide
  · exact Fin.ext (by show (place t y 0).val % 4096 = (y 0).val; omega)
  · exact Fin.ext h1

/-- A written-back block is a block of `assembled`. -/
theorem flushed_eq (c : Dev nD) (t : Fin cfg0.N) :
    (dats m 0 c).flushed (8 : Fin 12) t = ((cfg0.win (8 : Fin 12)).blk t).view.read (Elt F) (assembled m c) := by
  funext y
  blk_simp
  exact (assembled_place m c t y).symm

theorem mem_of_block (t : Fin cfg0.N) (i : S262144x128.Idx) (h : (i 0).val / 4096 = t.val) : i ∈ ((cfg0.win (8 : Fin 12)).blk t).view.set := by
  have hy : (i 0).val % 4096 < 4096 := Nat.mod_lt _ (by decide)
  have e : place t (ix2 (⟨(i 0).val % 4096, hy⟩ : Fin 4096) (⟨(i 1).val, (i 1).isLt⟩ : Fin 128)) = i := by
    funext a
    obtain rfl | rfl : a = (0 : Fin 2) ∨ a = (1 : Fin 2) := by revert a; decide
    · refine Fin.ext ((place0 t _).trans ?_)
      show 4096 * t.val + (i 0).val % 4096 = (i 0).val
      omega
    · exact Fin.ext (place1 t _)
  exact Finset.mem_map.mpr ⟨_, Finset.mem_univ _, e⟩

/-- The whole array at the end. -/
theorem result_assembled (c : Dev nD) (i : S262144x128.Idx) : result m c i = assembled m c i :=
  (dats m 0 c).arrAt_apply_of_mem (8 : Fin 12) (assembled m c) (fun t _ => flushed_eq m c t) _
    (at64 ((i 0).val / 4096) (block_lt i)) i (Fin.isLt _) (flush_out _) (mem_of_block _ i rfl)

/-! ## The windows' arrays as the launch finds them -/

theorem V_v0 (c : Dev nD) : (V m c main_v0 : S1024x3072.Idx → Elt F .bf16) = truncf .bf16 (m ((c : Thread nD τ).loc main_arg1)) bitsLt_bf16_f32 := by
  unfold V; after_results; try rfl
theorem V_v1 (c : Dev nD) : (V m c main_v1 : S1024x1024.Idx → Elt F .bf16) = truncf .bf16 (m ((c : Thread nD τ).loc main_arg3)) bitsLt_bf16_f32 := by
  unfold V; after_results; try rfl
theorem V_v2 (c : Dev nD) : (V m c main_v2 : S1x1024.Idx → Elt F .f32) = shapeCast _ (m ((c : Thread nD τ).loc main_arg4)) shapeCasts_S1024_S1x1024 := by
  unfold V; after_results; try rfl
theorem V_v3 (c : Dev nD) : (V m c main_v3 : S1x1024.Idx → Elt F .f32) = shapeCast _ (m ((c : Thread nD τ).loc main_arg5)) shapeCasts_S1024_S1x1024 := by
  unfold V; after_results; try rfl

/-! ## The blocks the body reads -/

theorem index_rows (t : Fin cfg0.N) : (cfg0.win 0).index t = ![t.val / 8, t.val % 8, 0] := by
  have ht := point_lt t
  show cc0_transform_0 (crd t) = _
  unfold cc0_transform_0
  rw [show ((crd t) 0).val = t.val / 8 from crd0 t, show ((crd t) 1).val = t.val % 8 from crd1 t]
  have e0 : (BitVec.ofNat 32 (t.val / 8)).toNat = t.val / 8 := by rw [BitVec.toNat_ofNat]; exact Nat.mod_eq_of_lt (by omega)
  have e1 : (BitVec.ofNat 32 (t.val % 8)).toNat = t.val % 8 := by rw [BitVec.toNat_ofNat]; exact Nat.mod_eq_of_lt (by omega)
  exact congrArg₂ (fun a b => (![a, b, 0] : Fin 3 → ℕ)) e0 e1

/-- Row `r` of point `t`'s block. -/
theorem rows_at (c : Dev nD) (t : Fin cfg0.N) (r : Fin 512) (k : Fin 1024) :
    iblk m c (0 : Fin 12) t (ix3 (0 : Fin 1) r k)
      = V m c main_arg0 (ix3 (⟨t.val / 8, by have := point_lt t; omega⟩ : Fin 8) (⟨512 * (t.val % 8) + r.val, by omega⟩ : Fin 4096) k) := by
  have e := index_rows t
  blk_ext [iblk]
  · exact congrArg (fun n => n + 0) (congrFun e (0 : Fin 3))
  · refine (congrArg (fun n => n * 512 + r.val) (congrFun e (1 : Fin 3))).trans ?_
    show t.val % 8 * 512 + r.val = 512 * (t.val % 8) + r.val
    omega
  · refine (congrArg (fun n => n * 1024 + k.val) (congrFun e (2 : Fin 3))).trans ?_
    show 0 * 1024 + k.val = k.val
    omega

theorem projections_at (c : Dev nD) (t : Fin cfg0.N) (r : Fin 1024) (k : Fin 3072) : iblk m c (1 : Fin 12) t (ix2 r k) = V m c main_v0 (ix2 r k) := by
  blk_ext [iblk]
  · show 0 * 1024 + r.val = r.val
    omega
  · show 0 * 3072 + k.val = k.val
    omega

theorem taps_at (c : Dev nD) (t : Fin cfg0.N) (r : Fin 3) (k : Fin 1024) : iblk m c (2 : Fin 12) t (ix2 r k) = V m c main_arg2 (ix2 r k) := by
  blk_ext [iblk]
  · show 0 * 3 + r.val = r.val
    omega
  · show 0 * 1024 + k.val = k.val
    omega

theorem outProjection_at (c : Dev nD) (t : Fin cfg0.N) (r : Fin 1024) (k : Fin 1024) : iblk m c (3 : Fin 12) t (ix2 r k) = V m c main_v1 (ix2 r k) := by
  blk_ext [iblk]
  · show 0 * 1024 + r.val = r.val
    omega
  · show 0 * 1024 + k.val = k.val
    omega

theorem scale_at (c : Dev nD) (t : Fin cfg0.N) (k : Fin 1024) : iblk m c (4 : Fin 12) t (ix2 (0 : Fin 1) k) = V m c main_v2 (ix2 (0 : Fin 1) k) := by
  blk_ext [iblk]
  · rfl
  · show 0 * 1024 + k.val = k.val
    omega

theorem shift_at (c : Dev nD) (t : Fin cfg0.N) (k : Fin 1024) : iblk m c (5 : Fin 12) t (ix2 (0 : Fin 1) k) = V m c main_v3 (ix2 (0 : Fin 1) k) := by
  blk_ext [iblk]
  · rfl
  · show 0 * 1024 + k.val = k.val
    omega

end Cert.Conv

end
-- ==== Proof.ConvRow.lean ====
/- One row of the short convolution's mixer with its norm, as an expression of the row, its two predecessors and the weights: what the kernel's
   body computes of a block at an index. -/
module

public import proofs.«01_k».proof.Proof.ConvRuns
public import Idealize.ShloMosaic.Lib.Pointwise

@[expose] public section

set_option maxRecDepth 16384

noncomputable section

namespace Cert.Conv

open Cert.Kernel2Ideal Cert.Kernel2Ideal.Gen
open Idealize.ShloMosaic

/-- The residual's weight 8^(1/4), the norm's 1e-5 and the row length, as the programs write them. -/
abbrev alpha : EReal := Ideal.ofBits .f32 0x3FD744FD#32
abbrev small : EReal := Ideal.ofBits .f32 0x3727C5AC#32
abbrev len : EReal := Ideal.ofBits .f32 0x44800000#32

/-- A gated lane: the product of two of the row's projections. -/
def gated (x w1 w2 : Fin 1024 → EReal) : EReal := (∑ k, x k * w1 k) * (∑ k, x k * w2 k)

/-- The filter's sum over a lane and the same lane one and two rows back. -/
def filtered (c0 c1 c2 v0 v1 v2 : EReal) : EReal := c2 * v0 + c0 * v2 + c1 * v1

/-- The row with its mixer's output added: `u` the filtered lanes. -/
def residual (x : Fin 1024 → EReal) (w0 : Fin 1024 → Fin 1024 → EReal) (u : Fin 1024 → EReal) (wo : Fin 1024 → Fin 1024 → EReal) (d : Fin 1024) : EReal :=
  alpha * x d + ∑ e, (∑ k, x k * w0 k e) * u e * wo e d

/-- A row's mean. -/
def mean (h : Fin 1024 → EReal) : EReal := Ideal.div (∑ d, h d) len

/-- The layer norm of a row at lane `d`. -/
def normed (h : Fin 1024 → EReal) (g b : EReal) (d : Fin 1024) : EReal :=
  (h d - mean h) * Ideal.rsqrt (mean (fun e => (h e - mean h) * (h e - mean h)) + small) * g + b

/-- The gated lane `d` of row `s` of batch `b`, rows counted from two before the batch's first; those two are zeros. -/
def lane (X : FVec Ideal S8x4096x1024 .f32) (W : FVec Ideal S1024x3072 .f32) (b : Fin 8) (s : ℕ) (d : Fin 1024) : EReal :=
  if h : 2 ≤ s ∧ s - 2 < 4096 then
    gated (fun k => X (ix3 b (⟨s - 2, h.2⟩ : Fin 4096) k)) (fun k => W (ix2 k (⟨1024 + d.val, by omega⟩ : Fin 3072)))
      (fun k => W (ix2 k (⟨2048 + d.val, by omega⟩ : Fin 3072)))
  else 0

/-- Lane `d` of row `s` of batch `b`: the mixer's output added to the row, and the layer norm of the sum. -/
def row (X : FVec Ideal S8x4096x1024 .f32) (W : FVec Ideal S1024x3072 .f32) (C : FVec Ideal S3x1024 .f32) (Wo : FVec Ideal S1024x1024 .f32)
    (G B : FVec Ideal S1024 .f32) (b : Fin 8) (s : Fin 4096) (d : Fin 1024) : EReal :=
  normed (residual (fun k => X (ix3 b s k)) (fun k e => W (ix2 k (⟨e.val, by omega⟩ : Fin 3072)))
    (fun e => filtered (C (ix2 0 e)) (C (ix2 1 e)) (C (ix2 2 e)) (lane X W b (s.val + 2) e) (lane X W b (s.val + 1) e) (lane X W b s.val e))
    (fun e f => Wo (ix2 e f))) (G (ix1 d)) (B (ix1 d)) d

theorem gated_at (X : FVec Ideal S1x512x1024 .f32) (W1 W2 : FVec Ideal S1024x1024 .bf16) (r : Fin 512) (d : Fin 1024) :
    k0_pay7 (F := Ideal) X W1 W2 (ix2 r d) = gated (fun k => X (ix3 0 r k)) (fun k => W1 (ix2 k d)) (fun k => W2 (ix2 k d)) := by
  pointwise [k0_pay7, k0_pay5, k0_pay4]
  rfl

theorem residual_at (X : FVec Ideal S1x512x1024 .f32) (W0 W1 W2 : FVec Ideal S1024x1024 .bf16) (C0 C1 C2 : FVec Ideal S1x1024 .f32)
    (R6 R7 : FVec Ideal S512x1024 .f32) (Wo : FVec Ideal S1024x1024 .bf16) (G B : FVec Ideal S1x1024 .f32) (r : Fin 512) (d : Fin 1024) :
    rowsOut (F := Ideal) X W0 W1 W2 C0 C1 C2 R6 R7 Wo G B (ix2 r d)
      = normed (residual (fun k => X (ix3 0 r k)) (fun k e => W0 (ix2 k e))
          (fun e => filtered (C0 (ix2 0 e)) (C1 (ix2 0 e)) (C2 (ix2 0 e)) (k0_pay7 (F := Ideal) X W1 W2 (ix2 r e)) (R7 (ix2 r e)) (R6 (ix2 r e)))
          (fun e f => Wo (ix2 e f))) (G (ix2 0 d)) (B (ix2 0 d)) d := by
  pointwise [rowsOut, k0_pay16, k0_pay15, k0_pay14, k0_pay13, k0_pay10, k0_pay9, k0_pay6, k0_pay5, k0_pay4]
  rfl

end Cert.Conv

end
-- ==== Proof.ConvReference.lean ====
/- What the reference of the short convolution's mixer computes, at an index: the same expression of the row, its two predecessors and the weights. -/
module

public import proofs.«01_k».proof.Proof.Gen.Reference2Ideal.Run
public import proofs.«01_k».proof.Proof.ConvRow

@[expose] public section

set_option maxRecDepth 16384

noncomputable section

namespace Cert.Conv.Reference

open Cert.Reference2Ideal Cert.Reference2Ideal.Gen Cert.Reference2Ideal.Value
open Idealize.ShloMosaic
open Idealize.ShloMosaic.TcCoe Idealize.SL.Sem

/-! ## The reference's term in pieces -/

/-- The three projections side by side. -/
def proj (X : FVec Ideal S8x4096x1024 .f32) (W : FVec Ideal S1024x3072 .f32) : FVec Ideal S8x4096x3072 .f32 :=
  Host.dotGeneral dot_S8x4096x1024_S1024x3072_S8x4096x3072_2_0_01_1_n_n none X W

/-- The gated rows with two rows of zeros before each batch's. -/
def padded (P : FVec Ideal S8x4096x3072 .f32) : FVec Ideal S8x4098x1024 .f32 :=
  pad S8x4098x1024 ![0, 2, 0] ![0, 0, 0] ![0, 0, 0]
    (mulf (extractStridedSlice S8x4096x1024 ![0, 0, 1024] P slices_S8x4096x3072_S8x4096x1024_0_0_1024)
      (extractStridedSlice S8x4096x1024 ![0, 0, 2048] P slices_S8x4096x3072_S8x4096x1024_0_0_2048))
    (sitofp .f32 (constantI S_ 32 0#32)) pads_S8x4096x1024_S8x4098x1024_000_200_000 h_S_

/-- The filter's rows, one over every row of every batch. -/
def tap0 (C : FVec Ideal S3x1024 .f32) : FVec Ideal S8x4096x1024 .f32 :=
  broadcastInDim S8x4096x1024 ![0, 1, 2] bcast_S1x1x1024_S8x4096x1024_0_1_2 (broadcastInDim S1x1x1024 ![2] bcast_S1024_S1x1x1024_2
    (shapeCast _ (extractStridedSlice S1x1024 ![0, 0] C slices_S3x1024_S1x1024_0_0) shapeCasts_S1x1024_S1024))
def tap1 (C : FVec Ideal S3x1024 .f32) : FVec Ideal S8x4096x1024 .f32 :=
  broadcastInDim S8x4096x1024 ![0, 1, 2] bcast_S1x1x1024_S8x4096x1024_0_1_2 (broadcastInDim S1x1x1024 ![2] bcast_S1024_S1x1x1024_2
    (shapeCast _ (extractStridedSlice S1x1024 ![1, 0] C slices_S3x1024_S1x1024_1_0) shapeCasts_S1x1024_S1024))
def tap2 (C : FVec Ideal S3x1024 .f32) : FVec Ideal S8x4096x1024 .f32 :=
  broadcastInDim S8x4096x1024 ![0, 1, 2] bcast_S1x1x1024_S8x4096x1024_0_1_2 (broadcastInDim S1x1x1024 ![2] bcast_S1024_S1x1x1024_2
    (shapeCast _ (extractStridedSlice S1x1024 ![2, 0] C slices_S3x1024_S1x1024_2_0) shapeCasts_S1x1024_S1024))

/-- The filtered rows. -/
def conv (P : FVec Ideal S8x4096x3072 .f32) (C : FVec Ideal S3x1024 .f32) : FVec Ideal S8x4096x1024 .f32 :=
  addf (addf (addf (broadcastInDim S8x4096x1024 ![] bcast_S_S8x4096x1024 (constant S_ .f32 0x00000000#32))
      (mulf (tap0 C) (extractStridedSlice S8x4096x1024 ![0, 0, 0] (padded P) slices_S8x4098x1024_S8x4096x1024_0_0_0)))
      (mulf (tap1 C) (extractStridedSlice S8x4096x1024 ![0, 1, 0] (padded P) slices_S8x4098x1024_S8x4096x1024_0_1_0)))
    (mulf (tap2 C) (extractStridedSlice S8x4096x1024 ![0, 2, 0] (padded P) slices_S8x4098x1024_S8x4096x1024_0_2_0))

/-- The rows with the mixer's output added. -/
def summed (X : FVec Ideal S8x4096x1024 .f32) (P : FVec Ideal S8x4096x3072 .f32) (U : FVec Ideal S8x4096x1024 .f32) (Wo : FVec Ideal S1024x1024 .f32) :
    FVec Ideal S8x4096x1024 .f32 :=
  addf (mulf (broadcastInDim S8x4096x1024 ![] bcast_S_S8x4096x1024 (constant S_ .f32 0x3FD744FD#32)) X)
    (Host.dotGeneral dot_S8x4096x1024_S1024x1024_S8x4096x1024_2_0_01_1_n_n none
      (mulf (extractStridedSlice S8x4096x1024 ![0, 0, 0] P slices_S8x4096x3072_S8x4096x1024_0_0_0) U) Wo)

/-- The rows' means. -/
def means (H : FVec Ideal S8x4096x1024 .f32) : FVec Ideal S8x4096x1 .f32 :=
  Host.divf (broadcastInDim S8x4096x1 ![0, 1] bcast_S8x4096_S8x4096x1_0_1
      (Host.reduceAdd H (constant S_ .f32 0x00000000#32) reducesTo_S8x4096x1024_S8x4096_d2 h_S_))
    (broadcastInDim S8x4096x1 ![] bcast_S_S8x4096x1 (constant S_ .f32 0x44800000#32))

/-- The rows less their means. -/
def centred (H : FVec Ideal S8x4096x1024 .f32) : FVec Ideal S8x4096x1024 .f32 :=
  subf H (broadcastInDim S8x4096x1024 ![0, 1, 2] bcast_S8x4096x1_S8x4096x1024_0_1_2 (means H))

/-- The layer norm. -/
def norm (H : FVec Ideal S8x4096x1024 .f32) (G B : FVec Ideal S1024 .f32) : FVec Ideal S8x4096x1024 .f32 :=
  addf (mulf (mulf (centred H) (broadcastInDim S8x4096x1024 ![0, 1, 2] bcast_S8x4096x1_S8x4096x1024_0_1_2
      (Host.rsqrt (addf (means (mulf (centred H) (centred H))) (broadcastInDim S8x4096x1 ![] bcast_S_S8x4096x1 (constant S_ .f32 0x3727C5AC#32))))))
      (broadcastInDim S8x4096x1024 ![0, 1, 2] bcast_S1x1x1024_S8x4096x1024_0_1_2 (broadcastInDim S1x1x1024 ![2] bcast_S1024_S1x1x1024_2 G)))
    (broadcastInDim S8x4096x1024 ![0, 1, 2] bcast_S1x1x1024_S8x4096x1024_0_1_2 (broadcastInDim S1x1x1024 ![2] bcast_S1024_S1x1x1024_2 B))

/-- The whole. -/
def whole (X : FVec Ideal S8x4096x1024 .f32) (W : FVec Ideal S1024x3072 .f32) (C : FVec Ideal S3x1024 .f32) (Wo : FVec Ideal S1024x1024 .f32)
    (G B : FVec Ideal S1024 .f32) : FVec Ideal S262144x128 .f32 :=
  shapeCast _ (norm (summed X (proj X W) (conv (proj X W) C) Wo) G B) shapeCasts_S8x4096x1024_S262144x128

theorem res_eq (m : (ℓ : Loc nD τ sig) → Buf (Elt Ideal) ℓ) (c : Dev nD) :
    res_main_v55 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v55 whole norm means centred summed conv tap0 tap1 tap2 padded proj
  rfl

/-! ## The pieces at an index -/

theorem proj_at (X : FVec Ideal S8x4096x1024 .f32) (W : FVec Ideal S1024x3072 .f32) (b : Fin 8) (s : Fin 4096) (e : Fin 3072) :
    proj X W (ix3 b s e) = ∑ k, X (ix3 b s k) * W (ix2 k e) := by
  pointwise [proj]

/-- The product's gated lane `d` of row `s`, counted from two rows before the batch's first. -/
def laneOf (P : FVec Ideal S8x4096x3072 .f32) (b : Fin 8) (s : ℕ) (d : Fin 1024) : EReal :=
  if h : 2 ≤ s ∧ s - 2 < 4096 then P (ix3 b (⟨s - 2, h.2⟩ : Fin 4096) (⟨1024 + d.val, by omega⟩ : Fin 3072)) * P (ix3 b (⟨s - 2, h.2⟩ : Fin 4096) (⟨2048 + d.val, by omega⟩ : Fin 3072))
  else 0

theorem padded_at (P : FVec Ideal S8x4096x3072 .f32) (b : Fin 8) (s : Fin 4098) (d : Fin 1024) : padded P (ix3 b s d) = laneOf P b s.val d := by
  have hz : FloatOps.sitofp (F := Ideal) .f32 (0#32) = (0 : EReal) := by
    show (((0#32 : BitVec 32).toInt : ℝ) : EReal) = 0
    simp
  pointwise [padded, laneOf]
  rw [hz]

theorem conv_at (P : FVec Ideal S8x4096x3072 .f32) (C : FVec Ideal S3x1024 .f32) (b : Fin 8) (s : Fin 4096) (d : Fin 1024) :
    conv P C (ix3 b s d) = filtered (C (ix2 0 d)) (C (ix2 1 d)) (C (ix2 2 d)) (laneOf P b (s.val + 2) d) (laneOf P b (s.val + 1) d) (laneOf P b s.val d) := by
  pointwise [conv, tap0, tap1, tap2, filtered]
  simp only [padded_at]
  rw [Nat.add_comm 1 s.val, Nat.add_comm 2 s.val, add_comm (_ + _) (C (ix2 2 d) * _), ← add_assoc]

theorem summed_at (X : FVec Ideal S8x4096x1024 .f32) (P : FVec Ideal S8x4096x3072 .f32) (U : FVec Ideal S8x4096x1024 .f32) (Wo : FVec Ideal S1024x1024 .f32)
    (b : Fin 8) (s : Fin 4096) (d : Fin 1024) :
    summed X P U Wo (ix3 b s d) = alpha * X (ix3 b s d) + ∑ e : Fin 1024, P (ix3 b s (⟨e.val, by omega⟩ : Fin 3072)) * U (ix3 b s e) * Wo (ix2 e d) := by
  pointwise [summed]

theorem means_at (H : FVec Ideal S8x4096x1024 .f32) (b : Fin 8) (s : Fin 4096) (d : Fin 1) : means H (ix3 b s d) = mean fun d => H (ix3 b s d) := by
  pointwise [means, mean]

theorem norm_at (H : FVec Ideal S8x4096x1024 .f32) (G B : FVec Ideal S1024 .f32) (b : Fin 8) (s : Fin 4096) (d : Fin 1024) :
    norm H G B (ix3 b s d) = normed (fun d => H (ix3 b s d)) (G (ix1 d)) (B (ix1 d)) d := by
  pointwise [norm, centred, normed]
  simp only [means_at]
  pointwise []
  simp only [means_at]

theorem laneOf_proj (X : FVec Ideal S8x4096x1024 .f32) (W : FVec Ideal S1024x3072 .f32) (b : Fin 8) (s : ℕ) (d : Fin 1024) :
    laneOf (proj X W) b s d = lane X W b s d := by
  unfold laneOf lane gated
  simp only [proj_at]

theorem whole_at (X : FVec Ideal S8x4096x1024 .f32) (W : FVec Ideal S1024x3072 .f32) (C : FVec Ideal S3x1024 .f32) (Wo : FVec Ideal S1024x1024 .f32)
    (G B : FVec Ideal S1024 .f32) (i : Fin 262144) (l : Fin 128) :
    whole X W C Wo G B (ix2 i l)
      = row X W C Wo G B (⟨i.val / 32768, by omega⟩ : Fin 8) (⟨i.val / 8 % 4096, by omega⟩ : Fin 4096) (⟨i.val % 8 * 128 + l.val, by omega⟩ : Fin 1024) := by
  pointwise [whole]
  rw [norm_at]
  unfold row residual
  simp only [summed_at, conv_at, proj_at, laneOf_proj]

end Cert.Conv.Reference

end
-- ==== Proof.ConvEquation.lean ====
/- Kernel and reference of the short convolution agree: at every index of the result both are the same expression of the arguments. -/
module

public import proofs.«01_k».proof.Proof.ConvResult
public import proofs.«01_k».proof.Proof.ConvReference

@[expose] public section

set_option maxRecDepth 16384
set_option Elab.async false

noncomputable section

namespace Cert.Conv

open Cert.Kernel2Ideal Cert.Kernel2Ideal.Gen
open Idealize.ShloMosaic
open Idealize.ShloMosaic.TcCoe Idealize.ShloMosaic.Tactic
open Idealize.SL.Sem
open Idealize.ShloMosaic.Pipeline (Dat Cfg Window)

/-! ## The history -/

section History

variable {F : FTy → Type} [FloatOps F] [∀ e, Nonempty (Elt F e)]

/-- The history's first eight rows are the ones found there; -/
theorem hist_top (X : S1x512x1024.Idx → Elt F .f32) (W1 W2 : S1024x1024.Idx → Elt F .bf16) (top : S8x1024.Idx → Elt F .f32) (q : Fin 8) (d : Fin 1024) :
    View.canon (histWrites X W1 W2 top) (ix2 (⟨q.val, by omega⟩ : Fin 520) d) = top (ix2 q d) := by
  have e : topRows.emb (ix2 q d) = (ix2 (⟨q.val, by omega⟩ : Fin 520) d : S520x1024.Idx) := by
    funext a
    obtain rfl | rfl : a = (0 : Fin 2) ∨ a = (1 : Fin 2) := by revert a; decide
    · exact Fin.ext (by show 0 + 1 * q.val = q.val; omega)
    · exact Fin.ext (by show 0 + 1 * d.val = d.val; omega)
  unfold histWrites
  rw [View.canon_cons_of_not_mem, ← e]
  · exact View.canon_cons_emb ..
  · intro h
    obtain ⟨x, hx⟩ := blockRows.exists_idx_of_mem h
    have h0 : q.val = 8 + 1 * (x (0 : Fin 2)).val := (congrArg (fun y : S520x1024.Idx => (y 0).val) hx).symm
    omega

/-- the others are the block's. -/
theorem hist_block (X : S1x512x1024.Idx → Elt F .f32) (W1 W2 : S1024x1024.Idx → Elt F .bf16) (top : S8x1024.Idx → Elt F .f32) (r : Fin 512) (d : Fin 1024) :
    View.canon (histWrites X W1 W2 top) (ix2 (⟨8 + r.val, by omega⟩ : Fin 520) d) = k0_pay8 X W1 W2 (ix2 r d) := by
  have e : blockRows.emb (ix2 r d) = (ix2 (⟨8 + r.val, by omega⟩ : Fin 520) d : S520x1024.Idx) := by
    funext a
    obtain rfl | rfl : a = (0 : Fin 2) ∨ a = (1 : Fin 2) := by revert a; decide
    · exact Fin.ext (by show 8 + 1 * r.val = 8 + r.val; omega)
    · exact Fin.ext (by show 0 + 1 * d.val = d.val; omega)
  unfold histWrites
  rw [← e]
  exact View.canon_cons_emb ..

end History

variable (m : (ℓ : Loc nD τ sig) → Buf (Elt Ideal) ℓ)

/-! ## What the body loads, in terms of the arguments -/

/-- The arguments. -/
abbrev argX (c : Dev nD) : FVec Ideal S8x4096x1024 .f32 := m ((c : Thread nD τ).loc main_arg0)
abbrev argW (c : Dev nD) : FVec Ideal S1024x3072 .f32 := m ((c : Thread nD τ).loc main_arg1)
abbrev argC (c : Dev nD) : FVec Ideal S3x1024 .f32 := m ((c : Thread nD τ).loc main_arg2)
abbrev argO (c : Dev nD) : FVec Ideal S1024x1024 .f32 := m ((c : Thread nD τ).loc main_arg3)
abbrev argG (c : Dev nD) : FVec Ideal S1024 .f32 := m ((c : Thread nD τ).loc main_arg4)
abbrev argB (c : Dev nD) : FVec Ideal S1024 .f32 := m ((c : Thread nD τ).loc main_arg5)

/-- A point's batch, -/
abbrev batch (t : Fin cfg0.N) : Fin 8 := ⟨t.val / 8, by have := point_lt t; omega⟩
/-- and its block's row `r`. -/
abbrev rowOf (t : Fin cfg0.N) (r : Fin 512) : Fin 4096 := ⟨512 * (t.val % 8) + r.val, by omega⟩

theorem rowsAt_val (c : Dev nD) (t : Fin cfg0.N) (r : Fin 512) (k : Fin 1024) : rowsAt m c t (ix3 0 r k) = argX m c (ix3 (batch t) (rowOf t r) k) := by
  unfold rowsAt
  pointwise [part]
  rw [rows_at, V_of_not_written m c main_arg0 (by decide)]

theorem weight_val (c : Dev nD) (k : Fin 1024) (e : Fin 3072) : (V m c main_v0 : S1024x3072.Idx → EReal) (ix2 k e) = argW m c (ix2 k e) := by
  refine (congrFun (V_v0 m c) _).trans ?_
  pointwise []

theorem win0At_val (c : Dev nD) (t : Fin cfg0.N) (k e : Fin 1024) : win0At m c t (ix2 k e) = argW m c (ix2 k (⟨e.val, by omega⟩ : Fin 3072)) := by
  unfold win0At
  pointwise [part]
  rw [projections_at]
  exact weight_val m c _ _

theorem win1At_val (c : Dev nD) (t : Fin cfg0.N) (k e : Fin 1024) : win1At m c t (ix2 k e) = argW m c (ix2 k (⟨1024 + e.val, by omega⟩ : Fin 3072)) := by
  unfold win1At
  pointwise [part]
  rw [projections_at]
  exact weight_val m c _ _

theorem win2At_val (c : Dev nD) (t : Fin cfg0.N) (k e : Fin 1024) : win2At m c t (ix2 k e) = argW m c (ix2 k (⟨2048 + e.val, by omega⟩ : Fin 3072)) := by
  unfold win2At
  pointwise [part]
  rw [projections_at]
  exact weight_val m c _ _

theorem tap0At_val (c : Dev nD) (t : Fin cfg0.N) (e : Fin 1024) : tap0At m c t (ix2 0 e) = argC m c (ix2 0 e) := by
  unfold tap0At
  pointwise [part]
  rw [taps_at, V_of_not_written m c main_arg2 (by decide)]

theorem tap1At_val (c : Dev nD) (t : Fin cfg0.N) (e : Fin 1024) : tap1At m c t (ix2 0 e) = argC m c (ix2 1 e) := by
  unfold tap1At
  pointwise [part]
  rw [taps_at, V_of_not_written m c main_arg2 (by decide)]

theorem tap2At_val (c : Dev nD) (t : Fin cfg0.N) (e : Fin 1024) : tap2At m c t (ix2 0 e) = argC m c (ix2 2 e) := by
  unfold tap2At
  pointwise [part]
  rw [taps_at, V_of_not_written m c main_arg2 (by decide)]

theorem woutAt_val (c : Dev nD) (t : Fin cfg0.N) (e f : Fin 1024) : woutAt m c t (ix2 e f) = argO m c (ix2 e f) := by
  unfold woutAt
  pointwise [part]
  rw [outProjection_at]
  refine (congrFun (V_v1 m c) _).trans ?_
  pointwise []

theorem scaleAt_val (c : Dev nD) (t : Fin cfg0.N) (d : Fin 1024) : scaleAt m c t (ix2 0 d) = argG m c (ix1 d) := by
  unfold scaleAt
  pointwise [part]
  rw [scale_at]
  refine (congrFun (V_v2 m c) _).trans ?_
  pointwise []

theorem shiftAt_val (c : Dev nD) (t : Fin cfg0.N) (d : Fin 1024) : shiftAt m c t (ix2 0 d) = argB m c (ix1 d) := by
  unfold shiftAt
  pointwise [part]
  rw [shift_at]
  refine (congrFun (V_v3 m c) _).trans ?_
  pointwise []

/-! ## The gated rows -/

theorem gatedAt_val (c : Dev nD) (t : Fin cfg0.N) (r : Fin 512) (d : Fin 1024) :
    k0_pay7 (F := Ideal) (rowsAt m c t) (win1At m c t) (win2At m c t) (ix2 r d) = lane (argX m c) (argW m c) (batch t) (512 * (t.val % 8) + r.val + 2) d := by
  rw [gated_at]
  simp only [rowsAt_val, win1At_val, win2At_val]
  unfold lane
  rw [dif_pos ⟨by omega, by omega⟩]
  rfl

/-- The last two rows on top of the history: the two before the block's first. -/
theorem topAt_val (c : Dev nD) (t : Fin cfg0.N) (q : Fin 8) (hq : 6 ≤ q.val) (d : Fin 1024) :
    topAt m c t (ix2 q d) = lane (argX m c) (argW m c) (batch t) (512 * (t.val % 8) + q.val - 6) d := by
  have ht := point_lt t
  unfold topAt
  by_cases h : t.val % 8 = 0
  · rw [if_pos h]
    unfold lane
    rw [dif_neg (by omega)]
    pointwise [k0_pay3]
  · rw [if_neg h]
    have e : tailAt m c ⟨t.val - 1, Nat.lt_of_le_of_lt (Nat.sub_le _ _) t.isLt⟩ (ix2 q d)
        = k0_pay7 (F := Ideal) (rowsAt m c ⟨t.val - 1, Nat.lt_of_le_of_lt (Nat.sub_le _ _) t.isLt⟩) (win1At m c ⟨t.val - 1, Nat.lt_of_le_of_lt (Nat.sub_le _ _) t.isLt⟩)
          (win2At m c ⟨t.val - 1, Nat.lt_of_le_of_lt (Nat.sub_le _ _) t.isLt⟩) (ix2 (⟨504 + q.val, by omega⟩ : Fin 512) d) := by
      unfold tailAt
      pointwise [k0_pay11]
    rw [e, gatedAt_val]
    refine congrArg₂ (fun b s => lane (argX m c) (argW m c) b s d) (Fin.ext ?_) ?_
    · show (t.val - 1) / 8 = t.val / 8
      omega
    · show 512 * ((t.val - 1) % 8) + (504 + q.val) + 2 = 512 * (t.val % 8) + q.val - 6
      omega

/-- The history from its seventh row on: the rows from two before the block's first. -/
theorem hist_val (c : Dev nD) (t : Fin cfg0.N) (q : Fin 520) (hq : 6 ≤ q.val) (d : Fin 1024) :
    View.canon (histWrites (rowsAt m c t) (win1At m c t) (win2At m c t) (topAt m c t)) (ix2 q d)
      = lane (argX m c) (argW m c) (batch t) (512 * (t.val % 8) + q.val - 6) d := by
  by_cases h : q.val < 8
  · exact (hist_top _ _ _ _ (⟨q.val, h⟩ : Fin 8) d).trans (topAt_val m c t ⟨q.val, h⟩ hq d)
  · have e : q = ⟨8 + (q.val - 8), by omega⟩ := Fin.ext (by show q.val = 8 + (q.val - 8); omega)
    rw [e]
    refine (hist_block _ _ _ _ (⟨q.val - 8, by omega⟩ : Fin 512) d).trans ?_
    pointwise [k0_pay8]
    rw [gatedAt_val]
    exact congrArg (fun s => lane (argX m c) (argW m c) (batch t) s d)
      (by show 512 * (t.val % 8) + (q.val - 8) + 2 = 512 * (t.val % 8) + (8 + (q.val - 8)) - 6; omega)

theorem back2At_val (c : Dev nD) (t : Fin cfg0.N) (r : Fin 512) (d : Fin 1024) :
    back2At m c t (ix2 r d) = lane (argX m c) (argW m c) (batch t) (512 * (t.val % 8) + r.val) d := by
  unfold back2At
  pointwise [back]
  rw [hist_val m c t _ (by dsimp only; omega)]
  exact congrArg (fun s => lane (argX m c) (argW m c) (batch t) s d) (by dsimp only; omega)

theorem back1At_val (c : Dev nD) (t : Fin cfg0.N) (r : Fin 512) (d : Fin 1024) :
    back1At m c t (ix2 r d) = lane (argX m c) (argW m c) (batch t) (512 * (t.val % 8) + r.val + 1) d := by
  unfold back1At
  pointwise [back]
  rw [hist_val m c t _ (by dsimp only; omega)]
  exact congrArg (fun s => lane (argX m c) (argW m c) (batch t) s d) (by dsimp only; omega)

/-! ## The block's rows, and the whole array -/

theorem wideAt_val (c : Dev nD) (t : Fin cfg0.N) (r : Fin 512) (d : Fin 1024) :
    wideAt m c t (ix2 r d) = row (argX m c) (argW m c) (argC m c) (argO m c) (argG m c) (argB m c) (batch t) (rowOf t r) d := by
  unfold wideAt
  rw [residual_at]
  simp only [gatedAt_val, rowsAt_val, win0At_val, tap0At_val, tap1At_val, tap2At_val, back2At_val, back1At_val, woutAt_val, scaleAt_val, shiftAt_val]
  rfl

theorem result_at (c : Dev nD) (i : Fin 262144) (l : Fin 128) :
    result m c (ix2 i l) = row (argX m c) (argW m c) (argC m c) (argO m c) (argG m c) (argB m c)
      (⟨i.val / 32768, by omega⟩ : Fin 8) (⟨i.val / 8 % 4096, by omega⟩ : Fin 4096) (⟨i.val % 8 * 128 + l.val, by omega⟩ : Fin 1024) := by
  refine (result_assembled m c (ix2 i l)).trans ?_
  have e : assembled m c (ix2 i l) = wideAt m c (at64 (i.val / 4096) (by omega))
      (ix2 (⟨i.val % 4096 / 8, by omega⟩ : Fin 512) (⟨i.val % 8 * 128 + l.val, by omega⟩ : Fin 1024)) := by
    unfold assembled outAt Spread.tall
    refine congrArg (wideAt m c (at64 (i.val / 4096) (by omega))) ?_
    funext a
    obtain rfl | rfl : a = (0 : Fin 2) ∨ a = (1 : Fin 2) := by revert a; decide
    · exact Fin.ext rfl
    · refine Fin.ext ?_
      show 128 * (i.val % 4096 % 8) + l.val = i.val % 8 * 128 + l.val
      omega
  rw [e, wideAt_val]
  refine congrArg₂ (fun b s => row (argX m c) (argW m c) (argC m c) (argO m c) (argG m c) (argB m c) b s _) (Fin.ext ?_) (Fin.ext ?_)
  · show i.val / 4096 / 8 = i.val / 32768
    omega
  · show 512 * (i.val / 4096 % 8) + i.val % 4096 / 8 = i.val / 8 % 4096
    omega

/-- The kernel's array is the reference's expression of the same arguments. -/
theorem result_eq (c : Dev nD) :
    (result m c : S262144x128.Idx → EReal) = Reference.whole (argX m c) (argW m c) (argC m c) (argO m c) (argG m c) (argB m c) := by
  funext (i : S262144x128.Idx)
  have e : i = ix2 (⟨(i 0).val, (i 0).isLt⟩ : Fin 262144) (⟨(i 1).val, (i 1).isLt⟩ : Fin 128) := by
    funext a
    obtain rfl | rfl : a = (0 : Fin 2) ∨ a = (1 : Fin 2) := by revert a; decide
    · rfl
    · rfl
  rw [e, Reference.whole_at]
  exact result_at m c _ _

end Cert.Conv

end
-- ==== Proof.ConvFrames.lean ====
/- The short convolution's runs from any memory, for any float values, and the same of the kernel's own print, whose text is the idealization's. -/
module

public import proofs.«01_k».proof.Defs
public import proofs.«01_k».proof.Proof.ConvLaunch
public import proofs.«01_k».proof.Proof.Gen.Kernel2
public import proofs.«01_k».proof.Proof.Gen.Reference2Ideal.Run
public import Idealize.ShloMosaic.Lib.Tactic
public import Idealize.ShloMosaic.Lib.Quiescent

@[expose] public section

set_option maxRecDepth 65536
set_option Elab.async false

noncomputable section

namespace Cert.Conv

open Idealize.ShloMosaic
open Idealize.ShloMosaic.TcCoe Idealize.ShloMosaic.Tactic
open Idealize.SL.Sem

attribute [local instance] Cert.Kernel2.Gen.facts Cert.Kernel2Ideal.Gen.facts Cert.Reference2Ideal.Gen.facts

section Kernel

open Cert.Kernel2Ideal Cert.Kernel2Ideal.Gen

variable {F : FTy → Type} [FloatOps F] [∀ e, Nonempty (Elt F e)]

variable (F) in
/-- Every run ends with the arguments as they were and every counter at zero. -/
def Frame : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem frame_any : Frame F := fun m g _ =>
  (θ_run (defs (F := F)) _ _).mono (fun _ hr => ⟨fun c => (hr.1 c).2, hr.2⟩) (run_result m g)

end Kernel

theorem frame_ideal : Cert.quiescent_Kernel2Ideal := frame_any (F := Ideal)

/-- The two prints have the same text, so the kernel's frame is this one at bit values. -/
theorem frame_same : Cert.quiescent_Kernel2 = Frame Bits := by sl_kernel_rfl

theorem frame_bits : Cert.quiescent_Kernel2 := frame_same.mpr (frame_any (F := Bits))

theorem frame_reference : Cert.quiescent_Reference2Ideal := fun m g _ =>
  (θ_run (Cert.Reference2Ideal.defs (F := Ideal)) _ _).mono (fun r hr => ⟨fun c => (hr c).2, sem_eq_zero_of_no_sems rfl r.2⟩) (Cert.Reference2Ideal.Value.run m g)

end Cert.Conv

end
-- ==== Proof.ConfRuns.lean ====
/- What one grid point of the conformer's call does.

   Nothing here depends on how floats are represented; the two certificates (bit-exact and over the reals) use one text. -/
module

public import proofs.«01_k».proof.Proof.Gen.Kernel3Ideal.Skeleton
public import proofs.«01_k».proof.Proof.Gen.Kernel3Ideal.Launch
public import proofs.«01_k».proof.Proof.Spread
public import proofs.«01_k».proof.Proof.Buffers
public import Idealize.ShloMosaic.Lib.Pipeline.TableIdle
public import Idealize.ShloMosaic.Lib.Pipeline.FrameBody
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Conformer

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- The body's question whether the point is a batch's first. -/
abbrev isFirst (i : grid0.Coords) : BitVec 1 :=
  Scalar.cmpi .ne (Scalar.extui (Scalar.cmpi .eq (BitVec.ofNat 32 (i 1).val) 0#32) : BitVec 32) 0#32

/-- Its question whether the point is the grid's first. -/
abbrev isStart (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The history's first 32 rows: the last of the block before. -/
abbrev topRows : Rect S544x1024 := Rect.unit (s := S544x1024) ![0, 0] S32x1024.size inb_S544x1024_S32x1024_0_0
/-- Its other 512 rows: the block's. -/
abbrev blockRows : Rect S544x1024 := Rect.unit (s := S544x1024) ![32, 0] S512x1024.size inb_S544x1024_S512x1024_32_0

theorem tap_inb (k : Fin 31) : ∀ a, (![k.val, 0] : Fin 2 → ℕ) a + S1x1024.size a ≤ S31x1024.size a := by
  revert k
  decide

theorem back_inb (k : Fin 30) : ∀ a, (![k.val + 2, 0] : Fin 2 → ℕ) a + S512x1024.size a ≤ S544x1024.size a := by
  revert k
  decide

/-- The filter's row `k`. -/
abbrev tapRow (k : Fin 31) : Rect S31x1024 := Rect.unit (s := S31x1024) ![k.val, 0] S1x1024.size (tap_inb k)
/-- The history's 512 rows the filter's row `k` applies to: from `30 - k` before the block's. -/
abbrev backRows (k : Fin 30) : Rect S544x1024 := Rect.unit (s := S544x1024) ![k.val + 2, 0] S512x1024.size (back_inb k)

/-- What the history holds once the block's rows are in, under `top`: the writes, last first. -/
abbrev histWrites (X : S1x512x1024.Idx → Elt F .f32) (Wa : S1024x1024.Idx → Elt F .bf16) (Ba : S1x1024.Idx → Elt F .f32)
    (Wg : S1024x1024.Idx → Elt F .bf16) (Bg : S1x1024.Idx → Elt F .f32) (top : S32x1024.Idx → Elt F .f32) : List (View.Piece (Elt F) S544x1024 .f32) :=
  [⟨blockRows, k0_pay6 X Wa Ba Wg Bg⟩, ⟨topRows, top⟩]

/-- The filter's sum but for its last three terms, of the gated rows `u`'s inputs, the bias, the filter's rows and the rows before. -/
abbrev mostTerms (X : S1x512x1024.Idx → Elt F .f32) (Wa : S1024x1024.Idx → Elt F .bf16) (Ba : S1x1024.Idx → Elt F .f32)
    (Wg : S1024x1024.Idx → Elt F .bf16) (Bg D : S1x1024.Idx → Elt F .f32) (C : Fin 31 → S1x1024.Idx → Elt F .f32) (R : Fin 30 → S512x1024.Idx → Elt F .f32) :
    S512x1024.Idx → Elt F .f32 :=
  k0_pay11 (k0_pay10 (k0_pay9 (k0_pay8 (k0_pay7 X Wa Ba Wg Bg D (C 30))
      (C 0) (R 0) (C 1) (R 1) (C 2) (R 2) (C 3) (R 3) (C 4) (R 4) (C 5) (R 5) (C 6) (R 6))
      (C 7) (R 7) (C 8) (R 8) (C 9) (R 9) (C 10) (R 10) (C 11) (R 11) (C 12) (R 12))
      (C 13) (R 13) (C 14) (R 14) (C 15) (R 15) (C 16) (R 16) (C 17) (R 17) (C 18) (R 18) (C 19) (R 19))
    (C 20) (R 20) (C 21) (R 21) (C 22) (R 22) (C 23) (R 23) (C 24) (R 24) (C 25) (R 25) (C 26) (R 26)

/-- The filtered rows less their means, -/
abbrev centredOf (X : S1x512x1024.Idx → Elt F .f32) (Wa : S1024x1024.Idx → Elt F .bf16) (Ba : S1x1024.Idx → Elt F .f32)
    (Wg : S1024x1024.Idx → Elt F .bf16) (Bg D : S1x1024.Idx → Elt F .f32) (C : Fin 31 → S1x1024.Idx → Elt F .f32) (R : Fin 30 → S512x1024.Idx → Elt F .f32) :
    S512x1024.Idx → Elt F .f32 :=
  k0_pay15 (mostTerms X Wa Ba Wg Bg D C R) (C 27) (R 27) (C 28) (R 28) (C 29) (R 29)

/-- and their variances with the norm's constant. -/
abbrev spreadOf (X : S1x512x1024.Idx → Elt F .f32) (Wa : S1024x1024.Idx → Elt F .bf16) (Ba : S1x1024.Idx → Elt F .f32)
    (Wg : S1024x1024.Idx → Elt F .bf16) (Bg D : S1x1024.Idx → Elt F .f32) (C : Fin 31 → S1x1024.Idx → Elt F .f32) (R : Fin 30 → S512x1024.Idx → Elt F .f32) :
    S512x1.Idx → Elt F .f32 :=
  k0_pay16 (mostTerms X Wa Ba Wg Bg D C R) (C 27) (R 27) (C 28) (R 28) (C 29) (R 29)

/-- The block's 512 rows of 1024, of the values the body loads: the rows, the input projection's two parts with their biases, the
    filter's bias and rows, the rows before, the inner norm's scale and shift, the output projection with its bias, and the outer
    norm's scale and shift. -/
abbrev rowsOut (X : S1x512x1024.Idx → Elt F .f32) (Wa : S1024x1024.Idx → Elt F .bf16) (Ba : S1x1024.Idx → Elt F .f32)
    (Wg : S1024x1024.Idx → Elt F .bf16) (Bg D : S1x1024.Idx → Elt F .f32) (C : Fin 31 → S1x1024.Idx → Elt F .f32) (R : Fin 30 → S512x1024.Idx → Elt F .f32)
    (Lg Lb : S1x1024.Idx → Elt F .f32) (Wo : S1024x1024.Idx → Elt F .bf16) (Bo G B : S1x1024.Idx → Elt F .f32) : S512x1024.Idx → Elt F .f32 :=
  k0_pay23 (k0_pay18 G) (k0_pay19 B)
    (k0_pay20 (k0_pay4 X) (k0_pay13 Lg) (k0_pay14 Lb) (centredOf X Wa Ba Wg Bg D C R) (spreadOf X Wa Ba Wg Bg D C R) Wo Bo)
    (k0_pay21 (k0_pay4 X) (k0_pay13 Lg) (k0_pay14 Lb) (centredOf X Wa Ba Wg Bg D C R) (spreadOf X Wa Ba Wg Bg D C R) Wo Bo) k0_pay22

/-- The eight stores of a block's rows, as the body writes them. -/
theorem pieces_printed (a b : S1x1024.Idx → Elt F .f32) (c : S512x1024.Idx → Elt F .f32) (d e : S512x1.Idx → Elt F .f32) :
    Spread.pieces (n := 512) (by decide) (k0_pay23 a b c d e) =
      [⟨⟨⟨![7, 0], S512x128.size, ![8, 1], inb_S4096x128_S512x128_7_0_s_8_1⟩, spos_8_1⟩, k0_pay31 a b c d e⟩,
       ⟨⟨⟨![6, 0], S512x128.size, ![8, 1], inb_S4096x128_S512x128_6_0_s_8_1⟩, spos_8_1⟩, k0_pay30 a b c d e⟩,
       ⟨⟨⟨![5, 0], S512x128.size, ![8, 1], inb_S4096x128_S512x128_5_0_s_8_1⟩, spos_8_1⟩, k0_pay29 a b c d e⟩,
       ⟨⟨⟨![4, 0], S512x128.size, ![8, 1], inb_S4096x128_S512x128_4_0_s_8_1⟩, spos_8_1⟩, k0_pay28 a b c d e⟩,
       ⟨⟨⟨![3, 0], S512x128.size, ![8, 1], inb_S4096x128_S512x128_3_0_s_8_1⟩, spos_8_1⟩, k0_pay27 a b c d e⟩,
       ⟨⟨⟨![2, 0], S512x128.size, ![8, 1], inb_S4096x128_S512x128_2_0_s_8_1⟩, spos_8_1⟩, k0_pay26 a b c d e⟩,
       ⟨⟨⟨![1, 0], S512x128.size, ![8, 1], inb_S4096x128_S512x128_1_0_s_8_1⟩, spos_8_1⟩, k0_pay25 a b c d e⟩,
       ⟨⟨⟨![0, 0], S512x128.size, ![8, 1], inb_S4096x128_S512x128_0_0_s_8_1⟩, spos_8_1⟩, k0_pay24 a b c d e⟩] := rfl

set_option maxHeartbeats 16000000 in
/-- The body at a point. From the windows' blocks, and the history's top rows zeroed by the body (at a batch's first point) or
    found at `top`, it leaves the block's rows in the output's buffer and the block's last 32 gated rows on top of the history.
    The buffers of the routing, of which nothing is claimed, end at contents of its own. -/
theorem run (c : Dev nD) (i : grid0.Coords)
    (arg2 : Memref sig .tc .vmem S1x512x1024 .f32) (harg2 : arg2.IsWhole) (arg3 : Memref sig .tc .vmem S1024x2048 .bf16) (harg3 : arg3.IsWhole)
    (arg4 : Memref sig .tc .vmem S1x2048 .f32) (harg4 : arg4.IsWhole) (arg5 : Memref sig .tc .vmem S31x1024 .f32) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S1024x1024 .bf16) (harg9 : arg9.IsWhole)
    (arg10 : Memref sig .tc .vmem S1x1024 .f32) (harg10 : arg10.IsWhole) (arg11 : Memref sig .tc .vmem S1x1024 .f32) (harg11 : arg11.IsWhole)
    (arg12 : Memref sig .tc .vmem S1x1024 .f32) (harg12 : arg12.IsWhole) (arg13 : Memref sig .tc .vmem S32x1024 .f32) (harg13 : arg13.IsWhole)
    (arg14 : Memref sig .tc .vmem S32x1 .f32) (harg14 : arg14.IsWhole) (arg15 : Memref sig .tc .vmem S4096x128 .f32) (harg15 : arg15.IsWhole)
    (arg16 : Memref sig .tc .vmem S8x512 .i32) (harg16 : arg16.IsWhole) (arg17 : Memref sig .tc .vmem S4x512 .f32) (harg17 : arg17.IsWhole)
    (arg18 : Memref sig .tc .vmem S32x128 .f32) (harg18 : arg18.IsWhole) (arg19 : Memref sig .tc .vmem S544x1024 .f32) (harg19 : arg19.IsWhole)
    (arg20 : Memref sig .tc .vmem S32x128 .f32) (harg20 : arg20.IsWhole)
    (x0 : S1x512x1024.Idx → Elt F .f32) (x1 : S1024x2048.Idx → Elt F .bf16) (x2 : S1x2048.Idx → Elt F .f32) (x3 : S31x1024.Idx → Elt F .f32)
    (x4 x5 x6 : S1x1024.Idx → Elt F .f32) (x7 : S1024x1024.Idx → Elt F .bf16) (x8 x9 x10 : S1x1024.Idx → Elt F .f32)
    (x11 : S32x1024.Idx → Elt F .f32) (x12 : S32x1.Idx → Elt F .f32)
    (f19 : arg19.view.ty.Contents (Elt F)) (top : S32x1024.Idx → Elt F .f32)
    (X : S1x512x1024.Idx → Elt F .f32) (Wa : S1024x1024.Idx → Elt F .bf16) (Ba : S1x1024.Idx → Elt F .f32)
    (Wg : S1024x1024.Idx → Elt F .bf16) (Bg D : S1x1024.Idx → Elt F .f32) (C : Fin 31 → S1x1024.Idx → Elt F .f32) (R : Fin 30 → S512x1024.Idx → Elt F .f32)
    (Lg Lb : S1x1024.Idx → Elt F .f32) (Wo : S1024x1024.Idx → Elt F .bf16) (Bo G B : S1x1024.Idx → Elt F .f32)
    (htop : isFirst i = 1#1 ∧ top = k0_pay3 ∨ ¬ isFirst i = 1#1 ∧ View.readAt (Elt F) arg19.view topRows.toLoadRect f19 = top)
    (hX : X = View.readAt (Elt F) arg2.view (Rect.unit (s := S1x512x1024) ![0, 0, 0] S1x512x1024.size inb_S1x512x1024_S1x512x1024_0_0_0).toLoadRect (arg2.view.rep x0))
    (hWa : Wa = View.readAt (Elt F) arg3.view (Rect.unit (s := S1024x2048) ![0, 0] S1024x1024.size inb_S1024x2048_S1024x1024_0_0).toLoadRect (arg3.view.rep x1))
    (hBa : Ba = View.readAt (Elt F) arg4.view (Rect.unit (s := S1x2048) ![0, 0] S1x1024.size inb_S1x2048_S1x1024_0_0).toLoadRect (arg4.view.rep x2))
    (hWg : Wg = View.readAt (Elt F) arg3.view (Rect.unit (s := S1024x2048) ![0, 1024] S1024x1024.size inb_S1024x2048_S1024x1024_0_1024).toLoadRect (arg3.view.rep x1))
    (hBg : Bg = View.readAt (Elt F) arg4.view (Rect.unit (s := S1x2048) ![0, 1024] S1x1024.size inb_S1x2048_S1x1024_0_1024).toLoadRect (arg4.view.rep x2))
    (hD : D = View.readAt (Elt F) arg6.view (Rect.unit (s := S1x1024) ![0, 0] S1x1024.size inb_S1x1024_S1x1024_0_0).toLoadRect (arg6.view.rep x4))
    (hLg : Lg = View.readAt (Elt F) arg7.view (Rect.unit (s := S1x1024) ![0, 0] S1x1024.size inb_S1x1024_S1x1024_0_0).toLoadRect (arg7.view.rep x5))
    (hLb : Lb = View.readAt (Elt F) arg8.view (Rect.unit (s := S1x1024) ![0, 0] S1x1024.size inb_S1x1024_S1x1024_0_0).toLoadRect (arg8.view.rep x6))
    (hWo : Wo = View.readAt (Elt F) arg9.view (Rect.unit (s := S1024x1024) ![0, 0] S1024x1024.size inb_S1024x1024_S1024x1024_0_0).toLoadRect (arg9.view.rep x7))
    (hBo : Bo = View.readAt (Elt F) arg10.view (Rect.unit (s := S1x1024) ![0, 0] S1x1024.size inb_S1x1024_S1x1024_0_0).toLoadRect (arg10.view.rep x8))
    (hG : G = View.readAt (Elt F) arg11.view (Rect.unit (s := S1x1024) ![0, 0] S1x1024.size inb_S1x1024_S1x1024_0_0).toLoadRect (arg11.view.rep x9))
    (hB : B = View.readAt (Elt F) arg12.view (Rect.unit (s := S1x1024) ![0, 0] S1x1024.size inb_S1x1024_S1x1024_0_0).toLoadRect (arg12.view.rep x10))
    (hC : ∀ k, C k = View.readAt (Elt F) arg5.view (tapRow k).toLoadRect (arg5.view.rep x3))
    (hR : ∀ k, R k = arg19.view.readCov (histWrites X Wa Ba Wg Bg top) (backRows k).toLoadRect)
    (K : PUnit → sProp 𝕄) :
    iprop((arg2.view.loc (c : Thread nD τ) ↦[arg2.view.set]{fullShare} arg2.view.rep x0)
        ∗ (arg3.view.loc (c : Thread nD τ) ↦[arg3.view.set]{fullShare} arg3.view.rep x1)
        ∗ (arg4.view.loc (c : Thread nD τ) ↦[arg4.view.set]{fullShare} arg4.view.rep x2)
        ∗ (arg5.view.loc (c : Thread nD τ) ↦[arg5.view.set]{fullShare} arg5.view.rep x3)
        ∗ (arg6.view.loc (c : Thread nD τ) ↦[arg6.view.set]{fullShare} arg6.view.rep x4)
        ∗ (arg7.view.loc (c : Thread nD τ) ↦[arg7.view.set]{fullShare} arg7.view.rep x5)
        ∗ (arg8.view.loc (c : Thread nD τ) ↦[arg8.view.set]{fullShare} arg8.view.rep x6)
        ∗ (arg9.view.loc (c : Thread nD τ) ↦[arg9.view.set]{fullShare} arg9.view.rep x7)
        ∗ (arg10.view.loc (c : Thread nD τ) ↦[arg10.view.set]{fullShare} arg10.view.rep x8)
        ∗ (arg11.view.loc (c : Thread nD τ) ↦[arg11.view.set]{fullShare} arg11.view.rep x9)
        ∗ (arg12.view.loc (c : Thread nD τ) ↦[arg12.view.set]{fullShare} arg12.view.rep x10)
        ∗ (arg13.view.loc (c : Thread nD τ) ↦[arg13.view.set]{fullShare} arg13.view.rep x11)
        ∗ (arg14.view.loc (c : Thread nD τ) ↦[arg14.view.set]{fullShare} arg14.view.rep x12)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (arg19.view.loc (c : Thread nD τ) ↦[arg19.view.set]{fullShare} f19)
        ∗ (∃ d, owns (c : Thread nD τ) arg20 fullShare d)
        ∗ (iprop((arg2.view.loc (c : Thread nD τ) ↦[arg2.view.set]{fullShare} arg2.view.rep x0)
            ∗ (arg3.view.loc (c : Thread nD τ) ↦[arg3.view.set]{fullShare} arg3.view.rep x1)
            ∗ (arg4.view.loc (c : Thread nD τ) ↦[arg4.view.set]{fullShare} arg4.view.rep x2)
            ∗ (arg5.view.loc (c : Thread nD τ) ↦[arg5.view.set]{fullShare} arg5.view.rep x3)
            ∗ (arg6.view.loc (c : Thread nD τ) ↦[arg6.view.set]{fullShare} arg6.view.rep x4)
            ∗ (arg7.view.loc (c : Thread nD τ) ↦[arg7.view.set]{fullShare} arg7.view.rep x5)
            ∗ (arg8.view.loc (c : Thread nD τ) ↦[arg8.view.set]{fullShare} arg8.view.rep x6)
            ∗ (arg9.view.loc (c : Thread nD τ) ↦[arg9.view.set]{fullShare} arg9.view.rep x7)
            ∗ (arg10.view.loc (c : Thread nD τ) ↦[arg10.view.set]{fullShare} arg10.view.rep x8)
            ∗ (arg11.view.loc (c : Thread nD τ) ↦[arg11.view.set]{fullShare} arg11.view.rep x9)
            ∗ (arg12.view.loc (c : Thread nD τ) ↦[arg12.view.set]{fullShare} arg12.view.rep x10)
            ∗ (arg13.view.loc (c : Thread nD τ) ↦[arg13.view.set]{fullShare} arg13.view.rep x11)
            ∗ (arg14.view.loc (c : Thread nD τ) ↦[arg14.view.set]{fullShare} arg14.view.rep x12)
            ∗ (∃ f, arg15.view.loc (c : Thread nD τ) ↦[arg15.view.set]{fullShare}
                arg15.view.writes (Elt F) f (Spread.pieces (n := 512) (by decide) (rowsOut X Wa Ba Wg Bg D C R Lg Lb Wo Bo G B)))
            ∗ (∃ d, owns (c : Thread nD τ) arg16 fullShare d)
            ∗ (∃ d, owns (c : Thread nD τ) arg17 fullShare d)
            ∗ (∃ d, owns (c : Thread nD τ) arg18 fullShare d)
            ∗ (∃ f, arg19.view.loc (c : Thread nD τ) ↦[arg19.view.set]{fullShare}
                arg19.view.writes (Elt F) f (⟨topRows, k0_pay12 (k0_pay5 X Wa Ba Wg Bg)⟩ :: histWrites X Wa Ba Wg Bg top))
            ∗ (∃ d, owns (c : Thread nD τ) arg20 fullShare d)) -∗ K ⟨⟩))
      ⊢ wp frame (wpE (defs₀ (F := F)) Variants.none c none) Set.univ
          (cc0_conformer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [cc0_conformer_kernel_eq_skeleton]; unfold cc0_conformer_kernel_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  rw [pieces_printed]
  obtain rfl := funext hC
  obtain rfl := funext hR
  rcases htop with ⟨k0_h1, rfl⟩ | ⟨k0_h1, ht⟩
  rotate_left
  rw [Buffers.writes_back arg19.view f19 topRows top ht]
  all_goals
    by_cases k0_h2 : isStart i = 1#1
    all_goals
      iintro ⟨H2, H3, H4, H5, H6, H7, H8, H9, H10, H11, H12, H13, H14, ⟨%d15, H15⟩, ⟨%d16, H16⟩, ⟨%d17, H17⟩, ⟨%d18, H18⟩, H19, ⟨%d20, H20⟩, Hk⟩
      unfold owns
      icases H15 with ⟨%f15, -, H15⟩
      icases H16 with ⟨%f16, -, H16⟩
      icases H17 with ⟨%f17, -, H17⟩
      icases H18 with ⟨%f18, -, H18⟩
      icases H20 with ⟨%f20, -, H20⟩
      sl_exec! (disch := first | exact k0_h1 | exact k0_h2)
      sl_step
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      subst hX hWa hBa hWg hBg hD hLg hLb hWo hBo hG hB
      isplitl [H15]; · iexists _; iexact H15
      isplitl [H16]; · iapply Buffers.owns_some; iexact H16
      isplitl [H17]; · iapply Buffers.owns_some; iexact H17
      isplitl [H18]; · iapply Buffers.owns_some; iexact H18
      isplitl [H19]; · iexists _; iexact H19
      iapply Buffers.owns_some; iexact H20

end Cert.Conformer

end
-- ==== Proof.ConfData.lean ====
/- The conformer's launch: what each window's buffer holds after each point, what the history carries from point to point,
   and that the body keeps to it. Of the routing's three outputs nothing is said. -/
module

public import proofs.«01_k».proof.Proof.ConfRuns
public import Idealize.ShloMosaic.Lib.Pipeline.Quiescent
public import Idealize.ShloMosaic.Lib.Pipeline.Kit
public import Idealize.ShloMosaic.Lib.Claim

@[expose] public section

set_option maxRecDepth 16384
set_option Elab.async false

noncomputable section

namespace Cert.Conformer

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The host operations before the launch -/

/-- Core `c`'s buffers when the launch begins. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What the host operations write. -/
abbrev written : List (Ref sig .tc) := [main_v0, main_v1, main_v2, main_v3, main_v4, main_v5, main_v6, main_v7, main_v8, main_v9, main_v10]
theorem hostOps0_writes : ((hostOps0 (F := F)) : List (HloOp τ sig (Elt F))).Forall fun op => op.writes ⊆ (written.map (Proc.devRef (τ := τ) .tc)).toFinset :=
  StableHlo.forall_writes_sub_of_map rfl

set_option maxHeartbeats 800000 in
/-- @main up to the launch is the host operations. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main (hostOps0 (F := F)) hostOps0_sub hostOps0_fresh main_chain

theorem V_of_not_written (c : Dev nD) (b : Ref sig .tc) (h : b ∉ written) : V m c b = m ((c : Thread nD τ).loc b) :=
  StableHlo.after_of_writes_sub (hostOps0 (F := F)) _ hostOps0_writes h

/-! ## Points -/

abbrev crd (t : Fin cfg0.N) : cfg0.grid.Coords := cfg0.grid.coords t

theorem point_lt (t : Fin cfg0.N) : t.val < 64 := N_0 ▸ t.isLt

/-- The batch of a point, -/
theorem crd0 (t : Fin grid0.N) : (grid0.coords t 0).val = t.val / 8 := by
  have h := Pipeline.Grid.coords_val (G := grid0) t 0 (S := 8) (B := 8) (by decide) rfl
  have ht : t.val < 64 := N_0 ▸ t.isLt
  rw [h]; omega
/-- and its block of rows. -/
theorem crd1 (t : Fin grid0.N) : (grid0.coords t 1).val = t.val % 8 := by
  have h := Pipeline.Grid.coords_val (G := grid0) t 1 (S := 1) (B := 8) (by decide) rfl
  have ht : t.val < 64 := N_0 ▸ t.isLt
  rw [h]; omega

theorem first_iff (t : Fin cfg0.N) : isFirst (crd t) = 1#1 ↔ t.val % 8 = 0 := by
  have key : ∀ n : Fin 8, (Scalar.cmpi .ne (Scalar.extui (Scalar.cmpi .eq (BitVec.ofNat 32 n.val) 0#32) : BitVec 32) 0#32 = 1#1) ↔ n.val = 0 := by decide
  have h := key ⟨t.val % 8, Nat.mod_lt _ (by decide)⟩
  unfold isFirst
  rw [show ((crd t) 1).val = t.val % 8 from crd1 t]
  exact h

abbrev ms0 (t : Fin cfg0.N) : Memref sig .tc .vmem S1x512x1024 .f32 := win0_0.stage (cfg0.slots t (0 : Fin 17))
abbrev hs0 (t : Fin cfg0.N) : (ms0 t).IsWhole := hstage0_0 ((cfg0.slots t (0 : Fin 17)).cast nbuf0_0)
abbrev ms1 (t : Fin cfg0.N) : Memref sig .tc .vmem S1024x2048 .bf16 := win0_1.stage (cfg0.slots t (1 : Fin 17))
abbrev hs1 (t : Fin cfg0.N) : (ms1 t).IsWhole := hstage0_1 ((cfg0.slots t (1 : Fin 17)).cast nbuf0_1)
abbrev ms2 (t : Fin cfg0.N) : Memref sig .tc .vmem S1x2048 .f32 := win0_2.stage (cfg0.slots t (2 : Fin 17))
abbrev hs2 (t : Fin cfg0.N) : (ms2 t).IsWhole := hstage0_2 ((cfg0.slots t (2 : Fin 17)).cast nbuf0_2)
abbrev ms3 (t : Fin cfg0.N) : Memref sig .tc .vmem S31x1024 .f32 := win0_3.stage (cfg0.slots t (3 : Fin 17))
abbrev hs3 (t : Fin cfg0.N) : (ms3 t).IsWhole := hstage0_3 ((cfg0.slots t (3 : Fin 17)).cast nbuf0_3)
abbrev ms4 (t : Fin cfg0.N) : Memref sig .tc .vmem S1x1024 .f32 := win0_4.stage (cfg0.slots t (4 : Fin 17))
abbrev hs4 (t : Fin cfg0.N) : (ms4 t).IsWhole := hstage0_4 ((cfg0.slots t (4 : Fin 17)).cast nbuf0_4)
abbrev ms5 (t : Fin cfg0.N) : Memref sig .tc .vmem S1x1024 .f32 := win0_5.stage (cfg0.slots t (5 : Fin 17))
abbrev hs5 (t : Fin cfg0.N) : (ms5 t).IsWhole := hstage0_5 ((cfg0.slots t (5 : Fin 17)).cast nbuf0_5)
abbrev ms6 (t : Fin cfg0.N) : Memref sig .tc .vmem S1x1024 .f32 := win0_6.stage (cfg0.slots t (6 : Fin 17))
abbrev hs6 (t : Fin cfg0.N) : (ms6 t).IsWhole := hstage0_6 ((cfg0.slots t (6 : Fin 17)).cast nbuf0_6)
abbrev ms7 (t : Fin cfg0.N) : Memref sig .tc .vmem S1024x1024 .bf16 := win0_7.stage (cfg0.slots t (7 : Fin 17))
abbrev hs7 (t : Fin cfg0.N) : (ms7 t).IsWhole := hstage0_7 ((cfg0.slots t (7 : Fin 17)).cast nbuf0_7)
abbrev ms8 (t : Fin cfg0.N) : Memref sig .tc .vmem S1x1024 .f32 := win0_8.stage (cfg0.slots t (8 : Fin 17))
abbrev hs8 (t : Fin cfg0.N) : (ms8 t).IsWhole := hstage0_8 ((cfg0.slots t (8 : Fin 17)).cast nbuf0_8)
abbrev ms9 (t : Fin cfg0.N) : Memref sig .tc .vmem S1x1024 .f32 := win0_9.stage (cfg0.slots t (9 : Fin 17))
abbrev hs9 (t : Fin cfg0.N) : (ms9 t).IsWhole := hstage0_9 ((cfg0.slots t (9 : Fin 17)).cast nbuf0_9)
abbrev ms10 (t : Fin cfg0.N) : Memref sig .tc .vmem S1x1024 .f32 := win0_10.stage (cfg0.slots t (10 : Fin 17))
abbrev hs10 (t : Fin cfg0.N) : (ms10 t).IsWhole := hstage0_10 ((cfg0.slots t (10 : Fin 17)).cast nbuf0_10)
abbrev ms11 (t : Fin cfg0.N) : Memref sig .tc .vmem S32x1024 .f32 := win0_11.stage (cfg0.slots t (11 : Fin 17))
abbrev hs11 (t : Fin cfg0.N) : (ms11 t).IsWhole := hstage0_11 ((cfg0.slots t (11 : Fin 17)).cast nbuf0_11)
abbrev ms12 (t : Fin cfg0.N) : Memref sig .tc .vmem S32x1 .f32 := win0_12.stage (cfg0.slots t (12 : Fin 17))
abbrev hs12 (t : Fin cfg0.N) : (ms12 t).IsWhole := hstage0_12 ((cfg0.slots t (12 : Fin 17)).cast nbuf0_12)
abbrev ms13 (t : Fin cfg0.N) : Memref sig .tc .vmem S4096x128 .f32 := win0_13.stage (cfg0.slots t (13 : Fin 17))
abbrev hs13 (t : Fin cfg0.N) : (ms13 t).IsWhole := hstage0_13 ((cfg0.slots t (13 : Fin 17)).cast nbuf0_13)
abbrev ms14 (t : Fin cfg0.N) : Memref sig .tc .vmem S8x512 .i32 := win0_14.stage (cfg0.slots t (14 : Fin 17))
abbrev hs14 (t : Fin cfg0.N) : (ms14 t).IsWhole := hstage0_14 ((cfg0.slots t (14 : Fin 17)).cast nbuf0_14)
abbrev ms15 (t : Fin cfg0.N) : Memref sig .tc .vmem S4x512 .f32 := win0_15.stage (cfg0.slots t (15 : Fin 17))
abbrev hs15 (t : Fin cfg0.N) : (ms15 t).IsWhole := hstage0_15 ((cfg0.slots t (15 : Fin 17)).cast nbuf0_15)
abbrev ms16 (t : Fin cfg0.N) : Memref sig .tc .vmem S32x128 .f32 := win0_16.stage (cfg0.slots t (16 : Fin 17))
abbrev hs16 (t : Fin cfg0.N) : (ms16 t).IsWhole := hstage0_16 ((cfg0.slots t (16 : Fin 17)).cast nbuf0_16)

/-- Window `w`'s block at point `t`, of its array as the launch finds it. -/
def iblk (c : Dev nD) (w : Fin cfg0.W) (t : Fin cfg0.N) : ((cfg0.win w).xblock (crd t)).Idx → Elt F (cfg0.win w).elt :=
  ((cfg0.win w).blk t).view.read (Elt F) (V m c (Pipeline.arrRef spec0 w))

/-! ## What the body computes at a point -/

/-- The part of `x` a load of the rectangle reads. -/
abbrev part {s : Shape} {e : EltTy} (x : s.Idx → Elt F e) (r : LoadRect s) : r.shape.Idx → Elt F e := fun i => x (r.idx i)

/-- The block's rows. -/
def rowsAt (c : Dev nD) (t : Fin cfg0.N) : S1x512x1024.Idx → Elt F .f32 :=
  part (iblk m c (0 : Fin 17) t) (Rect.unit (s := S1x512x1024) ![0, 0, 0] S1x512x1024.size inb_S1x512x1024_S1x512x1024_0_0_0).toLoadRect
/-- The input projection's parts with their biases: the value's and the gate's. -/
def winAAt (c : Dev nD) (t : Fin cfg0.N) : S1024x1024.Idx → Elt F .bf16 :=
  part (iblk m c (1 : Fin 17) t) (Rect.unit (s := S1024x2048) ![0, 0] S1024x1024.size inb_S1024x2048_S1024x1024_0_0).toLoadRect
def biasAAt (c : Dev nD) (t : Fin cfg0.N) : S1x1024.Idx → Elt F .f32 :=
  part (iblk m c (2 : Fin 17) t) (Rect.unit (s := S1x2048) ![0, 0] S1x1024.size inb_S1x2048_S1x1024_0_0).toLoadRect
def winGAt (c : Dev nD) (t : Fin cfg0.N) : S1024x1024.Idx → Elt F .bf16 :=
  part (iblk m c (1 : Fin 17) t) (Rect.unit (s := S1024x2048) ![0, 1024] S1024x1024.size inb_S1024x2048_S1024x1024_0_1024).toLoadRect
def biasGAt (c : Dev nD) (t : Fin cfg0.N) : S1x1024.Idx → Elt F .f32 :=
  part (iblk m c (2 : Fin 17) t) (Rect.unit (s := S1x2048) ![0, 1024] S1x1024.size inb_S1x2048_S1x1024_0_1024).toLoadRect
/-- The filter's rows and its bias. -/
def tapsAt (c : Dev nD) (t : Fin cfg0.N) (k : Fin 31) : S1x1024.Idx → Elt F .f32 := part (iblk m c (3 : Fin 17) t) (tapRow k).toLoadRect
def convBiasAt (c : Dev nD) (t : Fin cfg0.N) : S1x1024.Idx → Elt F .f32 :=
  part (iblk m c (4 : Fin 17) t) (Rect.unit (s := S1x1024) ![0, 0] S1x1024.size inb_S1x1024_S1x1024_0_0).toLoadRect
/-- The inner norm's scale and shift, the output projection with its bias, and the outer norm's scale and shift. -/
def innerScaleAt (c : Dev nD) (t : Fin cfg0.N) : S1x1024.Idx → Elt F .f32 :=
  part (iblk m c (5 : Fin 17) t) (Rect.unit (s := S1x1024) ![0, 0] S1x1024.size inb_S1x1024_S1x1024_0_0).toLoadRect
def innerShiftAt (c : Dev nD) (t : Fin cfg0.N) : S1x1024.Idx → Elt F .f32 :=
  part (iblk m c (6 : Fin 17) t) (Rect.unit (s := S1x1024) ![0, 0] S1x1024.size inb_S1x1024_S1x1024_0_0).toLoadRect
def woutAt (c : Dev nD) (t : Fin cfg0.N) : S1024x1024.Idx → Elt F .bf16 :=
  part (iblk m c (7 : Fin 17) t) (Rect.unit (s := S1024x1024) ![0, 0] S1024x1024.size inb_S1024x1024_S1024x1024_0_0).toLoadRect
def outBiasAt (c : Dev nD) (t : Fin cfg0.N) : S1x1024.Idx → Elt F .f32 :=
  part (iblk m c (8 : Fin 17) t) (Rect.unit (s := S1x1024) ![0, 0] S1x1024.size inb_S1x1024_S1x1024_0_0).toLoadRect
def scaleAt (c : Dev nD) (t : Fin cfg0.N) : S1x1024.Idx → Elt F .f32 :=
  part (iblk m c (9 : Fin 17) t) (Rect.unit (s := S1x1024) ![0, 0] S1x1024.size inb_S1x1024_S1x1024_0_0).toLoadRect
def shiftAt (c : Dev nD) (t : Fin cfg0.N) : S1x1024.Idx → Elt F .f32 :=
  part (iblk m c (10 : Fin 17) t) (Rect.unit (s := S1x1024) ![0, 0] S1x1024.size inb_S1x1024_S1x1024_0_0).toLoadRect

/-- The last 32 of the block's gated rows, which the next point finds on top of its history. -/
def tailAt (c : Dev nD) (t : Fin cfg0.N) : S32x1024.Idx → Elt F .f32 :=
  k0_pay12 (k0_pay5 (rowsAt m c t) (winAAt m c t) (biasAAt m c t) (winGAt m c t) (biasGAt m c t))

/-- What is on top of the history while the body works at `t`: zeros at a batch's first point, the block before's last rows at any other. -/
def topAt (c : Dev nD) (t : Fin cfg0.N) : S32x1024.Idx → Elt F .f32 :=
  if t.val % 8 = 0 then k0_pay3 else tailAt m c ⟨t.val - 1, Nat.lt_of_le_of_lt (Nat.sub_le _ _) t.isLt⟩

/-- The history's rows the filter's row `k` applies to, as the body reads them. -/
def backAt (c : Dev nD) (t : Fin cfg0.N) (k : Fin 30) : S512x1024.Idx → Elt F .f32 :=
  fun j => View.canon (histWrites (rowsAt m c t) (winAAt m c t) (biasAAt m c t) (winGAt m c t) (biasGAt m c t) (topAt m c t)) ((backRows k).toLoadRect.idx j)

/-- The block's rows as the body leaves them. -/
def wideAt (c : Dev nD) (t : Fin cfg0.N) : S512x1024.Idx → Elt F .f32 :=
  rowsOut (rowsAt m c t) (winAAt m c t) (biasAAt m c t) (winGAt m c t) (biasGAt m c t) (convBiasAt m c t) (tapsAt m c t)
    (backAt m c t) (innerScaleAt m c t) (innerShiftAt m c t) (woutAt m c t) (outBiasAt m c t) (scaleAt m c t) (shiftAt m c t)

/-- The same in rows of 128 lanes: what the output's buffer holds. -/
def outAt (c : Dev nD) (t : Fin cfg0.N) : S4096x128.Idx → Elt F .f32 := Spread.tall (wideAt m c t)

/-! ## The proof data -/

/-- The history and the counts carried on, as the body is handed them. -/
abbrev hist : Memref sig .tc .vmem S544x1024 .f32 := Memref.whole cc0_scratch0
abbrev carry : Memref sig .tc .vmem S32x128 .f32 := Memref.whole cc0_scratch1

/-- Between points: the history holds, past the first point, the last rows of the block just done; the rest is as it may be. -/
def Phi (c : Dev nD) (n : ℕ) : sProp 𝕄 :=
  iprop((∃ f, ⌜∀ t : Fin cfg0.N, n = t.val + 1 → View.readAt (Elt F) hist.view topRows.toLoadRect f = tailAt m c t⌝
      ∗ (hist.view.loc (c : Thread nD τ) ↦[hist.view.set]{fullShare} f))
    ∗ (∃ d, owns (c : Thread nD τ) carry fullShare d) ∗ ∃ r, prngReg c r)

/-- The routing's outputs, of which nothing is said. -/
abbrev forgotten : Fin cfg0.W → Bool := fun w => match w with
  | ⟨14, _⟩ => true
  | ⟨15, _⟩ => true
  | ⟨16, _⟩ => true
  | _ => false

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c (0 : Fin 17) t
    | ⟨1, _⟩ => iblk m c (1 : Fin 17) t
    | ⟨2, _⟩ => iblk m c (2 : Fin 17) t
    | ⟨3, _⟩ => iblk m c (3 : Fin 17) t
    | ⟨4, _⟩ => iblk m c (4 : Fin 17) t
    | ⟨5, _⟩ => iblk m c (5 : Fin 17) t
    | ⟨6, _⟩ => iblk m c (6 : Fin 17) t
    | ⟨7, _⟩ => iblk m c (7 : Fin 17) t
    | ⟨8, _⟩ => iblk m c (8 : Fin 17) t
    | ⟨9, _⟩ => iblk m c (9 : Fin 17) t
    | ⟨10, _⟩ => iblk m c (10 : Fin 17) t
    | ⟨11, _⟩ => iblk m c (11 : Fin 17) t
    | ⟨12, _⟩ => iblk m c (12 : Fin 17) t
    | ⟨13, _⟩ => outAt m c t
    | ⟨14, _⟩ => fun _ => 0#32
    | ⟨15, _⟩ => fun _ => Scalar.ofBits .f32 0#32
    | ⟨16, _⟩ => fun _ => Scalar.ofBits .f32 0#32
    | ⟨n + 17, h⟩ => absurd (show n + 17 < 17 from h) (by omega)
  Φ t := Phi m c t.val
  q _ := fullShare
  owed _ := 0

/-! ## What each input's buffer holds when the body runs -/

theorem before0 (c : Dev nD) (t : Fin cfg0.N) (d) : (dats m 0 c).before (0 : Fin 17) t d = iblk m c (0 : Fin 17) t :=
  ((dats m 0 c).before_in_eq_fetched (0 : Fin 17) rfl (fun _ => rfl) (fun _ _ _ => rfl) (fun _ => rfl) t d).trans rfl
theorem before1 (c : Dev nD) (t : Fin cfg0.N) (d) : (dats m 0 c).before (1 : Fin 17) t d = iblk m c (1 : Fin 17) t :=
  ((dats m 0 c).before_in_eq_fetched (1 : Fin 17) rfl (fun _ => rfl) (fun _ _ _ => rfl) (fun _ => rfl) t d).trans rfl
theorem before2 (c : Dev nD) (t : Fin cfg0.N) (d) : (dats m 0 c).before (2 : Fin 17) t d = iblk m c (2 : Fin 17) t :=
  ((dats m 0 c).before_in_eq_fetched (2 : Fin 17) rfl (fun _ => rfl) (fun _ _ _ => rfl) (fun _ => rfl) t d).trans rfl
theorem before3 (c : Dev nD) (t : Fin cfg0.N) (d) : (dats m 0 c).before (3 : Fin 17) t d = iblk m c (3 : Fin 17) t :=
  ((dats m 0 c).before_in_eq_fetched (3 : Fin 17) rfl (fun _ => rfl) (fun _ _ _ => rfl) (fun _ => rfl) t d).trans rfl
theorem before4 (c : Dev nD) (t : Fin cfg0.N) (d) : (dats m 0 c).before (4 : Fin 17) t d = iblk m c (4 : Fin 17) t :=
  ((dats m 0 c).before_in_eq_fetched (4 : Fin 17) rfl (fun _ => rfl) (fun _ _ _ => rfl) (fun _ => rfl) t d).trans rfl
theorem before5 (c : Dev nD) (t : Fin cfg0.N) (d) : (dats m 0 c).before (5 : Fin 17) t d = iblk m c (5 : Fin 17) t :=
  ((dats m 0 c).before_in_eq_fetched (5 : Fin 17) rfl (fun _ => rfl) (fun _ _ _ => rfl) (fun _ => rfl) t d).trans rfl
theorem before6 (c : Dev nD) (t : Fin cfg0.N) (d) : (dats m 0 c).before (6 : Fin 17) t d = iblk m c (6 : Fin 17) t :=
  ((dats m 0 c).before_in_eq_fetched (6 : Fin 17) rfl (fun _ => rfl) (fun _ _ _ => rfl) (fun _ => rfl) t d).trans rfl
theorem before7 (c : Dev nD) (t : Fin cfg0.N) (d) : (dats m 0 c).before (7 : Fin 17) t d = iblk m c (7 : Fin 17) t :=
  ((dats m 0 c).before_in_eq_fetched (7 : Fin 17) rfl (fun _ => rfl) (fun _ _ _ => rfl) (fun _ => rfl) t d).trans rfl
theorem before8 (c : Dev nD) (t : Fin cfg0.N) (d) : (dats m 0 c).before (8 : Fin 17) t d = iblk m c (8 : Fin 17) t :=
  ((dats m 0 c).before_in_eq_fetched (8 : Fin 17) rfl (fun _ => rfl) (fun _ _ _ => rfl) (fun _ => rfl) t d).trans rfl
theorem before9 (c : Dev nD) (t : Fin cfg0.N) (d) : (dats m 0 c).before (9 : Fin 17) t d = iblk m c (9 : Fin 17) t :=
  ((dats m 0 c).before_in_eq_fetched (9 : Fin 17) rfl (fun _ => rfl) (fun _ _ _ => rfl) (fun _ => rfl) t d).trans rfl
theorem before10 (c : Dev nD) (t : Fin cfg0.N) (d) : (dats m 0 c).before (10 : Fin 17) t d = iblk m c (10 : Fin 17) t :=
  ((dats m 0 c).before_in_eq_fetched (10 : Fin 17) rfl (fun _ => rfl) (fun _ _ _ => rfl) (fun _ => rfl) t d).trans rfl
theorem before11 (c : Dev nD) (t : Fin cfg0.N) (d) : (dats m 0 c).before (11 : Fin 17) t d = iblk m c (11 : Fin 17) t :=
  ((dats m 0 c).before_in_eq_fetched (11 : Fin 17) rfl (fun _ => rfl) (fun _ _ _ => rfl) (fun _ => rfl) t d).trans rfl
theorem before12 (c : Dev nD) (t : Fin cfg0.N) (d) : (dats m 0 c).before (12 : Fin 17) t d = iblk m c (12 : Fin 17) t :=
  ((dats m 0 c).before_in_eq_fetched (12 : Fin 17) rfl (fun _ => rfl) (fun _ _ _ => rfl) (fun _ => rfl) t d).trans rfl

/-! ## The body obligation -/

/-- The body at point `t`, as the launch calls it. -/
abbrev bodyAt (t : Fin cfg0.N) : Prog (TpuEff nD τ sig (Elt F) Λ₀ .tc) PUnit :=
  cc0_conformer_kernel (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t)
    hist (Memref.isWhole_whole _) carry (Memref.isWhole_whole _)

set_option maxHeartbeats 8000000 in
/-- The body at a point leaves the block's rows in the output's buffer and the history ready for the next point. -/
theorem sound_body (c : Dev nD) (t : Fin cfg0.N) :
    iprop(Phi m c t.val ∗ (dats m 0 c).owesAt () t.castSucc
        ∗ (∃ d, owns (c : Thread nD τ) (ms0 t) fullShare ((dats m 0 c).before (0 : Fin 17) t d))
        ∗ (∃ d, owns (c : Thread nD τ) (ms1 t) fullShare ((dats m 0 c).before (1 : Fin 17) t d))
        ∗ (∃ d, owns (c : Thread nD τ) (ms2 t) fullShare ((dats m 0 c).before (2 : Fin 17) t d))
        ∗ (∃ d, owns (c : Thread nD τ) (ms3 t) fullShare ((dats m 0 c).before (3 : Fin 17) t d))
        ∗ (∃ d, owns (c : Thread nD τ) (ms4 t) fullShare ((dats m 0 c).before (4 : Fin 17) t d))
        ∗ (∃ d, owns (c : Thread nD τ) (ms5 t) fullShare ((dats m 0 c).before (5 : Fin 17) t d))
        ∗ (∃ d, owns (c : Thread nD τ) (ms6 t) fullShare ((dats m 0 c).before (6 : Fin 17) t d))
        ∗ (∃ d, owns (c : Thread nD τ) (ms7 t) fullShare ((dats m 0 c).before (7 : Fin 17) t d))
        ∗ (∃ d, owns (c : Thread nD τ) (ms8 t) fullShare ((dats m 0 c).before (8 : Fin 17) t d))
        ∗ (∃ d, owns (c : Thread nD τ) (ms9 t) fullShare ((dats m 0 c).before (9 : Fin 17) t d))
        ∗ (∃ d, owns (c : Thread nD τ) (ms10 t) fullShare ((dats m 0 c).before (10 : Fin 17) t d))
        ∗ (∃ d, owns (c : Thread nD τ) (ms11 t) fullShare ((dats m 0 c).before (11 : Fin 17) t d))
        ∗ (∃ d, owns (c : Thread nD τ) (ms12 t) fullShare ((dats m 0 c).before (12 : Fin 17) t d))
        ∗ (∃ d, owns (c : Thread nD τ) (ms13 t) fullShare ((dats m 0 c).before (13 : Fin 17) t d))
        ∗ (∃ d, owns (c : Thread nD τ) (ms14 t) fullShare d)
        ∗ (∃ d, owns (c : Thread nD τ) (ms15 t) fullShare d)
        ∗ (∃ d, owns (c : Thread nD τ) (ms16 t) fullShare d))
      ⊢ wp frame (wpE (defs₀ (F := F)) Variants.none c none) Set.univ (bodyAt t) fun _ =>
          iprop(Phi m c (t.val + 1) ∗ (dats m 0 c).owesAt () t.castSucc
            ∗ owns (c : Thread nD τ) (ms0 t) fullShare ((dats m 0 c).after (0 : Fin 17) t)
            ∗ owns (c : Thread nD τ) (ms1 t) fullShare ((dats m 0 c).after (1 : Fin 17) t)
            ∗ owns (c : Thread nD τ) (ms2 t) fullShare ((dats m 0 c).after (2 : Fin 17) t)
            ∗ owns (c : Thread nD τ) (ms3 t) fullShare ((dats m 0 c).after (3 : Fin 17) t)
            ∗ owns (c : Thread nD τ) (ms4 t) fullShare ((dats m 0 c).after (4 : Fin 17) t)
            ∗ owns (c : Thread nD τ) (ms5 t) fullShare ((dats m 0 c).after (5 : Fin 17) t)
            ∗ owns (c : Thread nD τ) (ms6 t) fullShare ((dats m 0 c).after (6 : Fin 17) t)
            ∗ owns (c : Thread nD τ) (ms7 t) fullShare ((dats m 0 c).after (7 : Fin 17) t)
            ∗ owns (c : Thread nD τ) (ms8 t) fullShare ((dats m 0 c).after (8 : Fin 17) t)
            ∗ owns (c : Thread nD τ) (ms9 t) fullShare ((dats m 0 c).after (9 : Fin 17) t)
            ∗ owns (c : Thread nD τ) (ms10 t) fullShare ((dats m 0 c).after (10 : Fin 17) t)
            ∗ owns (c : Thread nD τ) (ms11 t) fullShare ((dats m 0 c).after (11 : Fin 17) t)
            ∗ owns (c : Thread nD τ) (ms12 t) fullShare ((dats m 0 c).after (12 : Fin 17) t)
            ∗ owns (c : Thread nD τ) (ms13 t) fullShare ((dats m 0 c).after (13 : Fin 17) t)
            ∗ (∃ d, owns (c : Thread nD τ) (ms14 t) fullShare d)
            ∗ (∃ d, owns (c : Thread nD τ) (ms15 t) fullShare d)
            ∗ (∃ d, owns (c : Thread nD τ) (ms16 t) fullShare d)) := by
  simp only [before0, before1, before2, before3, before4, before5, before6, before7, before8, before9, before10, before11, before12]
  unfold Phi
  iintro ⟨⟨⟨%f, %hf, HH⟩, HC, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16⟩
  have htop : isFirst (crd t) = 1#1 ∧ topAt m c t = k0_pay3
      ∨ ¬ isFirst (crd t) = 1#1 ∧ View.readAt (Elt F) hist.view topRows.toLoadRect f = topAt m c t := by
    unfold topAt
    by_cases h : t.val % 8 = 0
    · exact .inl ⟨(first_iff t).mpr h, if_pos h⟩
    · refine .inr ⟨fun h' => h ((first_iff t).mp h'), ?_⟩
      rw [if_neg h]
      exact hf _ (by show t.val = t.val - 1 + 1; omega)
  iapply (run c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t)
    hist (Memref.isWhole_whole _) carry (Memref.isWhole_whole _)
    (iblk m c (0 : Fin 17) t) (iblk m c (1 : Fin 17) t) (iblk m c (2 : Fin 17) t) (iblk m c (3 : Fin 17) t) (iblk m c (4 : Fin 17) t) (iblk m c (5 : Fin 17) t) (iblk m c (6 : Fin 17) t) (iblk m c (7 : Fin 17) t) (iblk m c (8 : Fin 17) t) (iblk m c (9 : Fin 17) t) (iblk m c (10 : Fin 17) t) (iblk m c (11 : Fin 17) t) (iblk m c (12 : Fin 17) t) f (topAt m c t)
    (rowsAt m c t) (winAAt m c t) (biasAAt m c t) (winGAt m c t) (biasGAt m c t) (convBiasAt m c t) (tapsAt m c t)
    (backAt m c t) (innerScaleAt m c t) (innerShiftAt m c t) (woutAt m c t) (outBiasAt m c t) (scaleAt m c t) (shiftAt m c t) htop
    (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl) (by rw [View.readAt_rep]; rfl)
    (fun k => by rw [View.readAt_rep]; rfl) (fun k => by rw [View.readCov_eq_canon']; rfl))
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iapply rep_of_owns; iexact H11
  isplitl [H12]; · iapply rep_of_owns; iexact H12
  isplitl [H13]; · iexists _; iexact H13
  isplitl [H14]; · iexact H14
  isplitl [H15]; · iexact H15
  isplitl [H16]; · iexact H16
  isplitl [HH]; · iexact HH
  isplitl [HC]; · iexact HC
  iintro ⟨H0, H1, H2, H3, H4, H5, H6, H7, H8, H9, H10, H11, H12, ⟨%e, H13⟩, H14, H15, H16, ⟨%h, HH⟩, HC⟩
  isplitl [HH HC HR]
  · isplitl [HH]
    · iexists _
      isplitr; swap
      · iexact HH
      · ipureintro
        intro t' ht'
        obtain rfl : t = t' := Fin.ext (by omega)
        funext j
        exact View.read_writes_cons_emb (Val := Elt F) hist.view _ topRows _ _ j
    isplitl [HC]; · iexact HC
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]
  · unfold owns; iexists _; isplitr; swap
    · iexact H13
    · ipureintro
      show View.read (Elt F) (ms13 t).view _ = Spread.tall (wideAt m c t)
      exact Spread.read_pieces (F := F) (by decide) (ms13 t).view e (wideAt m c t)
  isplitl [H14]; · iexact H14
  isplitl [H15]; · iexact H15
  iexact H16

/-- The library's body obligation, at every point. -/
theorem body_obligation (c : Dev nD) : BodyObligation (dats m 0 c) (defs₀ (F := F)) Variants.none () Set.univ forgotten := fun t => by
  simp only [bigSep_W0]
  exact sound_body m c t

end Cert.Conformer

end
-- ==== Proof.ConfLaunch.lean ====
/- The conformer's launch: every run ends with the arguments as they were, the mixed and normalised rows as the blocks' write-backs
   leave them, and every counter at zero. -/
module

public import proofs.«01_k».proof.Proof.ConfData

@[expose] public section

set_option maxRecDepth 16384
set_option Elab.async false

noncomputable section

namespace Cert.Conformer

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

theorem hist_set : (hist).view.set = Finset.univ := View.set_whole _
theorem carry_set : (carry).view.set = Finset.univ := View.set_whole _

/-- The two scratch buffers at any contents, as the launch hands them over, give what holds before the first point. -/
theorem enter (c : Dev nD) : (Pipeline.ΦA spec0 c : sProp 𝕄) ⊢ Phi m c 0 := by
  unfold Pipeline.ΦA Phi
  rw [scopedRest0_eq, hist_set]
  iintro ⟨⟨⟨%f, HH⟩, ⟨%d, HC⟩⟩, HR⟩
  isplitl [HH]
  · iexists f
    isplitr; swap
    · iexact HH
    · ipureintro
      intro t ht
      exact absurd ht (by omega)
  isplitl [HC]
  · iexists _
    unfold owns
    iexists d
    isplitr; swap
    · rw [carry_set]; iexact HC
    · ipureintro; rfl
  iexact HR

/-- And what holds after the last point gives them back. -/
theorem leave (c : Dev nD) (n : ℕ) : Phi m c n ⊢ (Pipeline.ΦA spec0 c : sProp 𝕄) := by
  unfold Pipeline.ΦA Phi owns
  rw [scopedRest0_eq, hist_set, carry_set]
  iintro ⟨⟨%f, -, HH⟩, ⟨%d, %g, -, HC⟩, HR⟩
  isplitl [HH HC]
  · isplitl [HH]
    · iexists f; iexact HH
    iexists g; iexact HC
  iexact HR

/-- What the runs end with. -/
abbrev Post (r : PUnit × MemSt nD τ sig (Elt F)) : Prop :=
  Pipeline.RDat.FramePost (cfgs (0 : Fin 1)) (fun c => (dats m 0 c).toRForget forgotten) (V m) r

set_option backward.isDefEq.respectTransparency.types false in
set_option maxHeartbeats 4000000 in
/-- Every run ends, with the kept windows' arrays as the write-backs leave them, the other buffers as the launch found them, and every counter at zero. -/
theorem run_post (g : Dev nD → PrngReg) :
    θ_run (defs (F := F)) (onTc (τ := τ) (main (F := F))) ⟨m, fun _ => 0, g⟩ (fun r => Post m r ∧ r.2.sem = fun _ => 0) :=
  Pipeline.θ_run_frame_track_forget cfgs (dats m) (0 : Fin 1) launch0 defs₀ Variants.none forgotten m g main
    (hbody := fun c => (body_obligation m c).loose)
    (hshare := fun c w => by unfold Dat.share; split <;> rfl)
    (howed := fun _ _ => rfl) (V := V m) (hmain := hmain m) (hA := fun _ _ => rfl)
    (hin := fun c => enter m c) (hout := fun c => leave m c _)
    (Q' := fun r => Post m r ∧ r.2.sem = fun _ => 0)
    (hQ' := fun _ h => h)

/-- What the mixed and normalised rows' array holds at the end. -/
def result (c : Dev nD) : Buf (Elt F) ((c : Thread nD τ).loc main_v11_0) := (dats m 0 c).arrAt (13 : Fin 17) cfg0.N

variable {m}

theorem rest_kept {b : Ref sig .tc} (hb : b.isScoped = false) (ha : ∀ w : Fin 17, (spec0 w).arr.view.ref ≠ b) (hw : b ∉ written)
    {r : PUnit × MemSt nD τ sig (Elt F)} (h : Post m r) (c : Dev nD) :
    r.2.mem ((c : Thread nD τ).loc b) = m ((c : Thread nD τ).loc b) :=
  ((h c).2 b (Pipeline.mem_restRefs_of b hb ha)).trans (V_of_not_written m c b hw)

theorem out_at {r : PUnit × MemSt nD τ sig (Elt F)} (h : Post m r) (c : Dev nD) : r.2.mem ((c : Thread nD τ).loc main_v11_0) = result m c :=
  ((dats m 0 c).toRForget_arrAt_iff (fgt := forgotten) (w := (13 : Fin 17)) rfl _ _).mp ((h c).1 (13 : Fin 17))

variable (m)

/-- Every run ends with the rows' array at `result`, the arguments as they were and every counter at zero. -/
theorem run_result (g : Dev nD → PrngReg) :
    θ_run (defs (F := F)) (onTc (τ := τ) (main (F := F))) ⟨m, fun _ => 0, g⟩
      (fun r => (∀ c : Dev nD, r.2.mem ((c : Thread nD τ).loc main_v11_0) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12))
        ∧ r.2.sem = fun _ => 0) :=
  (θ_run (defs (F := F)) _ _).mono (fun r h => ⟨fun c =>
    ⟨out_at h.1 c,
     (Pipeline.RDat.FramePost.arr_in h.1 c (0 : Fin 17) rfl).trans (V_of_not_written m c main_arg0 (by decide)),
     rest_kept rfl (by decide) (by decide) h.1 c,
     rest_kept rfl (by decide) (by decide) h.1 c,
     (Pipeline.RDat.FramePost.arr_in h.1 c (3 : Fin 17) rfl).trans (V_of_not_written m c main_arg3 (by decide)),
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c,
     rest_kept rfl (by decide) (by decide) h.1 c⟩, h.2⟩) (run_post m g)

end Cert.Conformer

end
-- ==== Proof.ConfResult.lean ====
/- What the conformer's output array holds at the end: block by block what the body computed there; and the blocks the body reads. -/
module

public import proofs.«01_k».proof.Proof.ConfLaunch
public import Idealize.ShloMosaic.Lib.Pipeline.ValueKit

@[expose] public section

set_option maxRecDepth 16384
set_option Elab.async false

noncomputable section

namespace Cert.Conformer

open Cert.Kernel3Ideal Cert.Kernel3Ideal.Gen
open Idealize.ShloMosaic
open Idealize.ShloMosaic.TcCoe Idealize.ShloMosaic.Tactic
open Idealize.SL.Sem
open Idealize.ShloMosaic.Pipeline (Dat Cfg Window)

variable {F : FTy → Type} [FloatOps F] [∀ e, Nonempty (Elt F e)]
variable (m : (ℓ : Loc nD τ sig) → Buf (Elt F) ℓ)

/-- The grid's point `b`. -/
def at64 (b : ℕ) (h : b < 64) : Fin cfg0.N := ⟨b, show b < grid0.N by rw [N_0]; exact h⟩

theorem block_lt (i : S262144x128.Idx) : (i 0).val / 4096 < 64 := by
  have h : (i 0).val < 262144 := (i 0).isLt
  omega

/-- Point `b`'s rows of 128 lanes: what the body leaves there. -/
def assembled (c : Dev nD) : S262144x128.Idx → Elt F .f32 := fun i =>
  outAt m c (at64 ((i 0).val / 4096) (block_lt i)) (ix2 (⟨(i 0).val % 4096, by omega⟩ : Fin 4096) (⟨(i 1).val, (i 1).isLt⟩ : Fin 128))

/-- The output's block at a point is the point's own. -/
theorem index_out (t : Fin cfg0.N) : (cfg0.win 13).index t = ![t.val, 0] := by
  have ht := point_lt t
  have h0 := crd0 t
  have h1 := crd1 t
  show cc0_transform_13 (crd t) = _
  unfold cc0_transform_13
  have e : (Scalar.addi (Scalar.muli (BitVec.ofNat 32 ((crd t) 0).val) 8#32) (BitVec.ofNat 32 ((crd t) 1).val)).toNat = t.val := by
    show (BitVec.ofNat 32 ((crd t) 0).val * 8#32 + BitVec.ofNat 32 ((crd t) 1).val).toNat = t.val
    rw [BitVec.toNat_add, BitVec.toNat_mul, BitVec.toNat_ofNat, BitVec.toNat_ofNat]
    rw [show ((crd t) 0).val = t.val / 8 from h0, show ((crd t) 1).val = t.val % 8 from h1]
    show (t.val / 8 % 2 ^ 32 * 8 % 2 ^ 32 + t.val % 8 % 2 ^ 32) % 2 ^ 32 = t.val
    omega
  exact congrArg (fun n => (![n, 0] : Fin 2 → ℕ)) e

/-- And is written back there. -/
theorem flush_out (t : Fin cfg0.N) : (cfg0.win 13).flush t = true := by
  have ht := point_lt t
  simp only [Pipeline.Window.flush, Bool.and_eq_true, Bool.or_eq_true, decide_eq_true_eq]
  refine ⟨trivial, ?_⟩
  by_cases h : t.val + 1 = 64
  · exact .inl (h.trans N_0.symm)
  · refine .inr ⟨show t.val + 1 < grid0.N by rw [N_0]; omega, fun e => ?_⟩
    rw [index_out, index_out] at e
    have e0 : t.val + 1 = t.val := congrFun e (0 : Fin 2)
    omega

/-- Where the output's block lies in the array. -/
def place (t : Fin cfg0.N) (y : S4096x128.Idx) : S262144x128.Idx := ((cfg0.win 13).blk t).view.emb y

theorem place0 (t : Fin cfg0.N) (y : S4096x128.Idx) : (place t y 0).val = 4096 * t.val + (y 0).val := by
  unfold place
  blk_simp
  rw [show (cfg0.win 13).index t (0 : Fin 2) = t.val from congrFun (index_out t) (0 : Fin 2)]
  omega

theorem place1 (t : Fin cfg0.N) (y : S4096x128.Idx) : (place t y 1).val = (y 1).val := by
  unfold place
  blk_simp
  rw [show (cfg0.win 13).index t (1 : Fin 2) = 0 from congrFun (index_out t) (1 : Fin 2)]
  omega

theorem assembled_place (c : Dev nD) (t : Fin cfg0.N) (y : S4096x128.Idx) : assembled m c (place t y) = outAt m c t y := by
  have hy : (y 0).val < 4096 := (y 0).isLt
  have h0 := place0 t y
  have h1 := place1 t y
  have ht := point_lt t
  have hq : at64 ((place t y 0).val / 4096) (block_lt _) = t := Fin.ext (by show (place t y 0).val / 4096 = t.val; omega)
  unfold assembled
  rw [hq]
  refine congrArg (outAt m c t) ?_
  funext a
  obtain rfl | rfl : a = (0 : Fin 2) ∨ a = (1 : Fin 2) := by revert a; decide
  · exact Fin.ext (by show (place t y 0).val % 4096 = (y 0).val; omega)
  · exact Fin.ext h1

/-- A written-back block is a block of `assembled`. -/
theorem flushed_eq (c : Dev nD) (t : Fin cfg0.N) :
    (dats m 0 c).flushed (13 : Fin 17) t = ((cfg0.win (13 : Fin 17)).blk t).view.read (Elt F) (assembled m c) := by
  funext y
  blk_simp
  exact (assembled_place m c t y).symm

theorem mem_of_block (t : Fin cfg0.N) (i : S262144x128.Idx) (h : (i 0).val / 4096 = t.val) : i ∈ ((cfg0.win (13 : Fin 17)).blk t).view.set := by
  have hy : (i 0).val % 4096 < 4096 := Nat.mod_lt _ (by decide)
  have e : place t (ix2 (⟨(i 0).val % 4096, hy⟩ : Fin 4096) (⟨(i 1).val, (i 1).isLt⟩ : Fin 128)) = i := by
    funext a
    obtain rfl | rfl : a = (0 : Fin 2) ∨ a = (1 : Fin 2) := by revert a; decide
    · refine Fin.ext ((place0 t _).trans ?_)
      show 4096 * t.val + (i 0).val % 4096 = (i 0).val
      omega
    · exact Fin.ext (place1 t _)
  exact Finset.mem_map.mpr ⟨_, Finset.mem_univ _, e⟩

/-- The whole array at the end. -/
theorem result_assembled (c : Dev nD) (i : S262144x128.Idx) : result m c i = assembled m c i :=
  (dats m 0 c).arrAt_apply_of_mem (13 : Fin 17) (assembled m c) (fun t _ => flushed_eq m c t) _
    (at64 ((i 0).val / 4096) (block_lt i)) i (Fin.isLt _) (flush_out _) (mem_of_block _ i rfl)

/-! ## The windows' arrays as the launch finds them -/

theorem V_v0 (c : Dev nD) : (V m c main_v0 : S1024x2048.Idx → Elt F .bf16) = truncf .bf16 (m ((c : Thread nD τ).loc main_arg1)) bitsLt_bf16_f32 := by
  unfold V; after_results; try rfl
theorem V_v1 (c : Dev nD) : (V m c main_v1 : S1x2048.Idx → Elt F .f32) = shapeCast _ (m ((c : Thread nD τ).loc main_arg2)) shapeCasts_S2048_S1x2048 := by
  unfold V; after_results; try rfl
theorem V_v2 (c : Dev nD) : (V m c main_v2 : S1x1024.Idx → Elt F .f32) = shapeCast _ (m ((c : Thread nD τ).loc main_arg4)) shapeCasts_S1024_S1x1024 := by
  unfold V; after_results; try rfl
theorem V_v3 (c : Dev nD) : (V m c main_v3 : S1x1024.Idx → Elt F .f32) = shapeCast _ (m ((c : Thread nD τ).loc main_arg5)) shapeCasts_S1024_S1x1024 := by
  unfold V; after_results; try rfl
theorem V_v4 (c : Dev nD) : (V m c main_v4 : S1x1024.Idx → Elt F .f32) = shapeCast _ (m ((c : Thread nD τ).loc main_arg6)) shapeCasts_S1024_S1x1024 := by
  unfold V; after_results; try rfl
theorem V_v5 (c : Dev nD) : (V m c main_v5 : S1024x1024.Idx → Elt F .bf16) = truncf .bf16 (m ((c : Thread nD τ).loc main_arg7)) bitsLt_bf16_f32 := by
  unfold V; after_results; try rfl
theorem V_v6 (c : Dev nD) : (V m c main_v6 : S1x1024.Idx → Elt F .f32) = shapeCast _ (m ((c : Thread nD τ).loc main_arg8)) shapeCasts_S1024_S1x1024 := by
  unfold V; after_results; try rfl
theorem V_v7 (c : Dev nD) : (V m c main_v7 : S1x1024.Idx → Elt F .f32) = shapeCast _ (m ((c : Thread nD τ).loc main_arg9)) shapeCasts_S1024_S1x1024 := by
  unfold V; after_results; try rfl
theorem V_v8 (c : Dev nD) : (V m c main_v8 : S1x1024.Idx → Elt F .f32) = shapeCast _ (m ((c : Thread nD τ).loc main_arg10)) shapeCasts_S1024_S1x1024 := by
  unfold V; after_results; try rfl

/-! ## The blocks the body reads -/

theorem index_rows (t : Fin cfg0.N) : (cfg0.win 0).index t = ![t.val / 8, t.val % 8, 0] := by
  have ht := point_lt t
  show cc0_transform_0 (crd t) = _
  unfold cc0_transform_0
  rw [show ((crd t) 0).val = t.val / 8 from crd0 t, show ((crd t) 1).val = t.val % 8 from crd1 t]
  have e0 : (BitVec.ofNat 32 (t.val / 8)).toNat = t.val / 8 := by rw [BitVec.toNat_ofNat]; exact Nat.mod_eq_of_lt (by omega)
  have e1 : (BitVec.ofNat 32 (t.val % 8)).toNat = t.val % 8 := by rw [BitVec.toNat_ofNat]; exact Nat.mod_eq_of_lt (by omega)
  exact congrArg₂ (fun a b => (![a, b, 0] : Fin 3 → ℕ)) e0 e1

/-- Row `r` of point `t`'s block. -/
theorem rows_at (c : Dev nD) (t : Fin cfg0.N) (r : Fin 512) (k : Fin 1024) :
    iblk m c (0 : Fin 17) t (ix3 (0 : Fin 1) r k)
      = V m c main_arg0 (ix3 (⟨t.val / 8, by have := point_lt t; omega⟩ : Fin 8) (⟨512 * (t.val % 8) + r.val, by omega⟩ : Fin 4096) k) := by
  have e := index_rows t
  blk_ext [iblk]
  · exact congrArg (fun n => n + 0) (congrFun e (0 : Fin 3))
  · refine (congrArg (fun n => n * 512 + r.val) (congrFun e (1 : Fin 3))).trans ?_
    show t.val % 8 * 512 + r.val = 512 * (t.val % 8) + r.val
    omega
  · refine (congrArg (fun n => n * 1024 + k.val) (congrFun e (2 : Fin 3))).trans ?_
    show 0 * 1024 + k.val = k.val
    omega

theorem projections_at (c : Dev nD) (t : Fin cfg0.N) (r : Fin 1024) (k : Fin 2048) : iblk m c (1 : Fin 17) t (ix2 r k) = V m c main_v0 (ix2 r k) := by
  blk_ext [iblk]
  · show 0 * 1024 + r.val = r.val
    omega
  · show 0 * 2048 + k.val = k.val
    omega

theorem biases_at (c : Dev nD) (t : Fin cfg0.N) (k : Fin 2048) : iblk m c (2 : Fin 17) t (ix2 (0 : Fin 1) k) = V m c main_v1 (ix2 (0 : Fin 1) k) := by
  blk_ext [iblk]
  · rfl
  · show 0 * 2048 + k.val = k.val
    omega

theorem taps_at (c : Dev nD) (t : Fin cfg0.N) (r : Fin 31) (k : Fin 1024) : iblk m c (3 : Fin 17) t (ix2 r k) = V m c main_arg3 (ix2 r k) := by
  blk_ext [iblk]
  · show 0 * 31 + r.val = r.val
    omega
  · show 0 * 1024 + k.val = k.val
    omega

theorem convBias_at (c : Dev nD) (t : Fin cfg0.N) (k : Fin 1024) : iblk m c (4 : Fin 17) t (ix2 (0 : Fin 1) k) = V m c main_v2 (ix2 (0 : Fin 1) k) := by
  blk_ext [iblk]
  · rfl
  · show 0 * 1024 + k.val = k.val
    omega

theorem innerScale_at (c : Dev nD) (t : Fin cfg0.N) (k : Fin 1024) : iblk m c (5 : Fin 17) t (ix2 (0 : Fin 1) k) = V m c main_v3 (ix2 (0 : Fin 1) k) := by
  blk_ext [iblk]
  · rfl
  · show 0 * 1024 + k.val = k.val
    omega

theorem innerShift_at (c : Dev nD) (t : Fin cfg0.N) (k : Fin 1024) : iblk m c (6 : Fin 17) t (ix2 (0 : Fin 1) k) = V m c main_v4 (ix2 (0 : Fin 1) k) := by
  blk_ext [iblk]
  · rfl
  · show 0 * 1024 + k.val = k.val
    omega

theorem outProjection_at (c : Dev nD) (t : Fin cfg0.N) (r : Fin 1024) (k : Fin 1024) : iblk m c (7 : Fin 17) t (ix2 r k) = V m c main_v5 (ix2 r k) := by
  blk_ext [iblk]
  · show 0 * 1024 + r.val = r.val
    omega
  · show 0 * 1024 + k.val = k.val
    omega

theorem outBias_at (c : Dev nD) (t : Fin cfg0.N) (k : Fin 1024) : iblk m c (8 : Fin 17) t (ix2 (0 : Fin 1) k) = V m c main_v6 (ix2 (0 : Fin 1) k) := by
  blk_ext [iblk]
  · rfl
  · show 0 * 1024 + k.val = k.val
    omega

theorem scale_at (c : Dev nD) (t : Fin cfg0.N) (k : Fin 1024) : iblk m c (9 : Fin 17) t (ix2 (0 : Fin 1) k) = V m c main_v7 (ix2 (0 : Fin 1) k) := by
  blk_ext [iblk]
  · rfl
  · show 0 * 1024 + k.val = k.val
    omega

theorem shift_at (c : Dev nD) (t : Fin cfg0.N) (k : Fin 1024) : iblk m c (10 : Fin 17) t (ix2 (0 : Fin 1) k) = V m c main_v8 (ix2 (0 : Fin 1) k) := by
  blk_ext [iblk]
  · rfl
  · show 0 * 1024 + k.val = k.val
    omega

end Cert.Conformer

end
-- ==== Proof.ConfRow.lean ====
/- One row of the conformer's mixer with its norm, as an expression of the row, its thirty predecessors and the weights: what the kernel's
   body computes of a block at an index. -/
module

public import proofs.«01_k».proof.Proof.ConfRuns
public import proofs.«01_k».proof.Proof.ConvRow
public import Idealize.ShloMosaic.Lib.Pointwise
public import Mathlib.Tactic.Abel

@[expose] public section

set_option maxRecDepth 16384

noncomputable section

namespace Cert.Conformer

open Cert.Kernel3Ideal Cert.Kernel3Ideal.Gen
open Cert.Conv (alpha len small mean normed)
open Idealize.ShloMosaic

/-! ## The row -/

/-- A gated lane: one projection of the row times the logistic of another. -/
def gated (x wa wg : Fin 1024 → EReal) (ba bg : EReal) : EReal := ((∑ k, x k * wa k) + ba) * Ideal.logistic ((∑ k, x k * wg k) + bg)

/-- The filter's sum over a lane of 31 rows. -/
def filtered (bias : EReal) (c v : Fin 31 → EReal) : EReal := bias + ∑ k, c k * v k

/-- A lane times its logistic. -/
def swish (z : EReal) : EReal := z * Ideal.logistic z

/-- The row with its mixer's output added: `u` the normed lanes. -/
def residual (x u : Fin 1024 → EReal) (wo : Fin 1024 → Fin 1024 → EReal) (bo : Fin 1024 → EReal) (d : Fin 1024) : EReal :=
  alpha * x d + ((∑ e, swish (u e) * wo e d) + bo d)

/-- The gated lane `d` of row `s` of batch `b`, rows counted from thirty before the batch's first; those thirty are zeros. -/
def lane (X : FVec Ideal S8x4096x1024 .f32) (W : FVec Ideal S1024x2048 .f32) (I : FVec Ideal S2048 .f32) (b : Fin 8) (s : ℕ) (d : Fin 1024) : EReal :=
  if h : 30 ≤ s ∧ s - 30 < 4096 then
    gated (fun k => X (ix3 b (⟨s - 30, h.2⟩ : Fin 4096) k)) (fun k => W (ix2 k (⟨d.val, by omega⟩ : Fin 2048)))
      (fun k => W (ix2 k (⟨1024 + d.val, by omega⟩ : Fin 2048))) (I (ix1 (⟨d.val, by omega⟩ : Fin 2048))) (I (ix1 (⟨1024 + d.val, by omega⟩ : Fin 2048)))
  else 0

/-- Lane `d` of row `s` of batch `b`: the mixer's output added to the row, and the layer norm of the sum. -/
def row (X : FVec Ideal S8x4096x1024 .f32) (W : FVec Ideal S1024x2048 .f32) (I : FVec Ideal S2048 .f32) (C : FVec Ideal S31x1024 .f32)
    (D Lg Lb : FVec Ideal S1024 .f32) (Wo : FVec Ideal S1024x1024 .f32) (Bo G B : FVec Ideal S1024 .f32) (b : Fin 8) (s : Fin 4096) (d : Fin 1024) : EReal :=
  normed (residual (fun k => X (ix3 b s k))
    (fun e => normed (fun e => filtered (D (ix1 e)) (fun k => C (ix2 k e)) (fun k => lane X W I b (s.val + k.val) e)) (Lg (ix1 e)) (Lb (ix1 e)) e)
    (fun e f => Wo (ix2 e f)) (fun f => Bo (ix1 f))) (G (ix1 d)) (B (ix1 d)) d

/-! ## The body's terms in pieces -/

/-- The filter's sum, its last three terms added. -/
def lastTerms (A : FVec Ideal S512x1024 .f32) (C : Fin 31 → FVec Ideal S1x1024 .f32) (R : Fin 30 → FVec Ideal S512x1024 .f32) : FVec Ideal S512x1024 .f32 :=
  addf (addf (addf A (mulf (broadcastTo S512x1024 (C 27) broadcasts_S1x1024_S512x1024) (R 27)))
    (mulf (broadcastTo S512x1024 (C 28) broadcasts_S1x1024_S512x1024) (R 28))) (mulf (broadcastTo S512x1024 (C 29) broadcasts_S1x1024_S512x1024) (R 29))

/-- A block's rows' means, -/
def means (H : FVec Ideal S512x1024 .f32) : FVec Ideal S512x1 .f32 :=
  divf (shapeCast S512x1 (multiReduction .add [1] S512 H 0x00000000#32 reduces_S512x1024_S512 (.inl rfl) rfl) shapeCasts_S512_S512x1)
    (broadcast S512x1 (Scalar.ofBits .f32 0x44800000#32))

/-- the rows less them, -/
def centred (H : FVec Ideal S512x1024 .f32) : FVec Ideal S512x1024 .f32 := subf H (broadcastTo S512x1024 (means H) broadcasts_S512x1_S512x1024)

/-- and their layer norm. -/
def norm (H : FVec Ideal S512x1024 .f32) (G B : FVec Ideal S1x1024 .f32) : FVec Ideal S512x1024 .f32 :=
  addf (mulf (mulf (centred H) (broadcastTo S512x1024 (rsqrt (addf (means (mulf (centred H) (centred H))) (broadcast S512x1 (Scalar.ofBits .f32 0x3727C5AC#32))))
      broadcasts_S512x1_S512x1024)) (broadcastTo S512x1024 G broadcasts_S1x1024_S512x1024))
    (broadcastTo S512x1024 B broadcasts_S1x1024_S512x1024)

/-- The rows with the mixer's output added, of the normed lanes. -/
def summed (X N : FVec Ideal S512x1024 .f32) (Wo : FVec Ideal S1024x1024 .bf16) (Bo : FVec Ideal S1x1024 .f32) : FVec Ideal S512x1024 .f32 :=
  addf (mulf (broadcast S512x1024 (Scalar.ofBits .f32 0x3FD744FD#32)) X)
    (addf (matmul dot_S512x1024_S1024x1024_S512x1024_1_0_0_1_n_n none (truncf .bf16 (mulf N (logistic N)) bitsLt_bf16_f32)
        (shapeCast S1024x1024 Wo shapeCasts_S1024x1024_S1024x1024) (constant S512x1024 .f32 0x00000000#32))
      (broadcastTo S512x1024 (shapeCast S1x1024 Bo shapeCasts_S1x1024_S1x1024) broadcasts_S1x1024_S512x1024))

theorem rowsOut_eq (X : FVec Ideal S1x512x1024 .f32) (Wa : FVec Ideal S1024x1024 .bf16) (Ba : FVec Ideal S1x1024 .f32) (Wg : FVec Ideal S1024x1024 .bf16)
    (Bg D : FVec Ideal S1x1024 .f32) (C : Fin 31 → FVec Ideal S1x1024 .f32) (R : Fin 30 → FVec Ideal S512x1024 .f32) (Lg Lb : FVec Ideal S1x1024 .f32)
    (Wo : FVec Ideal S1024x1024 .bf16) (Bo G B : FVec Ideal S1x1024 .f32) :
    rowsOut (F := Ideal) X Wa Ba Wg Bg D C R Lg Lb Wo Bo G B
      = norm (summed (k0_pay4 X) (norm (lastTerms (mostTerms (F := Ideal) X Wa Ba Wg Bg D C R) C R) (k0_pay13 Lg) (k0_pay14 Lb)) Wo Bo) (k0_pay18 G) (k0_pay19 B) := by
  unfold rowsOut centredOf spreadOf
  generalize mostTerms (F := Ideal) X Wa Ba Wg Bg D C R = A
  rfl

/-! ## The pieces at an index -/

theorem gated_at (X : FVec Ideal S1x512x1024 .f32) (Wa : FVec Ideal S1024x1024 .bf16) (Ba : FVec Ideal S1x1024 .f32) (Wg : FVec Ideal S1024x1024 .bf16)
    (Bg : FVec Ideal S1x1024 .f32) (r : Fin 512) (d : Fin 1024) :
    k0_pay5 (F := Ideal) X Wa Ba Wg Bg (ix2 r d)
      = gated (fun k => X (ix3 0 r k)) (fun k => Wa (ix2 k d)) (fun k => Wg (ix2 k d)) (Ba (ix2 0 d)) (Bg (ix2 0 d)) := by
  pointwise [k0_pay5, k0_pay4]
  rfl

theorem means_at (H : FVec Ideal S512x1024 .f32) (r : Fin 512) (q : Fin 1) : means H (ix2 r q) = mean fun d => H (ix2 r d) := by
  pointwise [means, mean]

theorem norm_at (H : FVec Ideal S512x1024 .f32) (G B : FVec Ideal S1x1024 .f32) (r : Fin 512) (d : Fin 1024) :
    norm H G B (ix2 r d) = normed (fun d => H (ix2 r d)) (G (ix2 0 d)) (B (ix2 0 d)) d := by
  pointwise [norm, centred, normed]
  simp only [means_at]
  pointwise []
  simp only [means_at]

theorem summed_at (X N : FVec Ideal S512x1024 .f32) (Wo : FVec Ideal S1024x1024 .bf16) (Bo : FVec Ideal S1x1024 .f32) (r : Fin 512) (d : Fin 1024) :
    summed X N Wo Bo (ix2 r d) = residual (fun d => X (ix2 r d)) (fun e => N (ix2 r e)) (fun e d => Wo (ix2 e d)) (fun d => Bo (ix2 0 d)) d := by
  pointwise [summed]
  rfl

/-- The order in which the body adds the filter's terms does not matter. -/
theorem terms_sum (b : EReal) (t : Fin 31 → EReal) :
    b + t 30 + t 0 + t 1 + t 2 + t 3 + t 4 + t 5 + t 6 + t 7 + t 8 + t 9 + t 10 + t 11 + t 12 + t 13 + t 14 + t 15 + t 16 + t 17 + t 18 + t 19 + t 20
      + t 21 + t 22 + t 23 + t 24 + t 25 + t 26 + t 27 + t 28 + t 29 = b + ∑ k, t k := by
  have h : ∑ k, t k = t 0 + t 1 + t 2 + t 3 + t 4 + t 5 + t 6 + t 7 + t 8 + t 9 + t 10 + t 11 + t 12 + t 13 + t 14 + t 15 + t 16 + t 17 + t 18 + t 19 + t 20
      + t 21 + t 22 + t 23 + t 24 + t 25 + t 26 + t 27 + t 28 + t 29 + t 30 := by
    simp only [Fin.sum_univ_castSucc, Finset.univ_eq_empty, Finset.sum_empty, zero_add]
    rfl
  rw [h]
  abel

/-- The filter's sum, where the rows it applies to hold the lanes `v`. -/
theorem filtered_at (X : FVec Ideal S1x512x1024 .f32) (Wa : FVec Ideal S1024x1024 .bf16) (Ba : FVec Ideal S1x1024 .f32) (Wg : FVec Ideal S1024x1024 .bf16)
    (Bg D : FVec Ideal S1x1024 .f32) (C : Fin 31 → FVec Ideal S1x1024 .f32) (R : Fin 30 → FVec Ideal S512x1024 .f32) (r : Fin 512) (e : Fin 1024)
    (v : Fin 31 → EReal) (hv : ∀ k : Fin 30, R k (ix2 r e) = v k.castSucc) (hu : k0_pay5 (F := Ideal) X Wa Ba Wg Bg (ix2 r e) = v 30) :
    lastTerms (mostTerms (F := Ideal) X Wa Ba Wg Bg D C R) C R (ix2 r e) = filtered (D (ix2 0 e)) (fun k => C k (ix2 0 e)) v := by
  pointwise [lastTerms, mostTerms, k0_pay11, k0_pay10, k0_pay9, k0_pay8, k0_pay7]
  rw [hu]
  simp only [hv]
  exact terms_sum (D (ix2 0 e)) fun k => C k (ix2 0 e) * v k

theorem residual_at (X : FVec Ideal S1x512x1024 .f32) (Wa : FVec Ideal S1024x1024 .bf16) (Ba : FVec Ideal S1x1024 .f32) (Wg : FVec Ideal S1024x1024 .bf16)
    (Bg D : FVec Ideal S1x1024 .f32) (C : Fin 31 → FVec Ideal S1x1024 .f32) (R : Fin 30 → FVec Ideal S512x1024 .f32) (Lg Lb : FVec Ideal S1x1024 .f32)
    (Wo : FVec Ideal S1024x1024 .bf16) (Bo G B : FVec Ideal S1x1024 .f32) (r : Fin 512) (d : Fin 1024)
    (v : Fin 1024 → Fin 31 → EReal) (hv : ∀ (e : Fin 1024) (k : Fin 30), R k (ix2 r e) = v e k.castSucc)
    (hu : ∀ e : Fin 1024, k0_pay5 (F := Ideal) X Wa Ba Wg Bg (ix2 r e) = v e 30) :
    rowsOut (F := Ideal) X Wa Ba Wg Bg D C R Lg Lb Wo Bo G B (ix2 r d)
      = normed (residual (fun k => X (ix3 0 r k))
          (fun e => normed (fun e => filtered (D (ix2 0 e)) (fun k => C k (ix2 0 e)) (v e)) (Lg (ix2 0 e)) (Lb (ix2 0 e)) e)
          (fun e f => Wo (ix2 e f)) (fun f => Bo (ix2 0 f))) (G (ix2 0 d)) (B (ix2 0 d)) d := by
  rw [rowsOut_eq, norm_at]
  simp only [summed_at, norm_at, fun e => filtered_at X Wa Ba Wg Bg D C R r e (v e) (hv e) (hu e)]
  pointwise [k0_pay4, k0_pay13, k0_pay14, k0_pay18, k0_pay19]

end Cert.Conformer

end
-- ==== Proof.ConfReference.lean ====
/- What the reference of the conformer's mixer computes, at an index: the same expression of the row, its thirty predecessors and the weights. -/
module

public import proofs.«01_k».proof.Proof.Gen.Reference3Ideal.Run
public import proofs.«01_k».proof.Proof.ConvReference
public import proofs.«01_k».proof.Proof.ConfRow

@[expose] public section

set_option maxRecDepth 16384

noncomputable section

namespace Cert.Conformer.Reference

open Cert.Reference3Ideal Cert.Reference3Ideal.Gen Cert.Reference3Ideal.Value
open Cert.Conv (alpha normed)
open Idealize.ShloMosaic
open Idealize.ShloMosaic.StableHlo (launchContents)
open Idealize.ShloMosaic.TcCoe Idealize.SL.Sem

/-! ## The reference's term in pieces -/

/-- A row over every row of every batch. -/
def everywhere (D : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 D)

/-- Ones. -/
def ones : FVec Ideal S8x4096x1024 .f32 := broadcastInDim S8x4096x1024 ![] bcast_S_S8x4096x1024 (constant S_ .f32 0x3F800000#32)

/-- The logistic function. -/
def sigmoid (Z : FVec Ideal S8x4096x1024 .f32) : FVec Ideal S8x4096x1024 .f32 := Host.divf ones (addf ones (Host.exp (Host.negf Z)))

/-- The two projections side by side. -/
def proj (X : FVec Ideal S8x4096x1024 .f32) (W : FVec Ideal S1024x2048 .f32) (I : FVec Ideal S2048 .f32) : FVec Ideal S8x4096x2048 .f32 :=
  addf (Host.dotGeneral dot_S8x4096x1024_S1024x2048_S8x4096x2048_2_0_01_1_n_n none X W)
    (broadcastInDim S8x4096x2048 ![0, 1, 2] bcast_S1x1x2048_S8x4096x2048_0_1_2 (broadcastInDim S1x1x2048 ![2] bcast_S2048_S1x1x2048_2 I))

/-- The gated rows with thirty rows of zeros before each batch's. -/
def padded (P : FVec Ideal S8x4096x2048 .f32) : FVec Ideal S8x4126x1024 .f32 :=
  pad S8x4126x1024 ![0, 30, 0] ![0, 0, 0] ![0, 0, 0]
    (mulf (extractStridedSlice S8x4096x1024 ![0, 0, 0] P slices_S8x4096x2048_S8x4096x1024_0_0_0)
      (sigmoid (extractStridedSlice S8x4096x1024 ![0, 0, 1024] P slices_S8x4096x2048_S8x4096x1024_0_0_1024)))
    (sitofp .f32 (constantI S_ 32 0#32)) pads_S8x4096x1024_S8x4126x1024_000_3000_000 h_S_

theorem tap_slices (k : Fin 31) : S31x1024.Slices ![k.val, 0] S1x1024 := by
  refine ⟨rfl, ?_⟩
  revert k
  decide

theorem back_slices (k : Fin 31) : S8x4126x1024.Slices ![0, k.val, 0] S8x4096x1024 := by
  refine ⟨rfl, ?_⟩
  revert k
  decide

/-- The filter's row `k` times the rows `30 - k` before. -/
def term (C : FVec Ideal S31x1024 .f32) (U : FVec Ideal S8x4126x1024 .f32) (k : Fin 31) : FVec Ideal S8x4096x1024 .f32 :=
  mulf (everywhere (shapeCast _ (extractStridedSlice S1x1024 ![k.val, 0] C (tap_slices k)) shapeCasts_S1x1024_S1024))
    (extractStridedSlice S8x4096x1024 ![0, k.val, 0] U (back_slices k))

/-- The sum of the filter's first `n` terms. -/
def sums (C : FVec Ideal S31x1024 .f32) (U : FVec Ideal S8x4126x1024 .f32) : (n : ℕ) → n ≤ 31 → FVec Ideal S8x4096x1024 .f32
  | 0, _ => broadcastInDim S8x4096x1024 ![] bcast_S_S8x4096x1024 (constant S_ .f32 0x00000000#32)
  | n + 1, h => addf (sums C U n (Nat.le_of_succ_le h)) (term C U ⟨n, h⟩)

/-- The filtered rows. -/
def conv (C : FVec Ideal S31x1024 .f32) (U : FVec Ideal S8x4126x1024 .f32) (D : FVec Ideal S1024 .f32) : FVec Ideal S8x4096x1024 .f32 :=
  addf (sums C U 31 (Nat.le_refl _)) (everywhere D)

/-- The rows with the mixer's output added. -/
def summed (X N : FVec Ideal S8x4096x1024 .f32) (Wo : FVec Ideal S1024x1024 .f32) (Bo : FVec Ideal S1024 .f32) : FVec Ideal S8x4096x1024 .f32 :=
  addf (mulf (broadcastInDim S8x4096x1024 ![] bcast_S_S8x4096x1024 (constant S_ .f32 0x3FD744FD#32)) X)
    (addf (Host.dotGeneral dot_S8x4096x1024_S1024x1024_S8x4096x1024_2_0_01_1_n_n none (mulf N (sigmoid N)) Wo) (everywhere Bo))

/-- The rows before the last norm. -/
def unnormed (X : FVec Ideal S8x4096x1024 .f32) (W : FVec Ideal S1024x2048 .f32) (I : FVec Ideal S2048 .f32) (C : FVec Ideal S31x1024 .f32)
    (D Lg Lb : FVec Ideal S1024 .f32) (Wo : FVec Ideal S1024x1024 .f32) (Bo : FVec Ideal S1024 .f32) : FVec Ideal S8x4096x1024 .f32 :=
  summed X (Conv.Reference.norm (conv C (padded (proj X W I)) D) Lg Lb) Wo Bo

/-- The whole. -/
def whole (X : FVec Ideal S8x4096x1024 .f32) (W : FVec Ideal S1024x2048 .f32) (I : FVec Ideal S2048 .f32) (C : FVec Ideal S31x1024 .f32)
    (D Lg Lb : FVec Ideal S1024 .f32) (Wo : FVec Ideal S1024x1024 .f32) (Bo G B : FVec Ideal S1024 .f32) : FVec Ideal S262144x128 .f32 :=
  shapeCast _ (Conv.Reference.norm (unnormed X W I C D Lg Lb Wo Bo) G B) shapeCasts_S8x4096x1024_S262144x128

variable (V0 : Valuation τ sig (Elt Ideal))

theorem padded_eq : res_main_v13 (F := Ideal) V0
    = padded (proj (V0 (Proc.devRef .tc main_arg0)) (V0 (Proc.devRef .tc main_arg1)) (V0 (Proc.devRef .tc main_arg2))) := by
  unfold res_main_v13 res_main_v3
  rfl

theorem conv_eq : res_main_v234 (F := Ideal) V0 = conv (V0 (Proc.devRef .tc main_arg3)) (res_main_v13 (F := Ideal) V0) (V0 (Proc.devRef .tc main_arg4)) := by
  unfold res_main_v234 res_main_v168 res_main_v91
  generalize res_main_v13 (F := Ideal) V0 = U
  rfl

theorem normed_eq : res_main_v256 (F := Ideal) V0 = Conv.Reference.norm (res_main_v234 (F := Ideal) V0) (V0 (Proc.devRef .tc main_arg5)) (V0 (Proc.devRef .tc main_arg6)) := by
  unfold res_main_v256 res_main_v240
  generalize res_main_v234 (F := Ideal) V0 = H
  rfl

theorem unnormed_eq : res_main_v264 (F := Ideal) V0
    = unnormed (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) := by
  unfold unnormed
  rw [← padded_eq, ← conv_eq, ← normed_eq]
  unfold res_main_v264
  generalize res_main_v256 (F := Ideal) V0 = N
  rfl

/-- What the reference returns. -/
theorem last_eq : val6 (F := Ideal) V0 (Proc.devRef .tc main_v287)
    = whole (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) := by
  refine (val6_main_v287 V0).trans ?_
  unfold whole
  rw [← unnormed_eq]
  unfold res_main_v270
  generalize res_main_v264 (F := Ideal) V0 = H
  rfl

/-- The same at a device's launch contents. -/
theorem launch_eq (m : (ℓ : Loc nD τ sig) → Buf (Elt Ideal) ℓ) (c : Dev nD) : val6 (F := Ideal) (launchContents m c) (Proc.devRef .tc main_v287)
    = whole (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) :=
  last_eq (launchContents m c)

/-! ## The pieces at an index -/

theorem sigmoid_at (Z : FVec Ideal S8x4096x1024 .f32) (b : Fin 8) (s : Fin 4096) (d : Fin 1024) : sigmoid Z (ix3 b s d) = Ideal.logistic (Z (ix3 b s d)) := by
  pointwise [sigmoid, ones]
  rfl

theorem proj_at (X : FVec Ideal S8x4096x1024 .f32) (W : FVec Ideal S1024x2048 .f32) (I : FVec Ideal S2048 .f32) (b : Fin 8) (s : Fin 4096) (e : Fin 2048) :
    proj X W I (ix3 b s e) = (∑ k, X (ix3 b s k) * W (ix2 k e)) + I (ix1 e) := by
  pointwise [proj]

theorem padded_at (X : FVec Ideal S8x4096x1024 .f32) (W : FVec Ideal S1024x2048 .f32) (I : FVec Ideal S2048 .f32) (b : Fin 8) (s : Fin 4126) (d : Fin 1024) :
    padded (proj X W I) (ix3 b s d) = lane X W I b s.val d := by
  have hz : FloatOps.sitofp (F := Ideal) .f32 (0#32) = (0 : EReal) := by
    show (((0#32 : BitVec 32).toInt : ℝ) : EReal) = 0
    simp
  pointwise [padded]
  rw [hz]
  unfold lane gated
  simp only [sigmoid_at]
  pointwise []
  simp only [proj_at]

theorem everywhere_at (D : FVec Ideal S1024 .f32) (b : Fin 8) (s : Fin 4096) (d : Fin 1024) : everywhere D (ix3 b s d) = D (ix1 d) := by
  pointwise [everywhere]

theorem term_at (C : FVec Ideal S31x1024 .f32) (U : FVec Ideal S8x4126x1024 .f32) (k : Fin 31) (b : Fin 8) (s : Fin 4096) (d : Fin 1024) :
    term C U k (ix3 b s d) = C (ix2 k d) * U (ix3 b (⟨s.val + k.val, by omega⟩ : Fin 4126) d) := by
  pointwise [term]
  rw [everywhere_at]
  pointwise []
  exact congrArg (fun i => C (ix2 k d) * U (ix3 b i d)) (Fin.ext (Nat.add_comm k.val s.val))

theorem sums_at (C : FVec Ideal S31x1024 .f32) (U : FVec Ideal S8x4126x1024 .f32) (b : Fin 8) (s : Fin 4096) (d : Fin 1024) (n : ℕ) (h : n ≤ 31) :
    sums C U n h (ix3 b s d) = ∑ k : Fin n, C (ix2 (⟨k.val, by omega⟩ : Fin 31) d) * U (ix3 b (⟨s.val + k.val, by omega⟩ : Fin 4126) d) := by
  induction n with
  | zero =>
    unfold sums
    pointwise []
    simp
  | succ n ih =>
    unfold sums
    rw [Fin.sum_univ_castSucc]
    refine congrArg₂ (fun x y : EReal => x + y) (ih _) (term_at C U _ b s d)

theorem conv_at (C : FVec Ideal S31x1024 .f32) (U : FVec Ideal S8x4126x1024 .f32) (D : FVec Ideal S1024 .f32) (b : Fin 8) (s : Fin 4096) (d : Fin 1024) :
    conv C U D (ix3 b s d) = filtered (D (ix1 d)) (fun k => C (ix2 k d)) fun k => U (ix3 b (⟨s.val + k.val, by omega⟩ : Fin 4126) d) := by
  pointwise [conv]
  rw [everywhere_at, sums_at, add_comm]
  rfl

theorem summed_at (X N : FVec Ideal S8x4096x1024 .f32) (Wo : FVec Ideal S1024x1024 .f32) (Bo : FVec Ideal S1024 .f32) (b : Fin 8) (s : Fin 4096) (d : Fin 1024) :
    summed X N Wo Bo (ix3 b s d) = residual (fun d => X (ix3 b s d)) (fun e => N (ix3 b s e)) (fun e d => Wo (ix2 e d)) (fun d => Bo (ix1 d)) d := by
  pointwise [summed]
  simp only [everywhere_at, sigmoid_at]
  rfl

theorem whole_at (X : FVec Ideal S8x4096x1024 .f32) (W : FVec Ideal S1024x2048 .f32) (I : FVec Ideal S2048 .f32) (C : FVec Ideal S31x1024 .f32)
    (D Lg Lb : FVec Ideal S1024 .f32) (Wo : FVec Ideal S1024x1024 .f32) (Bo G B : FVec Ideal S1024 .f32) (i : Fin 262144) (l : Fin 128) :
    whole X W I C D Lg Lb Wo Bo G B (ix2 i l)
      = row X W I C D Lg Lb Wo Bo G B (⟨i.val / 32768, by omega⟩ : Fin 8) (⟨i.val / 8 % 4096, by omega⟩ : Fin 4096) (⟨i.val % 8 * 128 + l.val, by omega⟩ : Fin 1024) := by
  pointwise [whole]
  rw [Conv.Reference.norm_at]
  unfold row unnormed
  simp only [summed_at, Conv.Reference.norm_at, conv_at, padded_at]

end Cert.Conformer.Reference

end
-- ==== Proof.ConfEquation.lean ====
/- Kernel and reference of the conformer agree: at every index of the result both are the same expression of the arguments. -/
module

public import proofs.«01_k».proof.Proof.ConfResult
public import proofs.«01_k».proof.Proof.ConfReference

@[expose] public section

set_option maxRecDepth 16384
set_option Elab.async false

noncomputable section

namespace Cert.Conformer

open Cert.Kernel3Ideal Cert.Kernel3Ideal.Gen
open Idealize.ShloMosaic
open Idealize.ShloMosaic.TcCoe Idealize.ShloMosaic.Tactic
open Idealize.SL.Sem
open Idealize.ShloMosaic.Pipeline (Dat Cfg Window)

/-! ## The history -/

section History

variable {F : FTy → Type} [FloatOps F] [∀ e, Nonempty (Elt F e)]

/-- The history's first 32 rows are the ones found there; -/
theorem hist_top (X : S1x512x1024.Idx → Elt F .f32) (Wa : S1024x1024.Idx → Elt F .bf16) (Ba : S1x1024.Idx → Elt F .f32) (Wg : S1024x1024.Idx → Elt F .bf16) (Bg : S1x1024.Idx → Elt F .f32)
    (top : S32x1024.Idx → Elt F .f32) (q : Fin 32) (d : Fin 1024) :
    View.canon (histWrites X Wa Ba Wg Bg top) (ix2 (⟨q.val, by omega⟩ : Fin 544) d) = top (ix2 q d) := by
  have e : topRows.emb (ix2 q d) = (ix2 (⟨q.val, by omega⟩ : Fin 544) d : S544x1024.Idx) := by
    funext a
    obtain rfl | rfl : a = (0 : Fin 2) ∨ a = (1 : Fin 2) := by revert a; decide
    · exact Fin.ext (by show 0 + 1 * q.val = q.val; omega)
    · exact Fin.ext (by show 0 + 1 * d.val = d.val; omega)
  unfold histWrites
  rw [View.canon_cons_of_not_mem, ← e]
  · exact View.canon_cons_emb ..
  · intro h
    obtain ⟨x, hx⟩ := blockRows.exists_idx_of_mem h
    have h0 : q.val = 32 + 1 * (x (0 : Fin 2)).val := (congrArg (fun y : S544x1024.Idx => (y 0).val) hx).symm
    omega

/-- the others are the block's. -/
theorem hist_block (X : S1x512x1024.Idx → Elt F .f32) (Wa : S1024x1024.Idx → Elt F .bf16) (Ba : S1x1024.Idx → Elt F .f32) (Wg : S1024x1024.Idx → Elt F .bf16) (Bg : S1x1024.Idx → Elt F .f32)
    (top : S32x1024.Idx → Elt F .f32) (r : Fin 512) (d : Fin 1024) :
    View.canon (histWrites X Wa Ba Wg Bg top) (ix2 (⟨32 + r.val, by omega⟩ : Fin 544) d) = k0_pay6 X Wa Ba Wg Bg (ix2 r d) := by
  have e : blockRows.emb (ix2 r d) = (ix2 (⟨32 + r.val, by omega⟩ : Fin 544) d : S544x1024.Idx) := by
    funext a
    obtain rfl | rfl : a = (0 : Fin 2) ∨ a = (1 : Fin 2) := by revert a; decide
    · exact Fin.ext (by show 32 + 1 * r.val = 32 + r.val; omega)
    · exact Fin.ext (by show 0 + 1 * d.val = d.val; omega)
  unfold histWrites
  rw [← e]
  exact View.canon_cons_emb ..

end History

variable (m : (ℓ : Loc nD τ sig) → Buf (Elt Ideal) ℓ)

/-! ## What the body loads, in terms of the arguments -/

/-- The arguments. -/
abbrev argX (c : Dev nD) : FVec Ideal S8x4096x1024 .f32 := m ((c : Thread nD τ).loc main_arg0)
abbrev argW (c : Dev nD) : FVec Ideal S1024x2048 .f32 := m ((c : Thread nD τ).loc main_arg1)
abbrev argI (c : Dev nD) : FVec Ideal S2048 .f32 := m ((c : Thread nD τ).loc main_arg2)
abbrev argC (c : Dev nD) : FVec Ideal S31x1024 .f32 := m ((c : Thread nD τ).loc main_arg3)
abbrev argD (c : Dev nD) : FVec Ideal S1024 .f32 := m ((c : Thread nD τ).loc main_arg4)
abbrev argLg (c : Dev nD) : FVec Ideal S1024 .f32 := m ((c : Thread nD τ).loc main_arg5)
abbrev argLb (c : Dev nD) : FVec Ideal S1024 .f32 := m ((c : Thread nD τ).loc main_arg6)
abbrev argO (c : Dev nD) : FVec Ideal S1024x1024 .f32 := m ((c : Thread nD τ).loc main_arg7)
abbrev argOb (c : Dev nD) : FVec Ideal S1024 .f32 := m ((c : Thread nD τ).loc main_arg8)
abbrev argG (c : Dev nD) : FVec Ideal S1024 .f32 := m ((c : Thread nD τ).loc main_arg9)
abbrev argB (c : Dev nD) : FVec Ideal S1024 .f32 := m ((c : Thread nD τ).loc main_arg10)

/-- A point's batch, -/
abbrev batch (t : Fin cfg0.N) : Fin 8 := ⟨t.val / 8, by have := point_lt t; omega⟩
/-- and its block's row `r`. -/
abbrev rowOf (t : Fin cfg0.N) (r : Fin 512) : Fin 4096 := ⟨512 * (t.val % 8) + r.val, by omega⟩

theorem rowsAt_val (c : Dev nD) (t : Fin cfg0.N) (r : Fin 512) (k : Fin 1024) : rowsAt m c t (ix3 0 r k) = argX m c (ix3 (batch t) (rowOf t r) k) := by
  unfold rowsAt
  pointwise [part]
  rw [rows_at, V_of_not_written m c main_arg0 (by decide)]

theorem weight_val (c : Dev nD) (k : Fin 1024) (e : Fin 2048) : (V m c main_v0 : S1024x2048.Idx → EReal) (ix2 k e) = argW m c (ix2 k e) := by
  refine (congrFun (V_v0 m c) _).trans ?_
  pointwise []

theorem bias_val (c : Dev nD) (e : Fin 2048) : (V m c main_v1 : S1x2048.Idx → EReal) (ix2 0 e) = argI m c (ix1 e) := by
  refine (congrFun (V_v1 m c) _).trans ?_
  pointwise []

theorem winAAt_val (c : Dev nD) (t : Fin cfg0.N) (k e : Fin 1024) : winAAt m c t (ix2 k e) = argW m c (ix2 k (⟨e.val, by omega⟩ : Fin 2048)) := by
  unfold winAAt
  pointwise [part]
  rw [projections_at]
  exact weight_val m c _ _

theorem winGAt_val (c : Dev nD) (t : Fin cfg0.N) (k e : Fin 1024) : winGAt m c t (ix2 k e) = argW m c (ix2 k (⟨1024 + e.val, by omega⟩ : Fin 2048)) := by
  unfold winGAt
  pointwise [part]
  rw [projections_at]
  exact weight_val m c _ _

theorem biasAAt_val (c : Dev nD) (t : Fin cfg0.N) (e : Fin 1024) : biasAAt m c t (ix2 0 e) = argI m c (ix1 (⟨e.val, by omega⟩ : Fin 2048)) := by
  unfold biasAAt
  pointwise [part]
  rw [biases_at]
  exact bias_val m c _

theorem biasGAt_val (c : Dev nD) (t : Fin cfg0.N) (e : Fin 1024) : biasGAt m c t (ix2 0 e) = argI m c (ix1 (⟨1024 + e.val, by omega⟩ : Fin 2048)) := by
  unfold biasGAt
  pointwise [part]
  rw [biases_at]
  exact bias_val m c _

theorem tapsAt_val (c : Dev nD) (t : Fin cfg0.N) (k : Fin 31) (e : Fin 1024) : tapsAt m c t k (ix2 0 e) = argC m c (ix2 k e) := by
  have h : (tapRow k).toLoadRect.idx (ix2 0 e) = (ix2 k e : S31x1024.Idx) := by
    funext a
    obtain rfl | rfl : a = (0 : Fin 2) ∨ a = (1 : Fin 2) := by revert a; decide
    · exact Fin.ext (by show k.val + 1 * 0 = k.val; omega)
    · exact Fin.ext (by show 0 + 1 * e.val = e.val; omega)
  unfold tapsAt part
  rw [h, taps_at, V_of_not_written m c main_arg3 (by decide)]

theorem woutAt_val (c : Dev nD) (t : Fin cfg0.N) (e f : Fin 1024) : woutAt m c t (ix2 e f) = argO m c (ix2 e f) := by
  unfold woutAt
  pointwise [part]
  rw [outProjection_at]
  refine (congrFun (V_v5 m c) _).trans ?_
  pointwise []

theorem convBiasAt_val (c : Dev nD) (t : Fin cfg0.N) (d : Fin 1024) : convBiasAt m c t (ix2 0 d) = argD m c (ix1 d) := by
  unfold convBiasAt
  pointwise [part]
  rw [convBias_at]
  refine (congrFun (V_v2 m c) _).trans ?_
  pointwise []

theorem innerScaleAt_val (c : Dev nD) (t : Fin cfg0.N) (d : Fin 1024) : innerScaleAt m c t (ix2 0 d) = argLg m c (ix1 d) := by
  unfold innerScaleAt
  pointwise [part]
  rw [innerScale_at]
  refine (congrFun (V_v3 m c) _).trans ?_
  pointwise []

theorem innerShiftAt_val (c : Dev nD) (t : Fin cfg0.N) (d : Fin 1024) : innerShiftAt m c t (ix2 0 d) = argLb m c (ix1 d) := by
  unfold innerShiftAt
  pointwise [part]
  rw [innerShift_at]
  refine (congrFun (V_v4 m c) _).trans ?_
  pointwise []

theorem outBiasAt_val (c : Dev nD) (t : Fin cfg0.N) (d : Fin 1024) : outBiasAt m c t (ix2 0 d) = argOb m c (ix1 d) := by
  unfold outBiasAt
  pointwise [part]
  rw [outBias_at]
  refine (congrFun (V_v6 m c) _).trans ?_
  pointwise []

theorem scaleAt_val (c : Dev nD) (t : Fin cfg0.N) (d : Fin 1024) : scaleAt m c t (ix2 0 d) = argG m c (ix1 d) := by
  unfold scaleAt
  pointwise [part]
  rw [scale_at]
  refine (congrFun (V_v7 m c) _).trans ?_
  pointwise []

theorem shiftAt_val (c : Dev nD) (t : Fin cfg0.N) (d : Fin 1024) : shiftAt m c t (ix2 0 d) = argB m c (ix1 d) := by
  unfold shiftAt
  pointwise [part]
  rw [shift_at]
  refine (congrFun (V_v8 m c) _).trans ?_
  pointwise []

/-! ## The gated rows -/

theorem gatedAt_val (c : Dev nD) (t : Fin cfg0.N) (r : Fin 512) (d : Fin 1024) :
    k0_pay5 (F := Ideal) (rowsAt m c t) (winAAt m c t) (biasAAt m c t) (winGAt m c t) (biasGAt m c t) (ix2 r d)
      = lane (argX m c) (argW m c) (argI m c) (batch t) (512 * (t.val % 8) + r.val + 30) d := by
  rw [gated_at]
  simp only [rowsAt_val, winAAt_val, winGAt_val, biasAAt_val, biasGAt_val]
  unfold lane
  rw [dif_pos ⟨by omega, by omega⟩]
  rfl

/-- The last thirty rows on top of the history: the thirty before the block's first. -/
theorem topAt_val (c : Dev nD) (t : Fin cfg0.N) (q : Fin 32) (hq : 2 ≤ q.val) (d : Fin 1024) :
    topAt m c t (ix2 q d) = lane (argX m c) (argW m c) (argI m c) (batch t) (512 * (t.val % 8) + q.val - 2) d := by
  have ht := point_lt t
  unfold topAt
  by_cases h : t.val % 8 = 0
  · rw [if_pos h]
    unfold lane
    rw [dif_neg (by omega)]
    pointwise [k0_pay3]
  · rw [if_neg h]
    have e : ∀ p : Fin cfg0.N, tailAt m c p (ix2 q d)
        = k0_pay5 (F := Ideal) (rowsAt m c p) (winAAt m c p) (biasAAt m c p) (winGAt m c p) (biasGAt m c p) (ix2 (⟨480 + q.val, by omega⟩ : Fin 512) d) := by
      intro p
      unfold tailAt
      pointwise [k0_pay12]
    rw [e, gatedAt_val]
    refine congrArg₂ (fun b s => lane (argX m c) (argW m c) (argI m c) b s d) (Fin.ext ?_) ?_
    · show (t.val - 1) / 8 = t.val / 8
      omega
    · show 512 * ((t.val - 1) % 8) + (480 + q.val) + 30 = 512 * (t.val % 8) + q.val - 2
      omega

/-- The history from its third row on: the rows from thirty before the block's first. -/
theorem hist_val (c : Dev nD) (t : Fin cfg0.N) (q : Fin 544) (hq : 2 ≤ q.val) (d : Fin 1024) :
    View.canon (histWrites (rowsAt m c t) (winAAt m c t) (biasAAt m c t) (winGAt m c t) (biasGAt m c t) (topAt m c t)) (ix2 q d)
      = lane (argX m c) (argW m c) (argI m c) (batch t) (512 * (t.val % 8) + q.val - 2) d := by
  by_cases h : q.val < 32
  · exact (hist_top _ _ _ _ _ _ (⟨q.val, h⟩ : Fin 32) d).trans (topAt_val m c t ⟨q.val, h⟩ hq d)
  · have e : q = ⟨32 + (q.val - 32), by omega⟩ := Fin.ext (by show q.val = 32 + (q.val - 32); omega)
    rw [e]
    refine (hist_block _ _ _ _ _ _ (⟨q.val - 32, by omega⟩ : Fin 512) d).trans ?_
    pointwise [k0_pay6]
    rw [gatedAt_val]
    exact congrArg (fun s => lane (argX m c) (argW m c) (argI m c) (batch t) s d)
      (by show 512 * (t.val % 8) + (q.val - 32) + 30 = 512 * (t.val % 8) + (32 + (q.val - 32)) - 2; omega)

theorem backAt_val (c : Dev nD) (t : Fin cfg0.N) (k : Fin 30) (r : Fin 512) (d : Fin 1024) :
    backAt m c t k (ix2 r d) = lane (argX m c) (argW m c) (argI m c) (batch t) (512 * (t.val % 8) + r.val + k.val) d := by
  have h : (backRows k).toLoadRect.idx (ix2 r d) = (ix2 (⟨k.val + 2 + r.val, by omega⟩ : Fin 544) d : S544x1024.Idx) := by
    funext a
    obtain rfl | rfl : a = (0 : Fin 2) ∨ a = (1 : Fin 2) := by revert a; decide
    · exact Fin.ext (by show k.val + 2 + 1 * r.val = k.val + 2 + r.val; omega)
    · exact Fin.ext (by show 0 + 1 * d.val = d.val; omega)
  unfold backAt
  rw [h, hist_val m c t _ (by dsimp only; omega)]
  exact congrArg (fun s => lane (argX m c) (argW m c) (argI m c) (batch t) s d) (by dsimp only; omega)

/-! ## The block's rows, and the whole array -/

theorem wideAt_val (c : Dev nD) (t : Fin cfg0.N) (r : Fin 512) (d : Fin 1024) :
    wideAt m c t (ix2 r d) = row (argX m c) (argW m c) (argI m c) (argC m c) (argD m c) (argLg m c) (argLb m c) (argO m c) (argOb m c) (argG m c) (argB m c)
      (batch t) (rowOf t r) d := by
  unfold wideAt
  rw [residual_at _ _ _ _ _ _ _ _ _ _ _ _ _ _ r d (fun e k => lane (argX m c) (argW m c) (argI m c) (batch t) (512 * (t.val % 8) + r.val + k.val) e)
    (fun e k => backAt_val m c t k r e) (fun e => gatedAt_val m c t r e)]
  simp only [rowsAt_val, convBiasAt_val, tapsAt_val, innerScaleAt_val, innerShiftAt_val, woutAt_val, outBiasAt_val, scaleAt_val, shiftAt_val]
  rfl

theorem result_at (c : Dev nD) (i : Fin 262144) (l : Fin 128) :
    result m c (ix2 i l) = row (argX m c) (argW m c) (argI m c) (argC m c) (argD m c) (argLg m c) (argLb m c) (argO m c) (argOb m c) (argG m c) (argB m c)
      (⟨i.val / 32768, by omega⟩ : Fin 8) (⟨i.val / 8 % 4096, by omega⟩ : Fin 4096) (⟨i.val % 8 * 128 + l.val, by omega⟩ : Fin 1024) := by
  refine (result_assembled m c (ix2 i l)).trans ?_
  have e : assembled m c (ix2 i l) = wideAt m c (at64 (i.val / 4096) (by omega))
      (ix2 (⟨i.val % 4096 / 8, by omega⟩ : Fin 512) (⟨i.val % 8 * 128 + l.val, by omega⟩ : Fin 1024)) := by
    unfold assembled outAt Spread.tall
    refine congrArg (wideAt m c (at64 (i.val / 4096) (by omega))) ?_
    funext a
    obtain rfl | rfl : a = (0 : Fin 2) ∨ a = (1 : Fin 2) := by revert a; decide
    · exact Fin.ext rfl
    · refine Fin.ext ?_
      show 128 * (i.val % 4096 % 8) + l.val = i.val % 8 * 128 + l.val
      omega
  rw [e, wideAt_val]
  refine congrArg₂ (fun b s => row (argX m c) (argW m c) (argI m c) (argC m c) (argD m c) (argLg m c) (argLb m c) (argO m c) (argOb m c) (argG m c) (argB m c) b s _) (Fin.ext ?_) (Fin.ext ?_)
  · show i.val / 4096 / 8 = i.val / 32768
    omega
  · show 512 * (i.val / 4096 % 8) + i.val % 4096 / 8 = i.val / 8 % 4096
    omega

/-- The kernel's array is the reference's expression of the same arguments. -/
theorem result_eq (c : Dev nD) :
    (result m c : S262144x128.Idx → EReal) = Reference.whole (argX m c) (argW m c) (argI m c) (argC m c) (argD m c) (argLg m c) (argLb m c) (argO m c) (argOb m c) (argG m c) (argB m c) := by
  funext (i : S262144x128.Idx)
  have e : i = ix2 (⟨(i 0).val, (i 0).isLt⟩ : Fin 262144) (⟨(i 1).val, (i 1).isLt⟩ : Fin 128) := by
    funext a
    obtain rfl | rfl : a = (0 : Fin 2) ∨ a = (1 : Fin 2) := by revert a; decide
    · rfl
    · rfl
  rw [e, Reference.whole_at]
  exact result_at m c _ _

end Cert.Conformer

end
-- ==== Proof.ConfFrames.lean ====
/- The conformer's runs from any memory, for any float values, and the same of the kernel's own print, whose text is the idealization's. -/
module

public import proofs.«01_k».proof.Defs
public import proofs.«01_k».proof.Proof.ConfLaunch
public import proofs.«01_k».proof.Proof.Gen.Kernel3
public import proofs.«01_k».proof.Proof.Gen.Reference3Ideal.Run
public import Idealize.ShloMosaic.Lib.Tactic
public import Idealize.ShloMosaic.Lib.Quiescent

@[expose] public section

set_option maxRecDepth 65536
set_option Elab.async false

noncomputable section

namespace Cert.Conformer

open Idealize.ShloMosaic
open Idealize.ShloMosaic.TcCoe Idealize.ShloMosaic.Tactic
open Idealize.SL.Sem

attribute [local instance] Cert.Kernel3.Gen.facts Cert.Kernel3Ideal.Gen.facts Cert.Reference3Ideal.Gen.facts

section Kernel

open Cert.Kernel3Ideal Cert.Kernel3Ideal.Gen

variable {F : FTy → Type} [FloatOps F] [∀ e, Nonempty (Elt F e)]

variable (F) in
/-- Every run ends with the arguments as they were and every counter at zero. -/
def Frame : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem frame_any : Frame F := fun m g _ =>
  (θ_run (defs (F := F)) _ _).mono (fun _ hr => ⟨fun c => (hr.1 c).2, hr.2⟩) (run_result m g)

end Kernel

theorem frame_ideal : Cert.quiescent_Kernel3Ideal := frame_any (F := Ideal)

/-- The two prints have the same text, so the kernel's frame is this one at bit values. -/
theorem frame_same : Cert.quiescent_Kernel3 = Frame Bits := by sl_kernel_rfl

theorem frame_bits : Cert.quiescent_Kernel3 := frame_same.mpr (frame_any (F := Bits))

theorem frame_reference : Cert.quiescent_Reference3Ideal := fun m g _ =>
  (θ_run (Cert.Reference3Ideal.defs (F := Ideal)) _ _).mono (fun r hr => ⟨fun c => (hr c).2, sem_eq_zero_of_no_sems rfl r.2⟩) (Cert.Reference3Ideal.Value.run m g)

end Cert.Conformer

end
-- ==== Proof.lean ====
/- The certificate: of the experts' call, of the short convolution's and of the conformer's, kernel and reference run to the end, leave their arguments
   and every counter as they were, and their results are equal over the extended reals. -/
module

public import proofs.«01_k».proof.Defs
public import proofs.«01_k».proof.Proof.Equation
public import proofs.«01_k».proof.Proof.Frames
public import proofs.«01_k».proof.Proof.ConvEquation
public import proofs.«01_k».proof.Proof.ConvFrames
public import proofs.«01_k».proof.Proof.ConfEquation
public import proofs.«01_k».proof.Proof.ConfFrames
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_tables_in_range.Gen.facts
  Cert.Kernel2.Gen.facts Cert.Kernel2Ideal.Gen.facts Cert.Reference2Ideal.Gen.facts Cert.Kernel3.Gen.facts Cert.Kernel3Ideal.Gen.facts Cert.Reference3Ideal.Gen.facts

/-- The value claim: the common result is the kernel's array, which is the reference's expression of the same arguments. -/
theorem values : Cert.algebraic_KernelIdeal_ReferenceIdeal := fun m g m' g' h hm => by
  have hp := Cert.Experts.inRange m h
  refine ⟨fun c => Cert.Experts.result m hp c, ?_, ?_⟩
  · exact (θ_run (Cert.KernelIdeal.defs (F := Ideal)) _ _).mono (fun _ hr => hr.1) (Cert.Experts.run_result m hp g)
  · refine (θ_run (Cert.ReferenceIdeal.defs (F := Ideal)) _ _).mono (fun r hr c => ⟨?_, (hr c).2⟩) (Cert.ReferenceIdeal.Value.run m' g')
    obtain ⟨h0, h1, h2, h3, h4, h5, h6⟩ := hm c
    refine ((hr c).1.trans (Cert.Experts.Reference.res_eq m' c)).trans ?_
    rw [h0, h1, h2, h3, h4, h5, h6]
    exact (Cert.Experts.result_eq m hp c).symm

/-- The value claim of the short convolution, in the same way. -/
theorem values2 : Cert.algebraic_Kernel2Ideal_Reference2Ideal := fun m g m' g' _ hm => by
  refine ⟨fun c => Cert.Conv.result m c, ?_, ?_⟩
  · exact (θ_run (Cert.Kernel2Ideal.defs (F := Ideal)) _ _).mono (fun _ hr => hr.1) (Cert.Conv.run_result m g)
  · refine (θ_run (Cert.Reference2Ideal.defs (F := Ideal)) _ _).mono (fun r hr c => ⟨?_, (hr c).2⟩) (Cert.Reference2Ideal.Value.run m' g')
    obtain ⟨h0, h1, h2, h3, h4, h5, -, -⟩ := hm c
    refine ((hr c).1.trans (Cert.Conv.Reference.res_eq m' c)).trans ?_
    rw [h0, h1, h2, h3, h4, h5]
    exact (Cert.Conv.result_eq m c).symm

/-- And the conformer's. -/
theorem values3 : Cert.algebraic_Kernel3Ideal_Reference3Ideal := fun m g m' g' _ hm => by
  refine ⟨fun c => Cert.Conformer.result m c, ?_, ?_⟩
  · exact (θ_run (Cert.Kernel3Ideal.defs (F := Ideal)) _ _).mono (fun _ hr => hr.1) (Cert.Conformer.run_result m g)
  · refine (θ_run (Cert.Reference3Ideal.defs (F := Ideal)) _ _).mono (fun r hr c => ⟨?_, (hr c).2⟩) (Cert.Reference3Ideal.Value.run m' g')
    obtain ⟨h0, h1, h2, h3, h4, h5, h6, h7, h8, h9, h10, -, -⟩ := hm c
    refine ((hr c).1.trans ((Cert.Reference3Ideal.Value.val6_main_v287 _).symm.trans (Cert.Conformer.Reference.launch_eq m' c))).trans ?_
    rw [h0, h1, h2, h3, h4, h5, h6, h7, h8, h9, h10]
    exact (Cert.Conformer.result_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_tables_in_range.Gen.facts,
  Cert.Experts.frame_bits, Cert.Experts.frame_ideal, Cert.Experts.frame_reference, Cert.Conv.frame_bits, Cert.Conv.frame_ideal, Cert.Conv.frame_reference,
  Cert.Conformer.frame_bits, Cert.Conformer.frame_ideal, Cert.Conformer.frame_reference,
  trivial, values, trivial, values2, trivial, values3⟩

end Cert.Proof

end
